-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_attn_finite [hPre_attn_finite : Cert.Pre_attn_finite.Facts] (m : (ℓ : Loc Cert.KernelIdeal.nD Cert.KernelIdeal.τ Cert.KernelIdeal.sig) → Buf (Elt Ideal) ℓ) : Prop :=
  ∀ c : Dev Cert.KernelIdeal.nD,
    (Cert.Pre_attn_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_attn_finite [hPre_attn_finite : Cert.Pre_attn_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_attn_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_out_finite [hPre_out_finite : Cert.Pre_out_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_out_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_out_finite [hPre_out_finite : Cert.Pre_out_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_out_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_dil_finite [hPre_dil_finite : Cert.Pre_dil_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_dil_finite.fn (F := Ideal) (m ((c.tc : Thread Cert.Kernel5Ideal.nD Cert.Kernel5Ideal.τ).loc Cert.Kernel5Ideal.main_arg0))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_dil_finite [hPre_dil_finite : Cert.Pre_dil_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_dil_finite.fn (F := Ideal) (m ((c.tc : Thread Cert.Reference5Ideal.nD Cert.Reference5Ideal.τ).loc Cert.Reference5Ideal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_attn_finite [hKernelIdeal : Cert.KernelIdeal.Facts] [hPre_attn_finite : Cert.Pre_attn_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_attn_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_attn_finite [hReferenceIdeal : Cert.ReferenceIdeal.Facts] [hPre_attn_finite : Cert.Pre_attn_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_attn_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Kernel3Ideal_pre_out_finite [hKernel3Ideal : Cert.Kernel3Ideal.Facts] [hPre_out_finite : Cert.Pre_out_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_out_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Reference3Ideal_pre_out_finite [hReference3Ideal : Cert.Reference3Ideal.Facts] [hPre_out_finite : Cert.Pre_out_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_out_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ r.2.sem = fun _ => 0)

def quiescent_Kernel5Ideal_pre_dil_finite [hKernel5Ideal : Cert.Kernel5Ideal.Facts] [hPre_dil_finite : Cert.Pre_dil_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_dil_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0))
      ∧ r.2.sem = fun _ => 0)

def quiescent_Reference5Ideal_pre_dil_finite [hReference5Ideal : Cert.Reference5Ideal.Facts] [hPre_dil_finite : Cert.Pre_dil_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_dil_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0))
      ∧ r.2.sem = fun _ => 0)

def preserves_Kernel_KernelIdeal : Prop :=
  True

def algebraic_KernelIdeal_ReferenceIdeal_pre_attn_finite [hKernelIdeal : Cert.KernelIdeal.Facts] [hReferenceIdeal : Cert.ReferenceIdeal.Facts] [hPre_attn_finite : Cert.Pre_attn_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_attn_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v19) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_out_finite [hKernel3Ideal : Cert.Kernel3Ideal.Facts] [hReference3Ideal : Cert.Reference3Ideal.Facts] [hPre_out_finite : Cert.Pre_out_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_out_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v35) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  IdealRules.named_const.Statement Cert.Kernel4Ideal.κ "qscale" .f32 0x3E38AA3B#32 (((8 * (Real.log 2))⁻¹ : ℝ) : EReal)

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v11)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v11) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v158) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal_pre_dil_finite [hKernel5Ideal : Cert.Kernel5Ideal.Facts] [hReference5Ideal : Cert.Reference5Ideal.Facts] [hPre_dil_finite : Cert.Pre_dil_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_dil_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)) →
    ∃ (v0 : (c : Dev Cert.Kernel5Ideal.nD) → Buf (Elt Ideal) ((c.tc : Thread Cert.Kernel5Ideal.nD Cert.Kernel5Ideal.τ).loc Cert.Kernel5Ideal.main_v49)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v49) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v61) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_attn_finite : Cert.Pre_attn_finite.Facts) (hPre_finite : Cert.Pre_finite.Facts) (hPre_out_finite : Cert.Pre_out_finite.Facts) (hPre_dil_finite : Cert.Pre_dil_finite.Facts),
    quiescent_Kernel (hKernel := hKernel)
    ∧ quiescent_KernelIdeal (hKernelIdeal := hKernelIdeal)
    ∧ quiescent_KernelIdeal_pre_attn_finite (hKernelIdeal := hKernelIdeal) (hPre_attn_finite := hPre_attn_finite)
    ∧ quiescent_ReferenceIdeal (hReferenceIdeal := hReferenceIdeal)
    ∧ quiescent_ReferenceIdeal_pre_attn_finite (hReferenceIdeal := hReferenceIdeal) (hPre_attn_finite := hPre_attn_finite)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Kernel3Ideal_pre_out_finite (hKernel3Ideal := hKernel3Ideal) (hPre_out_finite := hPre_out_finite)
    ∧ quiescent_Reference3Ideal (hReference3Ideal := hReference3Ideal)
    ∧ quiescent_Reference3Ideal_pre_out_finite (hReference3Ideal := hReference3Ideal) (hPre_out_finite := hPre_out_finite)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_dil_finite (hKernel5Ideal := hKernel5Ideal) (hPre_dil_finite := hPre_dil_finite)
    ∧ quiescent_Reference5Ideal (hReference5Ideal := hReference5Ideal)
    ∧ quiescent_Reference5Ideal_pre_dil_finite (hReference5Ideal := hReference5Ideal) (hPre_dil_finite := hPre_dil_finite)
    ∧ preserves_Kernel_KernelIdeal
    ∧ algebraic_KernelIdeal_ReferenceIdeal_pre_attn_finite (hKernelIdeal := hKernelIdeal) (hReferenceIdeal := hReferenceIdeal) (hPre_attn_finite := hPre_attn_finite)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal_pre_out_finite (hKernel3Ideal := hKernel3Ideal) (hReference3Ideal := hReference3Ideal) (hPre_out_finite := hPre_out_finite)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_dil_finite (hKernel5Ideal := hKernel5Ideal) (hReference5Ideal := hReference5Ideal) (hPre_dil_finite := hPre_dil_finite)
-- ==== Pre_attn_finite.lean ====
abbrev S16x2048x3072 : Shape := ⟨3, ![16, 2048, 3072]⟩
abbrev S1x64 : Shape := ⟨2, ![1, 64]⟩
abbrev S1x128 : Shape := ⟨2, ![1, 128]⟩
abbrev S16x2048x1536 : Shape := ⟨3, ![16, 2048, 1536]⟩
abbrev S_ : Shape := ⟨0, ![]⟩

class Facts : Prop where
  slices_S16x2048x3072_S16x2048x1536_0_0_0 : S16x2048x3072.Slices ![0, 0, 0] S16x2048x1536
  bitsLt_bf16_f32 : FTy.bits .bf16 < FTy.bits .f32
  bcast_S_S16x2048x1536 : S_.BroadcastsInDim S16x2048x1536 (![] : Fin 0 → Fin S16x2048x1536.rank)
  reducesTo_S16x2048x1536_S_d0_1_2 : S16x2048x1536.ReducesTo [0, 1, 2] S_
  h_S_ : 0 < S_.numel
  bcast_S_S1x64 : S_.BroadcastsInDim S1x64 (![] : Fin 0 → Fin S1x64.rank)
  reducesTo_S1x64_S_d0_1 : S1x64.ReducesTo [0, 1] S_

variable [Facts]

def fn_part2 {F : FTy → Type} [FloatOps F] (main_v28 : IVec S_ 1) (main_v33 : IVec S1x64 1) : IVec S_ 1 :=
  let main_c_12 : IVec S_ 1 := constantI S_ 1 1#1
  let main_v34 : IVec S_ 1 := (fun x v => Host.reduce IntOp.andi x v reducesTo_S1x64_S_d0_1 h_S_) main_v33 main_c_12
  let main_v35 : IVec S_ 1 := andi main_v28 main_v34
  main_v35

def fn_part1 {F : FTy → Type} [FloatOps F] (main_arg2 : FVec F S1x64 .f32) (main_arg3 : FVec F S1x64 .f32) (main_arg4 : FVec F S1x64 .f32) (main_v14 : IVec S_ 1) (main_v16 : IVec S1x64 1) : IVec S_ 1 :=
  let main_cst_5 : FVec F S_ .f32 := constant S_ .f32 0x7F800000#32
  let main_v17 : FVec F S1x64 .f32 := broadcastInDim S1x64 ![] bcast_S_S1x64 main_cst_5
  let main_v18 : IVec S1x64 1 := cmpf .olt main_arg2 main_v17
  let main_v19 : IVec S1x64 1 := andi main_v16 main_v18
  let main_c_6 : IVec S_ 1 := constantI S_ 1 1#1
  let main_v20 : IVec S_ 1 := (fun x v => Host.reduce IntOp.andi x v reducesTo_S1x64_S_d0_1 h_S_) main_v19 main_c_6
  let main_v21 : IVec S_ 1 := andi main_v14 main_v20
  let main_cst_7 : FVec F S_ .f32 := constant S_ .f32 0xFF800000#32
  let main_v22 : FVec F S1x64 .f32 := broadcastInDim S1x64 ![] bcast_S_S1x64 main_cst_7
  let main_v23 : IVec S1x64 1 := cmpf .ogt main_arg3 main_v22
  let main_cst_8 : FVec F S_ .f32 := constant S_ .f32 0x7F800000#32
  let main_v24 : FVec F S1x64 .f32 := broadcastInDim S1x64 ![] bcast_S_S1x64 main_cst_8
  let main_v25 : IVec S1x64 1 := cmpf .olt main_arg3 main_v24
  let main_v26 : IVec S1x64 1 := andi main_v23 main_v25
  let main_c_9 : IVec S_ 1 := constantI S_ 1 1#1
  let main_v27 : IVec S_ 1 := (fun x v => Host.reduce IntOp.andi x v reducesTo_S1x64_S_d0_1 h_S_) main_v26 main_c_9
  let main_v28 : IVec S_ 1 := andi main_v21 main_v27
  let main_cst_10 : FVec F S_ .f32 := constant S_ .f32 0xFF800000#32
  let main_v29 : FVec F S1x64 .f32 := broadcastInDim S1x64 ![] bcast_S_S1x64 main_cst_10
  let main_v30 : IVec S1x64 1 := cmpf .ogt main_arg4 main_v29
  let main_cst_11 : FVec F S_ .f32 := constant S_ .f32 0x7F800000#32
  let main_v31 : FVec F S1x64 .f32 := broadcastInDim S1x64 ![] bcast_S_S1x64 main_cst_11
  let main_v32 : IVec S1x64 1 := cmpf .olt main_arg4 main_v31
  let main_v33 : IVec S1x64 1 := andi main_v30 main_v32
  fn_part2 (F := F) main_v28 main_v33

def fn {F : FTy → Type} [FloatOps F] (main_arg0 : FVec F S16x2048x3072 .bf16) (main_arg1 : FVec F S1x64 .f32) (main_arg2 : FVec F S1x64 .f32) (main_arg3 : FVec F S1x64 .f32) (main_arg4 : FVec F S1x64 .f32) (main_arg5 : FVec F S1x128 .f32) : IVec S_ 1 :=
  let main_v0 : FVec F S16x2048x1536 .bf16 := (extractStridedSlice S16x2048x1536 ![0, 0, 0] · slices_S16x2048x3072_S16x2048x1536_0_0_0) main_arg0
  let main_v1 : FVec F S16x2048x1536 .f32 := (extf .f32 · bitsLt_bf16_f32) main_v0
  let main_cst : FVec F S_ .f32 := constant S_ .f32 0xFF800000#32
  let main_v2 : FVec F S16x2048x1536 .f32 := broadcastInDim S16x2048x1536 ![] bcast_S_S16x2048x1536 main_cst
  let main_v3 : IVec S16x2048x1536 1 := cmpf .ogt main_v1 main_v2
  let main_cst_0 : FVec F S_ .f32 := constant S_ .f32 0x7F800000#32
  let main_v4 : FVec F S16x2048x1536 .f32 := broadcastInDim S16x2048x1536 ![] bcast_S_S16x2048x1536 main_cst_0
  let main_v5 : IVec S16x2048x1536 1 := cmpf .olt main_v1 main_v4
  let main_v6 : IVec S16x2048x1536 1 := andi main_v3 main_v5
  let main_c : IVec S_ 1 := constantI S_ 1 1#1
  let main_v7 : IVec S_ 1 := (fun x v => Host.reduce IntOp.andi x v reducesTo_S16x2048x1536_S_d0_1_2 h_S_) main_v6 main_c
  let main_cst_1 : FVec F S_ .f32 := constant S_ .f32 0xFF800000#32
  let main_v8 : FVec F S1x64 .f32 := broadcastInDim S1x64 ![] bcast_S_S1x64 main_cst_1
  let main_v9 : IVec S1x64 1 := cmpf .ogt main_arg1 main_v8
  let main_cst_2 : FVec F S_ .f32 := constant S_ .f32 0x7F800000#32
  let main_v10 : FVec F S1x64 .f32 := broadcastInDim S1x64 ![] bcast_S_S1x64 main_cst_2
  let main_v11 : IVec S1x64 1 := cmpf .olt main_arg1 main_v10
  let main_v12 : IVec S1x64 1 := andi main_v9 main_v11
  let main_c_3 : IVec S_ 1 := constantI S_ 1 1#1
  let main_v13 : IVec S_ 1 := (fun x v => Host.reduce IntOp.andi x v reducesTo_S1x64_S_d0_1 h_S_) main_v12 main_c_3
  let main_v14 : IVec S_ 1 := andi main_v7 main_v13
  let main_cst_4 : FVec F S_ .f32 := constant S_ .f32 0xFF800000#32
  let main_v15 : FVec F S1x64 .f32 := broadcastInDim S1x64 ![] bcast_S_S1x64 main_cst_4
  let main_v16 : IVec S1x64 1 := cmpf .ogt main_arg2 main_v15
  fn_part1 (F := F) main_arg2 main_arg3 main_arg4 main_v14 main_v16
-- ==== Pre_dil_finite.lean ====
abbrev S16x2048x3072 : Shape := ⟨3, ![16, 2048, 3072]⟩
abbrev S16x2048x1024 : Shape := ⟨3, ![16, 2048, 1024]⟩
abbrev S_ : Shape := ⟨0, ![]⟩

class Facts : Prop where
  slices_S16x2048x3072_S16x2048x1024_0_0_1536 : S16x2048x3072.Slices ![0, 0, 1536] S16x2048x1024
  bitsLt_bf16_f32 : FTy.bits .bf16 < FTy.bits .f32
  bcast_S_S16x2048x1024 : S_.BroadcastsInDim S16x2048x1024 (![] : Fin 0 → Fin S16x2048x1024.rank)
  reducesTo_S16x2048x1024_S_d0_1_2 : S16x2048x1024.ReducesTo [0, 1, 2] S_
  h_S_ : 0 < S_.numel

variable [Facts]

def fn {F : FTy → Type} [FloatOps F] (main_arg0 : FVec F S16x2048x3072 .bf16) : IVec S_ 1 :=
  let main_v0 : FVec F S16x2048x1024 .bf16 := (extractStridedSlice S16x2048x1024 ![0, 0, 1536] · slices_S16x2048x3072_S16x2048x1024_0_0_1536) main_arg0
  let main_v1 : FVec F S16x2048x1024 .f32 := (extf .f32 · bitsLt_bf16_f32) main_v0
  let main_cst : FVec F S_ .f32 := constant S_ .f32 0xFF800000#32
  let main_v2 : FVec F S16x2048x1024 .f32 := broadcastInDim S16x2048x1024 ![] bcast_S_S16x2048x1024 main_cst
  let main_v3 : IVec S16x2048x1024 1 := cmpf .ogt main_v1 main_v2
  let main_cst_0 : FVec F S_ .f32 := constant S_ .f32 0x7F800000#32
  let main_v4 : FVec F S16x2048x1024 .f32 := broadcastInDim S16x2048x1024 ![] bcast_S_S16x2048x1024 main_cst_0
  let main_v5 : IVec S16x2048x1024 1 := cmpf .olt main_v1 main_v4
  let main_v6 : IVec S16x2048x1024 1 := andi main_v3 main_v5
  let main_c : IVec S_ 1 := constantI S_ 1 1#1
  let main_v7 : IVec S_ 1 := (fun x v => Host.reduce IntOp.andi x v reducesTo_S16x2048x1024_S_d0_1_2 h_S_) main_v6 main_c
  main_v7
-- ==== Pre_finite.lean ====
abbrev S32768x1024 : Shape := ⟨2, ![32768, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2816 : S_.BroadcastsInDim S1024x2816 (![] : Fin 0 → Fin S1024x2816.rank)
  reducesTo_S1024x2816_S_d0_1 : S1024x2816.ReducesTo [0, 1] S_

variable [Facts]

def fn_part1 {F : FTy → Type} [FloatOps F] (main_arg2 : FVec F S1024x2816 .f32) (main_v12 : IVec S_ 1) (main_v14 : IVec S1024x2816 1) (main_v15 : FVec F S1024x2816 .f32) : IVec S_ 1 :=
  let main_v16 : IVec S1024x2816 1 := cmpf .olt main_arg2 main_v15
  let main_v17 : IVec S1024x2816 1 := andi main_v14 main_v16
  let main_c_6 : IVec S_ 1 := constantI S_ 1 1#1
  let main_v18 : IVec S_ 1 := (fun x v => Host.reduce IntOp.andi x v reducesTo_S1024x2816_S_d0_1 h_S_) main_v17 main_c_6
  let main_v19 : IVec S_ 1 := andi main_v12 main_v18
  main_v19

def fn {F : FTy → Type} [FloatOps F] (main_arg0 : FVec F S32768x1024 .f32) (main_arg1 : FVec F S1x1024 .f32) (main_arg2 : FVec F S1024x2816 .f32) (main_arg3 : FVec F S1024x2816 .f32) (main_arg4 : FVec F S2816x1024 .f32) : IVec S_ 1 :=
  let main_cst : FVec F S_ .f32 := constant S_ .f32 0xFF800000#32
  let main_v0 : FVec F S32768x1024 .f32 := broadcastInDim S32768x1024 ![] bcast_S_S32768x1024 main_cst
  let main_v1 : IVec S32768x1024 1 := cmpf .ogt main_arg0 main_v0
  let main_cst_0 : FVec F S_ .f32 := constant S_ .f32 0x7F800000#32
  let main_v2 : FVec F S32768x1024 .f32 := broadcastInDim S32768x1024 ![] bcast_S_S32768x1024 main_cst_0
  let main_v3 : IVec S32768x1024 1 := cmpf .olt main_arg0 main_v2
  let main_v4 : IVec S32768x1024 1 := andi main_v1 main_v3
  let main_c : IVec S_ 1 := constantI S_ 1 1#1
  let main_v5 : IVec S_ 1 := (fun x v => Host.reduce IntOp.andi x v reducesTo_S32768x1024_S_d0_1 h_S_) main_v4 main_c
  let main_cst_1 : FVec F S_ .f32 := constant S_ .f32 0xFF800000#32
  let main_v6 : FVec F S1x1024 .f32 := broadcastInDim S1x1024 ![] bcast_S_S1x1024 main_cst_1
  let main_v7 : IVec S1x1024 1 := cmpf .ogt main_arg1 main_v6
  let main_cst_2 : FVec F S_ .f32 := constant S_ .f32 0x7F800000#32
  let main_v8 : FVec F S1x1024 .f32 := broadcastInDim S1x1024 ![] bcast_S_S1x1024 main_cst_2
  let main_v9 : IVec S1x1024 1 := cmpf .olt main_arg1 main_v8
  let main_v10 : IVec S1x1024 1 := andi main_v7 main_v9
  let main_c_3 : IVec S_ 1 := constantI S_ 1 1#1
  let main_v11 : IVec S_ 1 := (fun x v => Host.reduce IntOp.andi x v reducesTo_S1x1024_S_d0_1 h_S_) main_v10 main_c_3
  let main_v12 : IVec S_ 1 := andi main_v5 main_v11
  let main_cst_4 : FVec F S_ .f32 := constant S_ .f32 0xFF800000#32
  let main_v13 : FVec F S1024x2816 .f32 := broadcastInDim S1024x2816 ![] bcast_S_S1024x2816 main_cst_4
  let main_v14 : IVec S1024x2816 1 := cmpf .ogt main_arg2 main_v13
  let main_cst_5 : FVec F S_ .f32 := constant S_ .f32 0x7F800000#32
  let main_v15 : FVec F S1024x2816 .f32 := broadcastInDim S1024x2816 ![] bcast_S_S1024x2816 main_cst_5
  fn_part1 (F := F) main_arg2 main_v12 main_v14 main_v15
-- ==== Pre_out_finite.lean ====
abbrev S32768x1024 : Shape := ⟨2, ![32768, 1024]⟩
abbrev S32768x512 : Shape := ⟨2, ![32768, 512]⟩
abbrev S1024x1024 : Shape := ⟨2, ![1024, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bitsLt_bf16_f32 : FTy.bits .bf16 < FTy.bits .f32
  bcast_S_S32768x512 : S_.BroadcastsInDim S32768x512 (![] : Fin 0 → Fin S32768x512.rank)
  reducesTo_S32768x512_S_d0_1 : S32768x512.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x2816 : S_.BroadcastsInDim S1024x2816 (![] : Fin 0 → Fin S1024x2816.rank)
  reducesTo_S1024x2816_S_d0_1 : S1024x2816.ReducesTo [0, 1] S_

variable [Facts]

def fn_part2 {F : FTy → Type} [FloatOps F] (main_arg5 : FVec F S1024x2816 .f32) (main_v28 : IVec S_ 1) (main_v33 : IVec S1x1024 1) : IVec S_ 1 :=
  let main_c_12 : IVec S_ 1 := constantI S_ 1 1#1
  let main_v34 : IVec S_ 1 := (fun x v => Host.reduce IntOp.andi x v reducesTo_S1x1024_S_d0_1 h_S_) main_v33 main_c_12
  let main_v35 : IVec S_ 1 := andi main_v28 main_v34
  let main_cst_13 : FVec F S_ .f32 := constant S_ .f32 0xFF800000#32
  let main_v36 : FVec F S1024x2816 .f32 := broadcastInDim S1024x2816 ![] bcast_S_S1024x2816 main_cst_13
  let main_v37 : IVec S1024x2816 1 := cmpf .ogt main_arg5 main_v36
  let main_cst_14 : FVec F S_ .f32 := constant S_ .f32 0x7F800000#32
  let main_v38 : FVec F S1024x2816 .f32 := broadcastInDim S1024x2816 ![] bcast_S_S1024x2816 main_cst_14
  let main_v39 : IVec S1024x2816 1 := cmpf .olt main_arg5 main_v38
  let main_v40 : IVec S1024x2816 1 := andi main_v37 main_v39
  let main_c_15 : IVec S_ 1 := constantI S_ 1 1#1
  let main_v41 : IVec S_ 1 := (fun x v => Host.reduce IntOp.andi x v reducesTo_S1024x2816_S_d0_1 h_S_) main_v40 main_c_15
  let main_v42 : IVec S_ 1 := andi main_v35 main_v41
  main_v42

def fn_part1 {F : FTy → Type} [FloatOps F] (main_arg3 : FVec F S1024x1024 .f32) (main_arg4 : FVec F S1x1024 .f32) (main_arg5 : FVec F S1024x2816 .f32) (main_v13 : IVec S_ 1) (main_v14 : FVec F S32768x512 .f32) (main_v16 : IVec S32768x512 1) : IVec S_ 1 :=
  let main_cst_5 : FVec F S_ .f32 := constant S_ .f32 0x7F800000#32
  let main_v17 : FVec F S32768x512 .f32 := broadcastInDim S32768x512 ![] bcast_S_S32768x512 main_cst_5
  let main_v18 : IVec S32768x512 1 := cmpf .olt main_v14 main_v17
  let main_v19 : IVec S32768x512 1 := andi main_v16 main_v18
  let main_c_6 : IVec S_ 1 := constantI S_ 1 1#1
  let main_v20 : IVec S_ 1 := (fun x v => Host.reduce IntOp.andi x v reducesTo_S32768x512_S_d0_1 h_S_) main_v19 main_c_6
  let main_v21 : IVec S_ 1 := andi main_v13 main_v20
  let main_cst_7 : FVec F S_ .f32 := constant S_ .f32 0xFF800000#32
  let main_v22 : FVec F S1024x1024 .f32 := broadcastInDim S1024x1024 ![] bcast_S_S1024x1024 main_cst_7
  let main_v23 : IVec S1024x1024 1 := cmpf .ogt main_arg3 main_v22
  let main_cst_8 : FVec F S_ .f32 := constant S_ .f32 0x7F800000#32
  let main_v24 : FVec F S1024x1024 .f32 := broadcastInDim S1024x1024 ![] bcast_S_S1024x1024 main_cst_8
  let main_v25 : IVec S1024x1024 1 := cmpf .olt main_arg3 main_v24
  let main_v26 : IVec S1024x1024 1 := andi main_v23 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v21 main_v27
  let main_cst_10 : FVec F S_ .f32 := constant S_ .f32 0xFF800000#32
  let main_v29 : FVec F S1x1024 .f32 := broadcastInDim S1x1024 ![] bcast_S_S1x1024 main_cst_10
  let main_v30 : IVec S1x1024 1 := cmpf .ogt main_arg4 main_v29
  let main_cst_11 : FVec F S_ .f32 := constant S_ .f32 0x7F800000#32
  let main_v31 : FVec F S1x1024 .f32 := broadcastInDim S1x1024 ![] bcast_S_S1x1024 main_cst_11
  let main_v32 : IVec S1x1024 1 := cmpf .olt main_arg4 main_v31
  let main_v33 : IVec S1x1024 1 := andi main_v30 main_v32
  fn_part2 (F := F) main_arg5 main_v28 main_v33

def fn {F : FTy → Type} [FloatOps F] (main_arg0 : FVec F S32768x1024 .f32) (main_arg1 : FVec F S32768x512 .bf16) (main_arg2 : FVec F S32768x512 .bf16) (main_arg3 : FVec F S1024x1024 .f32) (main_arg4 : FVec F S1x1024 .f32) (main_arg5 : FVec F S1024x2816 .f32) (main_arg6 : FVec F S1024x2816 .f32) (main_arg7 : FVec F S2816x1024 .f32) (main_arg8 : FVec F S1x1024 .f32) : IVec S_ 1 :=
  let main_cst : FVec F S_ .f32 := constant S_ .f32 0xFF800000#32
  let main_v0 : FVec F S32768x1024 .f32 := broadcastInDim S32768x1024 ![] bcast_S_S32768x1024 main_cst
  let main_v1 : IVec S32768x1024 1 := cmpf .ogt main_arg0 main_v0
  let main_cst_0 : FVec F S_ .f32 := constant S_ .f32 0x7F800000#32
  let main_v2 : FVec F S32768x1024 .f32 := broadcastInDim S32768x1024 ![] bcast_S_S32768x1024 main_cst_0
  let main_v3 : IVec S32768x1024 1 := cmpf .olt main_arg0 main_v2
  let main_v4 : IVec S32768x1024 1 := andi main_v1 main_v3
  let main_c : IVec S_ 1 := constantI S_ 1 1#1
  let main_v5 : IVec S_ 1 := (fun x v => Host.reduce IntOp.andi x v reducesTo_S32768x1024_S_d0_1 h_S_) main_v4 main_c
  let main_v6 : FVec F S32768x512 .f32 := (extf .f32 · bitsLt_bf16_f32) main_arg1
  let main_cst_1 : FVec F S_ .f32 := constant S_ .f32 0xFF800000#32
  let main_v7 : FVec F S32768x512 .f32 := broadcastInDim S32768x512 ![] bcast_S_S32768x512 main_cst_1
  let main_v8 : IVec S32768x512 1 := cmpf .ogt main_v6 main_v7
  let main_cst_2 : FVec F S_ .f32 := constant S_ .f32 0x7F800000#32
  let main_v9 : FVec F S32768x512 .f32 := broadcastInDim S32768x512 ![] bcast_S_S32768x512 main_cst_2
  let main_v10 : IVec S32768x512 1 := cmpf .olt main_v6 main_v9
  let main_v11 : IVec S32768x512 1 := andi main_v8 main_v10
  let main_c_3 : IVec S_ 1 := constantI S_ 1 1#1
  let main_v12 : IVec S_ 1 := (fun x v => Host.reduce IntOp.andi x v reducesTo_S32768x512_S_d0_1 h_S_) main_v11 main_c_3
  let main_v13 : IVec S_ 1 := andi main_v5 main_v12
  let main_v14 : FVec F S32768x512 .f32 := (extf .f32 · bitsLt_bf16_f32) main_arg2
  let main_cst_4 : FVec F S_ .f32 := constant S_ .f32 0xFF800000#32
  let main_v15 : FVec F S32768x512 .f32 := broadcastInDim S32768x512 ![] bcast_S_S32768x512 main_cst_4
  let main_v16 : IVec S32768x512 1 := cmpf .ogt main_v14 main_v15
  fn_part1 (F := F) main_arg3 main_arg4 main_arg5 main_v13 main_v14 main_v16
-- ==== Kernel.lean ====
abbrev S16x2048x3072 : Shape := ⟨3, ![16, 2048, 3072]⟩
abbrev S1x64 : Shape := ⟨2, ![1, 64]⟩
abbrev S1x128 : Shape := ⟨2, ![1, 128]⟩
abbrev S256x256 : Shape := ⟨2, ![256, 256]⟩
abbrev S16x2048x512 : Shape := ⟨3, ![16, 2048, 512]⟩
abbrev S1x2048x256 : Shape := ⟨3, ![1, 2048, 256]⟩
abbrev S128x2048 : Shape := ⟨2, ![128, 2048]⟩
abbrev S1 : Shape := ⟨1, ![1]⟩
abbrev S1x1 : Shape := ⟨2, ![1, 1]⟩
abbrev S1x2048x128 : Shape := ⟨3, ![1, 2048, 128]⟩
abbrev S2048x128 : Shape := ⟨2, ![2048, 128]⟩
abbrev S128x256 : Shape := ⟨2, ![128, 256]⟩
abbrev S1x128x128 : Shape := ⟨3, ![1, 128, 128]⟩
abbrev S128x128 : Shape := ⟨2, ![128, 128]⟩
abbrev S256 : Shape := ⟨1, ![256]⟩
abbrev S1x256 : Shape := ⟨2, ![1, 256]⟩
abbrev S8x256 : Shape := ⟨2, ![8, 256]⟩
abbrev S128 : Shape := ⟨1, ![128]⟩
abbrev S8x128 : Shape := ⟨2, ![8, 128]⟩
abbrev S256x128 : Shape := ⟨2, ![256, 128]⟩
abbrev S256x1 : Shape := ⟨2, ![256, 1]⟩
abbrev S1x256x128 : Shape := ⟨3, ![1, 256, 128]⟩

abbrev nBuf : Space → Nat
  | .hbm => 8
  | .vmem => 18
  | .smem => 0
  | _ => 0

abbrev bufTy : (tb : Table) → Fin (tcTables nBuf tb) → BufTy
  | .hbm, ⟨0, _⟩ => ⟨S16x2048x3072, .bf16⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S1x64, .f32⟩
  | .hbm, ⟨5, _⟩ => ⟨S1x128, .f32⟩
  | .hbm, ⟨6, _⟩ => ⟨S256x256, .f32⟩
  | .hbm, ⟨7, _⟩ => ⟨S16x2048x512, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S256x256, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S1x128, .f32⟩
  | .local _ .vmem, ⟨12, _⟩ => ⟨S1x2048x256, .bf16⟩
  | .local _ .vmem, ⟨13, _⟩ => ⟨S1x2048x256, .bf16⟩
  | .local _ .vmem, ⟨14, _⟩ => ⟨S128x2048, .bf16⟩
  | .local _ .vmem, ⟨15, _⟩ => ⟨S128x2048, .bf16⟩
  | .local _ .vmem, ⟨16, _⟩ => ⟨S128x2048, .bf16⟩
  | .local _ .vmem, ⟨17, _⟩ => ⟨S128x2048, .bf16⟩
  | _, _ => ⟨S16x2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S16x2048x3072 : Shape := ⟨3, ![16, 2048, 3072]⟩
abbrev S1x64 : Shape := ⟨2, ![1, 64]⟩
abbrev S1x128 : Shape := ⟨2, ![1, 128]⟩
abbrev S16x2048x512 : Shape := ⟨3, ![16, 2048, 512]⟩
abbrev S16x2048x4x2x64 : Shape := ⟨5, ![16, 2048, 4, 2, 64]⟩
abbrev S16x2048x4x128 : Shape := ⟨4, ![16, 2048, 4, 128]⟩
abbrev S_ : Shape := ⟨0, ![]⟩
abbrev S16x4x2x2048x2048 : Shape := ⟨5, ![16, 4, 2, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S16x4x2x2048 : Shape := ⟨4, ![16, 4, 2, 2048]⟩
abbrev S16x4x2x2048x1 : Shape := ⟨5, ![16, 4, 2, 2048, 1]⟩
abbrev S16x4x1x2048x2048 : Shape := ⟨5, ![16, 4, 1, 2048, 2048]⟩
abbrev S16x4x2048x2048 : Shape := ⟨4, ![16, 4, 2048, 2048]⟩
abbrev S16x4x128x2048 : Shape := ⟨4, ![16, 4, 128, 2048]⟩
abbrev S128 : Shape := ⟨1, ![128]⟩
abbrev S16x2048x4 : Shape := ⟨3, ![16, 2048, 4]⟩
abbrev S16x2048x4x1 : Shape := ⟨4, ![16, 2048, 4, 1]⟩
abbrev S1x1x1x128 : Shape := ⟨4, ![1, 1, 1, 128]⟩

abbrev nBuf : Space → Nat
  | .hbm => 87
  | .vmem => 0
  | .smem => 0
  | _ => 0

abbrev bufTy : (tb : Table) → Fin (tcTables nBuf tb) → BufTy
  | .hbm, ⟨0, _⟩ => ⟨S16x2048x3072, .bf16⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S1x64, .f32⟩
  | .hbm, ⟨5, _⟩ => ⟨S1x128, .f32⟩
  | .hbm, ⟨6, _⟩ => ⟨S16x2048x512, .bf16⟩
  | .hbm, ⟨7, _⟩ => ⟨S16x2048x512, .f32⟩
  | .hbm, ⟨8, _⟩ => ⟨S16x2048x4x2x64, .f32⟩
  | .hbm, ⟨9, _⟩ => ⟨S16x2048x512, .bf16⟩
  | .hbm, ⟨10, _⟩ => ⟨S16x2048x512, .f32⟩
  | .hbm, ⟨11, _⟩ => ⟨S16x2048x4x2x64, .f32⟩
  | .hbm, ⟨12, _⟩ => ⟨S16x2048x512, .bf16⟩
  | .hbm, ⟨13, _⟩ => ⟨S16x2048x512, .f32⟩
  | .hbm, ⟨14, _⟩ => ⟨S16x2048x4x128, .f32⟩
  | .hbm, ⟨15, _⟩ => ⟨S1x64, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1x64, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S16x4x2x2048x2048, .f32⟩
  | .hbm, ⟨27, _⟩ => ⟨S_, .f32⟩
  | .hbm, ⟨28, _⟩ => ⟨S_, .f32⟩
  | .hbm, ⟨29, _⟩ => ⟨S16x4x2x2048x2048, .f32⟩
  | .hbm, ⟨30, _⟩ => ⟨S16x4x2x2048x2048, .f32⟩
  | .hbm, ⟨31, _⟩ => ⟨S2048, .i32⟩
  | .hbm, ⟨32, _⟩ => ⟨S1x2048, .i32⟩
  | .hbm, ⟨33, _⟩ => ⟨S2048x1, .i32⟩
  | .hbm, ⟨34, _⟩ => ⟨S2048x2048, .i32⟩
  | .hbm, ⟨35, _⟩ => ⟨S2048x2048, .i32⟩
  | .hbm, ⟨36, _⟩ => ⟨S2048x2048, .i1⟩
  | .hbm, ⟨37, _⟩ => ⟨S_, .f32⟩
  | .hbm, ⟨38, _⟩ => ⟨S_, .f32⟩
  | .hbm, ⟨39, _⟩ => ⟨S16x4x2x2048x2048, .i1⟩
  | .hbm, ⟨40, _⟩ => ⟨S16x4x2x2048x2048, .f32⟩
  | .hbm, ⟨41, _⟩ => ⟨S16x4x2x2048x2048, .f32⟩
  | .hbm, ⟨42, _⟩ => ⟨S_, .f32⟩
  | .hbm, ⟨43, _⟩ => ⟨S16x4x2x2048, .f32⟩
  | .hbm, ⟨44, _⟩ => ⟨S_, .f32⟩
  | .hbm, ⟨45, _⟩ => ⟨S16x4x2x2048, .f32⟩
  | .hbm, ⟨46, _⟩ => ⟨S16x4x2x2048, .f32⟩
  | .hbm, ⟨47, _⟩ => ⟨S16x4x2x2048x1, .f32⟩
  | .hbm, ⟨48, _⟩ => ⟨S16x4x2x2048x2048, .f32⟩
  | .hbm, ⟨49, _⟩ => ⟨S16x4x2x2048x2048, .f32⟩
  | .hbm, ⟨50, _⟩ => ⟨S16x4x2x2048x2048, .f32⟩
  | .hbm, ⟨51, _⟩ => ⟨S_, .f32⟩
  | .hbm, ⟨52, _⟩ => ⟨S16x4x2x2048, .f32⟩
  | .hbm, ⟨53, _⟩ => ⟨S16x4x2x2048x1, .f32⟩
  | .hbm, ⟨54, _⟩ => ⟨S16x4x2x2048x2048, .f32⟩
  | .hbm, ⟨55, _⟩ => ⟨S16x4x2x2048x2048, .f32⟩
  | .hbm, ⟨56, _⟩ => ⟨S16x4x1x2048x2048, .f32⟩
  | .hbm, ⟨57, _⟩ => ⟨S16x4x2048x2048, .f32⟩
  | .hbm, ⟨58, _⟩ => ⟨S16x4x1x2048x2048, .f32⟩
  | .hbm, ⟨59, _⟩ => ⟨S16x4x2048x2048, .f32⟩
  | .hbm, ⟨60, _⟩ => ⟨S16x4x2048x2048, .f32⟩
  | .hbm, ⟨61, _⟩ => ⟨S16x4x2048x2048, .f32⟩
  | .hbm, ⟨62, _⟩ => ⟨S16x4x2048x2048, .f32⟩
  | .hbm, ⟨63, _⟩ => ⟨S16x4x128x2048, .f32⟩
  | .hbm, ⟨64, _⟩ => ⟨S16x2048x4x128, .f32⟩
  | .hbm, ⟨65, _⟩ => ⟨S128, .f32⟩
  | .hbm, ⟨66, _⟩ => ⟨S16x2048x4x128, .f32⟩
  | .hbm, ⟨67, _⟩ => ⟨S_, .f32⟩
  | .hbm, ⟨68, _⟩ => ⟨S16x2048x4, .f32⟩
  | .hbm, ⟨69, _⟩ => ⟨S16x2048x4x1, .f32⟩
  | .hbm, ⟨70, _⟩ => ⟨S_, .f32⟩
  | .hbm, ⟨71, _⟩ => ⟨S16x2048x4x1, .f32⟩
  | .hbm, ⟨72, _⟩ => ⟨S16x2048x4x1, .f32⟩
  | .hbm, ⟨73, _⟩ => ⟨S_, .f32⟩
  | .hbm, ⟨74, _⟩ => ⟨S16x2048x4x1, .f32⟩
  | .hbm, ⟨75, _⟩ => ⟨S16x2048x4x1, .f32⟩
  | .hbm, ⟨76, _⟩ => ⟨S16x2048x4x1, .f32⟩
  | .hbm, ⟨77, _⟩ => ⟨S16x2048x4x128, .f32⟩
  | .hbm, ⟨78, _⟩ => ⟨S16x2048x4x128, .f32⟩
  | .hbm, ⟨79, _⟩ => ⟨S1x1x1x128, .f32⟩
  | .hbm, ⟨80, _⟩ => ⟨S16x2048x4x128, .f32⟩
  | .hbm, ⟨81, _⟩ => ⟨S16x2048x4x128, .f32⟩
  | .hbm, ⟨82, _⟩ => ⟨S_, .f32⟩
  | .hbm, ⟨83, _⟩ => ⟨S16x2048x4x128, .f32⟩
  | .hbm, ⟨84, _⟩ => ⟨S16x2048x4x128, .f32⟩
  | .hbm, ⟨85, _⟩ => ⟨S16x2048x512, .f32⟩
  | .hbm, ⟨86, _⟩ => ⟨S16x2048x512, .bf16⟩
  | _, _ => ⟨S16x2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_7 : Ref sig .tc := ⟨.hbm, 67, rfl⟩
abbrev main_v50 : Ref sig .tc := ⟨.hbm, 68, rfl⟩
abbrev main_v51 : Ref sig .tc := ⟨.hbm, 69, rfl⟩
abbrev main_cst_8 : Ref sig .tc := ⟨.hbm, 70, rfl⟩
abbrev main_v52 : Ref sig .tc := ⟨.hbm, 71, rfl⟩
abbrev main_v53 : Ref sig .tc := ⟨.hbm, 72, rfl⟩
abbrev main_cst_9 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_10 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩

abbrev nD : Nat := 1
abbrev τ : Topo := Topo.v7x

variable {F : FTy → Type} [FloatOps F]
-- ==== Kernel2.lean ====
abbrev S32768x1024 : Shape := ⟨2, ![32768, 1024]⟩
abbrev S1x1024 : Shape := ⟨2, ![1, 1024]⟩
abbrev S1024x2816 : Shape := ⟨2, ![1024, 2816]⟩
abbrev S2816x1024 : Shape := ⟨2, ![2816, 1024]⟩
abbrev S1024x1024 : Shape := ⟨2, ![1024, 1024]⟩
abbrev S1024 : Shape := ⟨1, ![1024]⟩
abbrev S1024x1 : Shape := ⟨2, ![1024, 1]⟩
abbrev S1024x256 : Shape := ⟨2, ![1024, 256]⟩

abbrev nBuf : Space → Nat
  | .hbm => 6
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2816, .f32⟩
  | .local _ .vmem, ⟨4, _⟩ => ⟨S1024x2816, .f32⟩
  | .local _ .vmem, ⟨5, _⟩ => ⟨S2816x1024, .f32⟩
  | .local _ .vmem, ⟨6, _⟩ => ⟨S1024x1024, .f32⟩
  | .local _ .vmem, ⟨7, _⟩ => ⟨S1024x1024, .f32⟩
  | .local _ .vmem, ⟨8, _⟩ => ⟨S1024x2816, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S32768x1024 : Shape := ⟨2, ![32768, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S32768x2816 : Shape := ⟨2, ![32768, 2816]⟩

abbrev nBuf : Space → Nat
  | .hbm => 37
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S32768x1024, .f32⟩
  | .hbm, ⟨19, _⟩ => ⟨S32768x1024, .f32⟩
  | .hbm, ⟨20, _⟩ => ⟨S32768x2816, .f32⟩
  | .hbm, ⟨21, _⟩ => ⟨S32768x2816, .f32⟩
  | .hbm, ⟨22, _⟩ => ⟨S32768x2816, .f32⟩
  | .hbm, ⟨23, _⟩ => ⟨S_, .f32⟩
  | .hbm, ⟨24, _⟩ => ⟨S32768x2816, .f32⟩
  | .hbm, ⟨25, _⟩ => ⟨S32768x2816, .f32⟩
  | .hbm, ⟨26, _⟩ => ⟨S_, .f32⟩
  | .hbm, ⟨27, _⟩ => ⟨S32768x2816, .f32⟩
  | .hbm, ⟨28, _⟩ => ⟨S32768x2816, .f32⟩
  | .hbm, ⟨29, _⟩ => ⟨S32768x2816, .f32⟩
  | .hbm, ⟨30, _⟩ => ⟨S32768x2816, .f32⟩
  | .hbm, ⟨31, _⟩ => ⟨S32768x2816, .f32⟩
  | .hbm, ⟨32, _⟩ => ⟨S32768x1024, .f32⟩
  | .hbm, ⟨33, _⟩ => ⟨S_, .f32⟩
  | .hbm, ⟨34, _⟩ => ⟨S32768x1024, .f32⟩
  | .hbm, ⟨35, _⟩ => ⟨S32768x1024, .f32⟩
  | .hbm, ⟨36, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩

abbrev nD : Nat := 1
abbrev τ : Topo := Topo.v7x

variable {F : FTy → Type} [FloatOps F]
-- ==== Kernel3.lean ====
abbrev S32768x1024 : Shape := ⟨2, ![32768, 1024]⟩
abbrev S32768x512 : Shape := ⟨2, ![32768, 512]⟩
abbrev S1024x1024 : Shape := ⟨2, ![1024, 1024]⟩
abbrev S1x1024 : Shape := ⟨2, ![1, 1024]⟩
abbrev S1024x2816 : Shape := ⟨2, ![1024, 2816]⟩
abbrev S2816x1024 : Shape := ⟨2, ![2816, 1024]⟩
abbrev S512x1024 : Shape := ⟨2, ![512, 1024]⟩
abbrev S512x512 : Shape := ⟨2, ![512, 512]⟩
abbrev S512x2816 : Shape := ⟨2, ![512, 2816]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 10
  | .vmem => 15
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1024x1024, .f32⟩
  | .hbm, ⟨4, _⟩ => ⟨S1x1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1x1024, .f32⟩
  | .hbm, ⟨9, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .f32⟩
  | .local _ .vmem, ⟨7, _⟩ => ⟨S1x1024, .f32⟩
  | .local _ .vmem, ⟨8, _⟩ => ⟨S1024x2816, .f32⟩
  | .local _ .vmem, ⟨9, _⟩ => ⟨S1024x2816, .f32⟩
  | .local _ .vmem, ⟨10, _⟩ => ⟨S2816x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x2816, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S32768x1024 : Shape := ⟨2, ![32768, 1024]⟩
abbrev S32768x512 : Shape := ⟨2, ![32768, 512]⟩
abbrev S1024x1024 : Shape := ⟨2, ![1024, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S32768x2816 : Shape := ⟨2, ![32768, 2816]⟩

abbrev nBuf : Space → Nat
  | .hbm => 60
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1024x1024, .f32⟩
  | .hbm, ⟨4, _⟩ => ⟨S1x1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1x1024, .f32⟩
  | .hbm, ⟨9, _⟩ => ⟨S32768x1024, .bf16⟩
  | .hbm, ⟨10, _⟩ => ⟨S32768x1024, .f32⟩
  | .hbm, ⟨11, _⟩ => ⟨S32768x1024, .f32⟩
  | .hbm, ⟨12, _⟩ => ⟨S32768x1024, .f32⟩
  | .hbm, ⟨13, _⟩ => ⟨S32768x1024, .f32⟩
  | .hbm, ⟨14, _⟩ => ⟨S_, .f32⟩
  | .hbm, ⟨15, _⟩ => ⟨S32768, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S_, .f32⟩
  | .hbm, ⟨21, _⟩ => ⟨S32768x1, .f32⟩
  | .hbm, ⟨22, _⟩ => ⟨S32768x1, .f32⟩
  | .hbm, ⟨23, _⟩ => ⟨S32768x1, .f32⟩
  | .hbm, ⟨24, _⟩ => ⟨S32768x1024, .f32⟩
  | .hbm, ⟨25, _⟩ => ⟨S32768x1024, .f32⟩
  | .hbm, ⟨26, _⟩ => ⟨S32768x1024, .f32⟩
  | .hbm, ⟨27, _⟩ => ⟨S32768x1024, .f32⟩
  | .hbm, ⟨28, _⟩ => ⟨S32768x2816, .f32⟩
  | .hbm, ⟨29, _⟩ => ⟨S32768x2816, .f32⟩
  | .hbm, ⟨30, _⟩ => ⟨S32768x2816, .f32⟩
  | .hbm, ⟨31, _⟩ => ⟨S_, .f32⟩
  | .hbm, ⟨32, _⟩ => ⟨S32768x2816, .f32⟩
  | .hbm, ⟨33, _⟩ => ⟨S32768x2816, .f32⟩
  | .hbm, ⟨34, _⟩ => ⟨S_, .f32⟩
  | .hbm, ⟨35, _⟩ => ⟨S32768x2816, .f32⟩
  | .hbm, ⟨36, _⟩ => ⟨S32768x2816, .f32⟩
  | .hbm, ⟨37, _⟩ => ⟨S32768x2816, .f32⟩
  | .hbm, ⟨38, _⟩ => ⟨S32768x2816, .f32⟩
  | .hbm, ⟨39, _⟩ => ⟨S32768x2816, .f32⟩
  | .hbm, ⟨40, _⟩ => ⟨S32768x1024, .f32⟩
  | .hbm, ⟨41, _⟩ => ⟨S_, .f32⟩
  | .hbm, ⟨42, _⟩ => ⟨S32768x1024, .f32⟩
  | .hbm, ⟨43, _⟩ => ⟨S32768x1024, .f32⟩
  | .hbm, ⟨44, _⟩ => ⟨S32768x1024, .f32⟩
  | .hbm, ⟨45, _⟩ => ⟨S32768x1024, .f32⟩
  | .hbm, ⟨46, _⟩ => ⟨S_, .f32⟩
  | .hbm, ⟨47, _⟩ => ⟨S32768, .f32⟩
  | .hbm, ⟨48, _⟩ => ⟨S32768x1, .f32⟩
  | .hbm, ⟨49, _⟩ => ⟨S_, .f32⟩
  | .hbm, ⟨50, _⟩ => ⟨S32768x1, .f32⟩
  | .hbm, ⟨51, _⟩ => ⟨S32768x1, .f32⟩
  | .hbm, ⟨52, _⟩ => ⟨S_, .f32⟩
  | .hbm, ⟨53, _⟩ => ⟨S32768x1, .f32⟩
  | .hbm, ⟨54, _⟩ => ⟨S32768x1, .f32⟩
  | .hbm, ⟨55, _⟩ => ⟨S32768x1, .f32⟩
  | .hbm, ⟨56, _⟩ => ⟨S32768x1024, .f32⟩
  | .hbm, ⟨57, _⟩ => ⟨S32768x1024, .f32⟩
  | .hbm, ⟨58, _⟩ => ⟨S32768x1024, .f32⟩
  | .hbm, ⟨59, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_2 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_3 : Ref sig .tc := ⟨.hbm, 46, rfl⟩
abbrev main_v25 : Ref sig .tc := ⟨.hbm, 47, rfl⟩
abbrev main_v26 : Ref sig .tc := ⟨.hbm, 48, rfl⟩
abbrev main_cst_4 : Ref sig .tc := ⟨.hbm, 49, rfl⟩
abbrev main_v27 : Ref sig .tc := ⟨.hbm, 50, rfl⟩
abbrev main_v28 : Ref sig .tc := ⟨.hbm, 51, rfl⟩
abbrev main_cst_5 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩

abbrev nD : Nat := 1
abbrev τ : Topo := Topo.v7x

variable {F : FTy → Type} [FloatOps F]
-- ==== Kernel4.lean ====
abbrev S32768x1024 : Shape := ⟨2, ![32768, 1024]⟩
abbrev S16x2048 : Shape := ⟨2, ![16, 2048]⟩
abbrev S1x1024 : Shape := ⟨2, ![1, 1024]⟩
abbrev S1024x3072 : Shape := ⟨2, ![1024, 3072]⟩
abbrev S32768 : Shape := ⟨1, ![32768]⟩
abbrev S8 : Shape := ⟨1, ![8]⟩
abbrev S_ : Shape := ⟨0, ![]⟩
abbrev S32x8x128 : Shape := ⟨3, ![32, 8, 128]⟩
abbrev S8x1 : Shape := ⟨2, ![8, 1]⟩
abbrev S32768x3072 : Shape := ⟨2, ![32768, 3072]⟩
abbrev S1024x1024 : Shape := ⟨2, ![1024, 1024]⟩
abbrev S1x8x128 : Shape := ⟨3, ![1, 8, 128]⟩
abbrev S1024 : Shape := ⟨1, ![1024]⟩
abbrev S1024x1 : Shape := ⟨2, ![1024, 1]⟩
abbrev S8x128 : Shape := ⟨2, ![8, 128]⟩
abbrev S1x128 : Shape := ⟨2, ![1, 128]⟩
abbrev S8x1024 : Shape := ⟨2, ![8, 1024]⟩
abbrev S48x1024 : Shape := ⟨2, ![48, 1024]⟩
abbrev S128x1024 : Shape := ⟨2, ![128, 1024]⟩
abbrev S1024x128 : Shape := ⟨2, ![1024, 128]⟩
abbrev S1024x512 : Shape := ⟨2, ![1024, 512]⟩

abbrev nBuf : Space → Nat
  | .hbm => 19
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S16x2048, .i32⟩
  | .hbm, ⟨2, _⟩ => ⟨S1x1024, .f32⟩
  | .hbm, ⟨3, _⟩ => ⟨S1024x3072, .f32⟩
  | .hbm, ⟨4, _⟩ => ⟨S32768, .i32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S8, .f32⟩
  | .hbm, ⟨16, _⟩ => ⟨S32x8x128, .i32⟩
  | .hbm, ⟨17, _⟩ => ⟨S8x1, .f32⟩
  | .hbm, ⟨18, _⟩ => ⟨S32768x3072, .bf16⟩
  | .local _ .vmem, ⟨0, _⟩ => ⟨S1024x1024, .f32⟩
  | .local _ .vmem, ⟨1, _⟩ => ⟨S1024x1024, .f32⟩
  | .local _ .vmem, ⟨2, _⟩ => ⟨S1x8x128, .i32⟩
  | .local _ .vmem, ⟨3, _⟩ => ⟨S1x8x128, .i32⟩
  | .local _ .vmem, ⟨4, _⟩ => ⟨S1x1024, .f32⟩
  | .local _ .vmem, ⟨5, _⟩ => ⟨S1024x3072, .f32⟩
  | .local _ .vmem, ⟨6, _⟩ => ⟨S8x1, .f32⟩
  | .local _ .vmem, ⟨7, _⟩ => ⟨S1024x3072, .bf16⟩
  | .local _ .vmem, ⟨8, _⟩ => ⟨S1024x3072, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Kernel4Ideal.lean ====
variable {F : FTy → Type} [FloatOps F] [Named F]
def κ : String → Option EReal := fun
  | "qscale" => some (((8 * (Real.log 2))⁻¹ : ℝ) : EReal)
  | _ => none
-- ==== Reference4Ideal.lean ====
abbrev S32768x1024 : Shape := ⟨2, ![32768, 1024]⟩
abbrev S16x2048 : Shape := ⟨2, ![16, 2048]⟩
abbrev S1x1024 : Shape := ⟨2, ![1, 1024]⟩
abbrev S1024x3072 : Shape := ⟨2, ![1024, 3072]⟩
abbrev S_ : Shape := ⟨0, ![]⟩
abbrev S32768 : Shape := ⟨1, ![32768]⟩
abbrev S32768x1 : Shape := ⟨2, ![32768, 1]⟩
abbrev S32768x3072 : Shape := ⟨2, ![32768, 3072]⟩
abbrev S16x2048x3072 : Shape := ⟨3, ![16, 2048, 3072]⟩
abbrev S16x2048x512 : Shape := ⟨3, ![16, 2048, 512]⟩
abbrev S16x2048x8x64 : Shape := ⟨4, ![16, 2048, 8, 64]⟩
abbrev S8 : Shape := ⟨1, ![8]⟩
abbrev S16x2048x1x1 : Shape := ⟨4, ![16, 2048, 1, 1]⟩
abbrev S1x1x1x8 : Shape := ⟨4, ![1, 1, 1, 8]⟩
abbrev S16x2048x1x8 : Shape := ⟨4, ![16, 2048, 1, 8]⟩
abbrev S16x2048x8x8 : Shape := ⟨4, ![16, 2048, 8, 8]⟩
abbrev S16x2048x8x48 : Shape := ⟨4, ![16, 2048, 8, 48]⟩

abbrev nBuf : Space → Nat
  | .hbm => 182
  | .vmem => 0
  | .smem => 0
  | _ => 0

abbrev hbmTy0_0 (i : Nat) : BufTy := match i % 128 with
  | 0 => ⟨S32768x1024, .f32⟩
  | 1 => ⟨S16x2048, .i32⟩
  | 2 => ⟨S1x1024, .f32⟩
  | 3 => ⟨S1024x3072, .f32⟩
  | 4 => ⟨S32768x1024, .f32⟩
  | 5 => ⟨S_, .f32⟩
  | 6 => ⟨S32768, .f32⟩
  | 7 => ⟨S32768x1, .f32⟩
  | 8 => ⟨S_, .f32⟩
  | 9 => ⟨S32768x1, .f32⟩
  | 10 => ⟨S32768x1, .f32⟩
  | 11 => ⟨S_, .f32⟩
  | 12 => ⟨S32768x1, .f32⟩
  | 13 => ⟨S32768x1, .f32⟩
  | 14 => ⟨S32768x1, .f32⟩
  | 15 => ⟨S32768x1024, .f32⟩
  | 16 => ⟨S32768x1024, .f32⟩
  | 17 => ⟨S32768x1024, .f32⟩
  | 18 => ⟨S32768x1024, .f32⟩
  | 19 => ⟨S32768x3072, .f32⟩
  | 20 => ⟨S16x2048x3072, .f32⟩
  | 21 => ⟨S16x2048x512, .f32⟩
  | 22 => ⟨S16x2048x512, .f32⟩
  | 23 => ⟨S16x2048x512, .f32⟩
  | 24 => ⟨S16x2048x512, .f32⟩
  | 25 => ⟨S16x2048x512, .f32⟩
  | 26 => ⟨S16x2048x512, .f32⟩
  | 27 => ⟨S16x2048x8x64, .f32⟩
  | 28 => ⟨S8, .f32⟩
  | 29 => ⟨S_, .f32⟩
  | 30 => ⟨S8, .f32⟩
  | 31 => ⟨S8, .f32⟩
  | 32 => ⟨S_, .f32⟩
  | 33 => ⟨S8, .f32⟩
  | 34 => ⟨S8, .f32⟩
  | 35 => ⟨S_, .f32⟩
  | 36 => ⟨S8, .f32⟩
  | 37 => ⟨S8, .f32⟩
  | 38 => ⟨S8, .f32⟩
  | 39 => ⟨S16x2048, .f32⟩
  | 40 => ⟨S16x2048x1x1, .f32⟩
  | 41 => ⟨S1x1x1x8, .f32⟩
  | 42 => ⟨S16x2048x1x8, .f32⟩
  | 43 => ⟨S16x2048x1x8, .f32⟩
  | 44 => ⟨S16x2048x1x8, .f32⟩
  | 45 => ⟨S16x2048x1x8, .f32⟩
  | 46 => ⟨S16x2048x1x8, .f32⟩
  | 47 => ⟨S16x2048x8x8, .f32⟩
  | 48 => ⟨S16x2048x8x8, .f32⟩
  | 49 => ⟨S16x2048x8x8, .f32⟩
  | 50 => ⟨S16x2048x8x8, .f32⟩
  | 51 => ⟨S16x2048x8x8, .f32⟩
  | 52 => ⟨S16x2048x8x8, .f32⟩
  | 53 => ⟨S16x2048x8x8, .f32⟩
  | 54 => ⟨S16x2048x8x8, .f32⟩
  | 55 => ⟨S16x2048x8x8, .f32⟩
  | 56 => ⟨S16x2048x8x8, .f32⟩
  | 57 => ⟨S16x2048x8x8, .f32⟩
  | 58 => ⟨S16x2048x8x8, .f32⟩
  | 59 => ⟨S16x2048x8x48, .f32⟩
  | 60 => ⟨S16x2048x8x64, .f32⟩
  | 61 => ⟨S_, .f32⟩
  | 62 => ⟨S_, .f32⟩
  | 63 => ⟨S_, .f32⟩
  | 64 => ⟨S_, .f32⟩
  | 65 => ⟨S16x2048x8x64, .f32⟩
  | 66 => ⟨S16x2048x8x64, .f32⟩
  | 67 => ⟨S16x2048x8x64, .f32⟩
  | 68 => ⟨S8, .f32⟩
  | 69 => ⟨S_, .f32⟩
  | 70 => ⟨S8, .f32⟩
  | 71 => ⟨S8, .f32⟩
  | 72 => ⟨S_, .f32⟩
  | 73 => ⟨S8, .f32⟩
  | 74 => ⟨S8, .f32⟩
  | 75 => ⟨S_, .f32⟩
  | 76 => ⟨S8, .f32⟩
  | 77 => ⟨S8, .f32⟩
  | 78 => ⟨S8, .f32⟩
  | 79 => ⟨S16x2048, .f32⟩
  | 80 => ⟨S16x2048x1x1, .f32⟩
  | 81 => ⟨S1x1x1x8, .f32⟩
  | 82 => ⟨S16x2048x1x8, .f32⟩
  | 83 => ⟨S16x2048x1x8, .f32⟩
  | 84 => ⟨S16x2048x1x8, .f32⟩
  | 85 => ⟨S16x2048x1x8, .f32⟩
  | 86 => ⟨S16x2048x1x8, .f32⟩
  | 87 => ⟨S16x2048x8x8, .f32⟩
  | 88 => ⟨S16x2048x8x8, .f32⟩
  | 89 => ⟨S16x2048x8x8, .f32⟩
  | 90 => ⟨S16x2048x8x8, .f32⟩
  | 91 => ⟨S16x2048x8x8, .f32⟩
  | 92 => ⟨S16x2048x8x8, .f32⟩
  | 93 => ⟨S16x2048x8x8, .f32⟩
  | 94 => ⟨S16x2048x8x8, .f32⟩
  | 95 => ⟨S16x2048x8x8, .f32⟩
  | 96 => ⟨S16x2048x8x8, .f32⟩
  | 97 => ⟨S16x2048x8x8, .f32⟩
  | 98 => ⟨S16x2048x8x8, .f32⟩
  | 99 => ⟨S16x2048x8x48, .f32⟩
  | 100 => ⟨S16x2048x8x64, .f32⟩
  | 101 => ⟨S_, .f32⟩
  | 102 => ⟨S_, .f32⟩
  | 103 => ⟨S_, .f32⟩
  | 104 => ⟨S_, .f32⟩
  | 105 => ⟨S16x2048x8x64, .f32⟩
  | 106 => ⟨S16x2048x8x64, .f32⟩
  | 107 => ⟨S16x2048x8x64, .f32⟩
  | 108 => ⟨S8, .f32⟩
  | 109 => ⟨S_, .f32⟩
  | 110 => ⟨S8, .f32⟩
  | 111 => ⟨S8, .f32⟩
  | 112 => ⟨S_, .f32⟩
  | 113 => ⟨S8, .f32⟩
  | 114 => ⟨S8, .f32⟩
  | 115 => ⟨S_, .f32⟩
  | 116 => ⟨S8, .f32⟩
  | 117 => ⟨S8, .f32⟩
  | 118 => ⟨S8, .f32⟩
  | 119 => ⟨S16x2048, .f32⟩
  | 120 => ⟨S16x2048x1x1, .f32⟩
  | 121 => ⟨S1x1x1x8, .f32⟩
  | 122 => ⟨S16x2048x1x8, .f32⟩
  | 123 => ⟨S16x2048x1x8, .f32⟩
  | 124 => ⟨S16x2048x1x8, .f32⟩
  | 125 => ⟨S16x2048x1x8, .f32⟩
  | 126 => ⟨S16x2048x1x8, .f32⟩
  | 127 => ⟨S16x2048x8x8, .f32⟩
  | _ => ⟨S32768x1024, .f32⟩

abbrev hbmTy0_1 (i : Nat) : BufTy := match i % 128 with
  | 0 => ⟨S16x2048x8x8, .f32⟩
  | 1 => ⟨S16x2048x8x8, .f32⟩
  | 2 => ⟨S16x2048x8x8, .f32⟩
  | 3 => ⟨S16x2048x8x8, .f32⟩
  | 4 => ⟨S16x2048x8x8, .f32⟩
  | 5 => ⟨S16x2048x8x8, .f32⟩
  | 6 => ⟨S16x2048x8x8, .f32⟩
  | 7 => ⟨S16x2048x8x8, .f32⟩
  | 8 => ⟨S16x2048x8x8, .f32⟩
  | 9 => ⟨S16x2048x8x8, .f32⟩
  | 10 => ⟨S16x2048x8x8, .f32⟩
  | 11 => ⟨S16x2048x8x48, .f32⟩
  | 12 => ⟨S16x2048x8x64, .f32⟩
  | 13 => ⟨S16x2048x8x64, .f32⟩
  | 14 => ⟨S8, .f32⟩
  | 15 => ⟨S_, .f32⟩
  | 16 => ⟨S8, .f32⟩
  | 17 => ⟨S8, .f32⟩
  | 18 => ⟨S_, .f32⟩
  | 19 => ⟨S8, .f32⟩
  | 20 => ⟨S8, .f32⟩
  | 21 => ⟨S_, .f32⟩
  | 22 => ⟨S8, .f32⟩
  | 23 => ⟨S8, .f32⟩
  | 24 => ⟨S8, .f32⟩
  | 25 => ⟨S16x2048, .f32⟩
  | 26 => ⟨S16x2048x1x1, .f32⟩
  | 27 => ⟨S1x1x1x8, .f32⟩
  | 28 => ⟨S16x2048x1x8, .f32⟩
  | 29 => ⟨S16x2048x1x8, .f32⟩
  | 30 => ⟨S16x2048x1x8, .f32⟩
  | 31 => ⟨S16x2048x1x8, .f32⟩
  | 32 => ⟨S16x2048x1x8, .f32⟩
  | 33 => ⟨S16x2048x8x8, .f32⟩
  | 34 => ⟨S16x2048x8x8, .f32⟩
  | 35 => ⟨S16x2048x8x8, .f32⟩
  | 36 => ⟨S16x2048x8x8, .f32⟩
  | 37 => ⟨S16x2048x8x8, .f32⟩
  | 38 => ⟨S16x2048x8x8, .f32⟩
  | 39 => ⟨S16x2048x8x8, .f32⟩
  | 40 => ⟨S16x2048x8x8, .f32⟩
  | 41 => ⟨S16x2048x8x8, .f32⟩
  | 42 => ⟨S16x2048x8x8, .f32⟩
  | 43 => ⟨S16x2048x8x8, .f32⟩
  | 44 => ⟨S16x2048x8x8, .f32⟩
  | 45 => ⟨S16x2048x8x48, .f32⟩
  | 46 => ⟨S16x2048x8x64, .f32⟩
  | 47 => ⟨S16x2048x512, .f32⟩
  | 48 => ⟨S16x2048x512, .f32⟩
  | 49 => ⟨S16x2048x512, .f32⟩
  | 50 => ⟨S16x2048x512, .f32⟩
  | 51 => ⟨S16x2048x3072, .f32⟩
  | 52 => ⟨S32768x3072, .f32⟩
  | 53 => ⟨S32768x3072, .bf16⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_cst_5 : Ref sig .tc := ⟨.hbm, 61, rfl⟩
abbrev main_v51 : Ref sig .tc := ⟨.hbm, 62, rfl⟩
abbrev main_cst_6 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_cst_7 : Ref sig .tc := ⟨.hbm, 69, rfl⟩
abbrev main_v57 : Ref sig .tc := ⟨.hbm, 70, rfl⟩
abbrev main_v58 : Ref sig .tc := ⟨.hbm, 71, rfl⟩
abbrev main_cst_8 : Ref sig .tc := ⟨.hbm, 72, rfl⟩
abbrev main_v59 : Ref sig .tc := ⟨.hbm, 73, rfl⟩
abbrev main_v60 : Ref sig .tc := ⟨.hbm, 74, rfl⟩
abbrev main_cst_9 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_cst_10 : Ref sig .tc := ⟨.hbm, 101, rfl⟩
abbrev main_v86 : Ref sig .tc := ⟨.hbm, 102, rfl⟩
abbrev main_cst_11 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_cst_12 : Ref sig .tc := ⟨.hbm, 109, rfl⟩
abbrev main_v92 : Ref sig .tc := ⟨.hbm, 110, rfl⟩
abbrev main_v93 : Ref sig .tc := ⟨.hbm, 111, rfl⟩
abbrev main_cst_13 : Ref sig .tc := ⟨.hbm, 112, rfl⟩
abbrev main_v94 : Ref sig .tc := ⟨.hbm, 113, rfl⟩
abbrev main_v95 : Ref sig .tc := ⟨.hbm, 114, rfl⟩
abbrev main_cst_14 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_cst_15 : Ref sig .tc := ⟨.hbm, 143, rfl⟩
abbrev main_v123 : Ref sig .tc := ⟨.hbm, 144, rfl⟩
abbrev main_v124 : Ref sig .tc := ⟨.hbm, 145, rfl⟩
abbrev main_cst_16 : Ref sig .tc := ⟨.hbm, 146, rfl⟩
abbrev main_v125 : Ref sig .tc := ⟨.hbm, 147, rfl⟩
abbrev main_v126 : Ref sig .tc := ⟨.hbm, 148, rfl⟩
abbrev main_cst_17 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_v151 : Ref sig .tc := ⟨.hbm, 174, rfl⟩
abbrev main_v152 : Ref sig .tc := ⟨.hbm, 175, rfl⟩
abbrev main_v153 : Ref sig .tc := ⟨.hbm, 176, rfl⟩
abbrev main_v154 : Ref sig .tc := ⟨.hbm, 177, rfl⟩
abbrev main_v155 : Ref sig .tc := ⟨.hbm, 178, rfl⟩
abbrev main_v156 : Ref sig .tc := ⟨.hbm, 179, rfl⟩
abbrev main_v157 : Ref sig .tc := ⟨.hbm, 180, rfl⟩
abbrev main_v158 : Ref sig .tc := ⟨.hbm, 181, rfl⟩

abbrev nD : Nat := 1
abbrev τ : Topo := Topo.v7x

variable {F : FTy → Type} [FloatOps F]
-- ==== Kernel5.lean ====
abbrev S16x2048x3072 : Shape := ⟨3, ![16, 2048, 3072]⟩
abbrev S2048 : Shape := ⟨1, ![2048]⟩
abbrev S2048x1 : Shape := ⟨2, ![2048, 1]⟩
abbrev S256 : Shape := ⟨1, ![256]⟩
abbrev S1x256 : Shape := ⟨2, ![1, 256]⟩
abbrev S2048x256 : Shape := ⟨2, ![2048, 256]⟩
abbrev S_ : Shape := ⟨0, ![]⟩
abbrev S16x2048x512 : Shape := ⟨3, ![16, 2048, 512]⟩
abbrev S1x2048x256 : Shape := ⟨3, ![1, 2048, 256]⟩
abbrev S128x2048 : Shape := ⟨2, ![128, 2048]⟩
abbrev S1x2048x128 : Shape := ⟨3, ![1, 2048, 128]⟩
abbrev S2048x128 : Shape := ⟨2, ![2048, 128]⟩
abbrev S128x256 : Shape := ⟨2, ![128, 256]⟩
abbrev S1x128x128 : Shape := ⟨3, ![1, 128, 128]⟩
abbrev S128x128 : Shape := ⟨2, ![128, 128]⟩
abbrev S8x256 : Shape := ⟨2, ![8, 256]⟩
abbrev S128 : Shape := ⟨1, ![128]⟩
abbrev S1x128 : Shape := ⟨2, ![1, 128]⟩
abbrev S8x128 : Shape := ⟨2, ![8, 128]⟩
abbrev S64x256 : Shape := ⟨2, ![64, 256]⟩
abbrev S256x128 : Shape := ⟨2, ![256, 128]⟩
abbrev S1x256x128 : Shape := ⟨3, ![1, 256, 128]⟩

abbrev nBuf : Space → Nat
  | .hbm => 127
  | .vmem => 13
  | .smem => 0
  | _ => 0

abbrev bufTy : (tb : Table) → Fin (tcTables nBuf tb) → BufTy
  | .hbm, ⟨0, _⟩ => ⟨S16x2048x3072, .bf16⟩
  | .hbm, ⟨1, _⟩ => ⟨S2048, .i32⟩
  | .hbm, ⟨2, _⟩ => ⟨S2048x1, .i32⟩
  | .hbm, ⟨3, _⟩ => ⟨S256, .i32⟩
  | .hbm, ⟨4, _⟩ => ⟨S1x256, .i32⟩
  | .hbm, ⟨5, _⟩ => ⟨S2048x256, .i32⟩
  | .hbm, ⟨6, _⟩ => ⟨S2048x256, .i32⟩
  | .hbm, ⟨7, _⟩ => ⟨S2048x256, .i32⟩
  | .hbm, ⟨8, _⟩ => ⟨S_, .i32⟩
  | .hbm, ⟨9, _⟩ => ⟨S2048x256, .i32⟩
  | .hbm, ⟨10, _⟩ => ⟨S2048x256, .i32⟩
  | .hbm, ⟨11, _⟩ => ⟨S_, .i32⟩
  | .hbm, ⟨12, _⟩ => ⟨S2048x256, .i32⟩
  | .hbm, ⟨13, _⟩ => ⟨S2048x256, .i32⟩
  | .hbm, ⟨14, _⟩ => ⟨S_, .f32⟩
  | .hbm, ⟨15, _⟩ => ⟨S2048x256, .f32⟩
  | .hbm, ⟨16, _⟩ => ⟨S_, .i32⟩
  | .hbm, ⟨17, _⟩ => ⟨S2048x256, .i32⟩
  | .hbm, ⟨18, _⟩ => ⟨S2048x256, .i1⟩
  | .hbm, ⟨19, _⟩ => ⟨S_, .i32⟩
  | .hbm, ⟨20, _⟩ => ⟨S2048x256, .i32⟩
  | .hbm, ⟨21, _⟩ => ⟨S2048x256, .i1⟩
  | .hbm, ⟨22, _⟩ => ⟨S2048x256, .i1⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S2048x256, .i32⟩
  | .hbm, ⟨30, _⟩ => ⟨S2048x256, .i32⟩
  | .hbm, ⟨31, _⟩ => ⟨S_, .i32⟩
  | .hbm, ⟨32, _⟩ => ⟨S2048x256, .i32⟩
  | .hbm, ⟨33, _⟩ => ⟨S2048x256, .i1⟩
  | .hbm, ⟨34, _⟩ => ⟨S_, .i32⟩
  | .hbm, ⟨35, _⟩ => ⟨S2048x256, .i32⟩
  | .hbm, ⟨36, _⟩ => ⟨S2048x256, .i1⟩
  | .hbm, ⟨37, _⟩ => ⟨S_, .i32⟩
  | .hbm, ⟨38, _⟩ => ⟨S_, .i1⟩
  | .hbm, ⟨39, _⟩ => ⟨S2048x256, .i1⟩
  | .hbm, ⟨40, _⟩ => ⟨S2048x256, .i1⟩
  | .hbm, ⟨41, _⟩ => ⟨S2048x256, .i1⟩
  | .hbm, ⟨42, _⟩ => ⟨S2048x256, .i32⟩
  | .hbm, ⟨43, _⟩ => ⟨S2048x256, .i32⟩
  | .hbm, ⟨44, _⟩ => ⟨S2048x256, .i32⟩
  | .hbm, ⟨45, _⟩ => ⟨S_, .i32⟩
  | .hbm, ⟨46, _⟩ => ⟨S2048x256, .i32⟩
  | .hbm, ⟨47, _⟩ => ⟨S2048x256, .i1⟩
  | .hbm, ⟨48, _⟩ => ⟨S2048x256, .i1⟩
  | .hbm, ⟨49, _⟩ => ⟨S2048x256, .f32⟩
  | .hbm, ⟨50, _⟩ => ⟨S2048x256, .f32⟩
  | .hbm, ⟨51, _⟩ => ⟨S_, .i32⟩
  | .hbm, ⟨52, _⟩ => ⟨S2048x256, .i32⟩
  | .hbm, ⟨53, _⟩ => ⟨S2048x256, .i1⟩
  | .hbm, ⟨54, _⟩ => ⟨S_, .i32⟩
  | .hbm, ⟨55, _⟩ => ⟨S2048x256, .i32⟩
  | .hbm, ⟨56, _⟩ => ⟨S2048x256, .i1⟩
  | .hbm, ⟨57, _⟩ => ⟨S2048x256, .i1⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S2048x256, .i32⟩
  | .hbm, ⟨65, _⟩ => ⟨S2048x256, .i32⟩
  | .hbm, ⟨66, _⟩ => ⟨S_, .i32⟩
  | .hbm, ⟨67, _⟩ => ⟨S2048x256, .i32⟩
  | .hbm, ⟨68, _⟩ => ⟨S2048x256, .i1⟩
  | .hbm, ⟨69, _⟩ => ⟨S_, .i32⟩
  | .hbm, ⟨70, _⟩ => ⟨S2048x256, .i32⟩
  | .hbm, ⟨71, _⟩ => ⟨S2048x256, .i1⟩
  | .hbm, ⟨72, _⟩ => ⟨S_, .i32⟩
  | .hbm, ⟨73, _⟩ => ⟨S_, .i1⟩
  | .hbm, ⟨74, _⟩ => ⟨S2048x256, .i1⟩
  | .hbm, ⟨75, _⟩ => ⟨S2048x256, .i1⟩
  | .hbm, ⟨76, _⟩ => ⟨S2048x256, .i1⟩
  | .hbm, ⟨77, _⟩ => ⟨S2048x256, .i32⟩
  | .hbm, ⟨78, _⟩ => ⟨S2048x256, .i32⟩
  | .hbm, ⟨79, _⟩ => ⟨S2048x256, .i32⟩
  | .hbm, ⟨80, _⟩ => ⟨S_, .i32⟩
  | .hbm, ⟨81, _⟩ => ⟨S2048x256, .i32⟩
  | .hbm, ⟨82, _⟩ => ⟨S2048x256, .i1⟩
  | .hbm, ⟨83, _⟩ => ⟨S2048x256, .i1⟩
  | .hbm, ⟨84, _⟩ => ⟨S2048x256, .f32⟩
  | .hbm, ⟨85, _⟩ => ⟨S2048x256, .f32⟩
  | .hbm, ⟨86, _⟩ => ⟨S_, .i32⟩
  | .hbm, ⟨87, _⟩ => ⟨S2048x256, .i32⟩
  | .hbm, ⟨88, _⟩ => ⟨S2048x256, .i1⟩
  | .hbm, ⟨89, _⟩ => ⟨S_, .i32⟩
  | .hbm, ⟨90, _⟩ => ⟨S2048x256, .i32⟩
  | .hbm, ⟨91, _⟩ => ⟨S2048x256, .i1⟩
  | .hbm, ⟨92, _⟩ => ⟨S2048x256, .i1⟩
  | .hbm, ⟨93, _⟩ => ⟨S_, .i32⟩
  | .hbm, ⟨94, _⟩ => ⟨S_, .i32⟩
  | .hbm, ⟨95, _⟩ => ⟨S_, .i32⟩
  | .hbm, ⟨96, _⟩ => ⟨S_, .i1⟩
  | .hbm, ⟨97, _⟩ => ⟨S_, .i32⟩
  | .hbm, ⟨98, _⟩ => ⟨S_, .i32⟩
  | .hbm, ⟨99, _⟩ => ⟨S2048x256, .i32⟩
  | .hbm, ⟨100, _⟩ => ⟨S2048x256, .i32⟩
  | .hbm, ⟨101, _⟩ => ⟨S_, .i32⟩
  | .hbm, ⟨102, _⟩ => ⟨S2048x256, .i32⟩
  | .hbm, ⟨103, _⟩ => ⟨S2048x256, .i1⟩
  | .hbm, ⟨104, _⟩ => ⟨S_, .i32⟩
  | .hbm, ⟨105, _⟩ => ⟨S2048x256, .i32⟩
  | .hbm, ⟨106, _⟩ => ⟨S2048x256, .i1⟩
  | .hbm, ⟨107, _⟩ => ⟨S_, .i32⟩
  | .hbm, ⟨108, _⟩ => ⟨S_, .i1⟩
  | .hbm, ⟨109, _⟩ => ⟨S2048x256, .i1⟩
  | .hbm, ⟨110, _⟩ => ⟨S2048x256, .i1⟩
  | .hbm, ⟨111, _⟩ => ⟨S2048x256, .i1⟩
  | .hbm, ⟨112, _⟩ => ⟨S2048x256, .i32⟩
  | .hbm, ⟨113, _⟩ => ⟨S2048x256, .i32⟩
  | .hbm, ⟨114, _⟩ => ⟨S2048x256, .i32⟩
  | .hbm, ⟨115, _⟩ => ⟨S_, .i32⟩
  | .hbm, ⟨116, _⟩ => ⟨S2048x256, .i32⟩
  | .hbm, ⟨117, _⟩ => ⟨S2048x256, .i1⟩
  | .hbm, ⟨118, _⟩ => ⟨S2048x256, .i1⟩
  | .hbm, ⟨119, _⟩ => ⟨S2048x256, .f32⟩
  | .hbm, ⟨120, _⟩ => ⟨S2048x256, .f32⟩
  | .hbm, ⟨121, _⟩ => ⟨S2048x256, .f32⟩
  | .hbm, ⟨122, _⟩ => ⟨S_, .f32⟩
  | .hbm, ⟨123, _⟩ => ⟨S_, .f32⟩
  | .hbm, ⟨124, _⟩ => ⟨S2048x256, .f32⟩
  | .hbm, ⟨125, _⟩ => ⟨S2048x256, .f32⟩
  | .hbm, ⟨126, _⟩ => ⟨S16x2048x512, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S2048x256, .f32⟩
  | .local _ .vmem, ⟨7, _⟩ => ⟨S1x2048x256, .bf16⟩
  | .local _ .vmem, ⟨8, _⟩ => ⟨S1x2048x256, .bf16⟩
  | .local _ .vmem, ⟨9, _⟩ => ⟨S128x2048, .bf16⟩
  | .local _ .vmem, ⟨10, _⟩ => ⟨S128x2048, .bf16⟩
  | .local _ .vmem, ⟨11, _⟩ => ⟨S128x2048, .bf16⟩
  | .local _ .vmem, ⟨12, _⟩ => ⟨S128x2048, .bf16⟩
  | _, _ => ⟨S16x2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_c : Ref sig .tc := ⟨.hbm, 8, rfl⟩
abbrev main_v7 : Ref sig .tc := ⟨.hbm, 9, rfl⟩
abbrev main_v8 : Ref sig .tc := ⟨.hbm, 10, rfl⟩
abbrev main_c_0 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_c_1 : Ref sig .tc := ⟨.hbm, 16, rfl⟩
abbrev main_v12 : Ref sig .tc := ⟨.hbm, 17, rfl⟩
abbrev main_v13 : Ref sig .tc := ⟨.hbm, 18, rfl⟩
abbrev main_c_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c_3 : Ref sig .tc := ⟨.hbm, 23, rfl⟩
abbrev main_call0_v0 : Ref sig .tc := ⟨.hbm, 24, rfl⟩
abbrev main_call0_c : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_c_1 : Ref sig .tc := ⟨.hbm, 31, rfl⟩
abbrev main_call0_v5 : Ref sig .tc := ⟨.hbm, 32, rfl⟩
abbrev main_call0_v6 : Ref sig .tc := ⟨.hbm, 33, rfl⟩
abbrev main_call0_c_2 : Ref sig .tc := ⟨.hbm, 34, rfl⟩
abbrev main_call0_v7 : Ref sig .tc := ⟨.hbm, 35, rfl⟩
abbrev main_call0_v8 : Ref sig .tc := ⟨.hbm, 36, rfl⟩
abbrev main_call0_c_3 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_v17 : Ref sig .tc := ⟨.hbm, 44, rfl⟩
abbrev main_c_4 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_c_5 : Ref sig .tc := ⟨.hbm, 51, rfl⟩
abbrev main_v23 : Ref sig .tc := ⟨.hbm, 52, rfl⟩
abbrev main_v24 : Ref sig .tc := ⟨.hbm, 53, rfl⟩
abbrev main_c_6 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_c_7 : Ref sig .tc := ⟨.hbm, 58, rfl⟩
abbrev main_call1_v0 : Ref sig .tc := ⟨.hbm, 59, rfl⟩
abbrev main_call1_c : Ref sig .tc := ⟨.hbm, 60, rfl⟩
abbrev main_call1_v1 : Ref sig .tc := ⟨.hbm, 61, rfl⟩
abbrev main_call1_c_0 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_call1_c_1 : Ref sig .tc := ⟨.hbm, 66, rfl⟩
abbrev main_call1_v5 : Ref sig .tc := ⟨.hbm, 67, rfl⟩
abbrev main_call1_v6 : Ref sig .tc := ⟨.hbm, 68, rfl⟩
abbrev main_call1_c_2 : Ref sig .tc := ⟨.hbm, 69, rfl⟩
abbrev main_call1_v7 : Ref sig .tc := ⟨.hbm, 70, rfl⟩
abbrev main_call1_v8 : Ref sig .tc := ⟨.hbm, 71, rfl⟩
abbrev main_call1_c_3 : Ref sig .tc := ⟨.hbm, 72, rfl⟩
abbrev main_call1_v9 : Ref sig .tc := ⟨.hbm, 73, rfl⟩
abbrev main_call1_v10 : Ref sig .tc := ⟨.hbm, 74, rfl⟩
abbrev main_call1_v11 : Ref sig .tc := ⟨.hbm, 75, rfl⟩
abbrev main_call1_v12 : Ref sig .tc := ⟨.hbm, 76, rfl⟩
abbrev main_call1_v13 : Ref sig .tc := ⟨.hbm, 77, rfl⟩
abbrev main_call1_v14 : Ref sig .tc := ⟨.hbm, 78, rfl⟩
abbrev main_v28 : Ref sig .tc := ⟨.hbm, 79, rfl⟩
abbrev main_c_8 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_c_9 : Ref sig .tc := ⟨.hbm, 86, rfl⟩
abbrev main_v34 : Ref sig .tc := ⟨.hbm, 87, rfl⟩
abbrev main_v35 : Ref sig .tc := ⟨.hbm, 88, rfl⟩
abbrev main_c_10 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_c_11 : Ref sig .tc := ⟨.hbm, 93, rfl⟩
abbrev main_call2_v0 : Ref sig .tc := ⟨.hbm, 94, rfl⟩
abbrev main_call2_c : Ref sig .tc := ⟨.hbm, 95, rfl⟩
abbrev main_call2_v1 : Ref sig .tc := ⟨.hbm, 96, rfl⟩
abbrev main_call2_c_0 : Ref sig .tc := ⟨.hbm, 97, rfl⟩
abbrev main_call2_v2 : Ref sig .tc := ⟨.hbm, 98, rfl⟩
abbrev main_call2_v3 : Ref sig .tc := ⟨.hbm, 99, rfl⟩
abbrev main_call2_v4 : Ref sig .tc := ⟨.hbm, 100, rfl⟩
abbrev main_call2_c_1 : Ref sig .tc := ⟨.hbm, 101, rfl⟩
abbrev main_call2_v5 : Ref sig .tc := ⟨.hbm, 102, rfl⟩
abbrev main_call2_v6 : Ref sig .tc := ⟨.hbm, 103, rfl⟩
abbrev main_call2_c_2 : Ref sig .tc := ⟨.hbm, 104, rfl⟩
abbrev main_call2_v7 : Ref sig .tc := ⟨.hbm, 105, rfl⟩
abbrev main_call2_v8 : Ref sig .tc := ⟨.hbm, 106, rfl⟩
abbrev main_call2_c_3 : Ref sig .tc := ⟨.hbm, 107, rfl⟩
abbrev main_call2_v9 : Ref sig .tc := ⟨.hbm, 108, rfl⟩
abbrev main_call2_v10 : Ref sig .tc := ⟨.hbm, 109, rfl⟩
abbrev main_call2_v11 : Ref sig .tc := ⟨.hbm, 110, rfl⟩
abbrev main_call2_v12 : Ref sig .tc := ⟨.hbm, 111, rfl⟩
abbrev main_call2_v13 : Ref sig .tc := ⟨.hbm, 112, rfl⟩
abbrev main_call2_v14 : Ref sig .tc := ⟨.hbm, 113, rfl⟩
abbrev main_v39 : Ref sig .tc := ⟨.hbm, 114, rfl⟩
abbrev main_c_12 : Ref sig .tc := ⟨.hbm, 115, rfl⟩
abbrev main_v40 : Ref sig .tc := ⟨.hbm, 116, rfl⟩
abbrev main_v41 : Ref sig .tc := ⟨.hbm, 117, rfl⟩
abbrev main_v42 : Ref sig .tc := ⟨.hbm, 118, rfl⟩
abbrev main_v43 : Ref sig .tc := ⟨.hbm, 119, rfl⟩
abbrev main_v44 : Ref sig .tc := ⟨.hbm, 120, rfl⟩
abbrev main_v45 : Ref sig .tc := ⟨.hbm, 121, rfl⟩
abbrev main_cst_13 : Ref sig .tc := ⟨.hbm, 122, rfl⟩
abbrev main_v46 : Ref sig .tc := ⟨.hbm, 123, rfl⟩
abbrev main_v47 : Ref sig .tc := ⟨.hbm, 124, rfl⟩
abbrev main_v48 : Ref sig .tc := ⟨.hbm, 125, rfl⟩
abbrev main_v49 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  let c0_i32_0 : BitVec 32 := 0#32
  ![arg0.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S2048x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S16x2048x3072 : Shape := ⟨3, ![16, 2048, 3072]⟩
abbrev S3 : Shape := ⟨1, ![3]⟩
abbrev S3x1x1 : Shape := ⟨3, ![3, 1, 1]⟩
abbrev S16x2048x512 : Shape := ⟨3, ![16, 2048, 512]⟩
abbrev S16x2048x8x64 : Shape := ⟨4, ![16, 2048, 8, 64]⟩
abbrev S16x8x2048x2048 : Shape := ⟨4, ![16, 8, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S3x2048x2048 : Shape := ⟨3, ![3, 2048, 2048]⟩
abbrev S3x1x1x2048x2048 : Shape := ⟨5, ![3, 1, 1, 2048, 2048]⟩
abbrev S3x16x8x2048x2048 : Shape := ⟨5, ![3, 16, 8, 2048, 2048]⟩
abbrev S3x16x8x2048 : Shape := ⟨4, ![3, 16, 8, 2048]⟩
abbrev S3x16x8x2048x1 : Shape := ⟨5, ![3, 16, 8, 2048, 1]⟩
abbrev S16x8x64x3x2048 : Shape := ⟨5, ![16, 8, 64, 3, 2048]⟩
abbrev S3x16x8x2048x64 : Shape := ⟨5, ![3, 16, 8, 2048, 64]⟩
abbrev S16x8x2048x1 : Shape := ⟨4, ![16, 8, 2048, 1]⟩
abbrev S1x16x8x2048x1 : Shape := ⟨5, ![1, 16, 8, 2048, 1]⟩
abbrev S16x8x2048x64 : Shape := ⟨4, ![16, 8, 2048, 64]⟩

abbrev nBuf : Space → Nat
  | .hbm => 78
  | .vmem => 0
  | .smem => 0
  | _ => 0

abbrev bufTy : (tb : Table) → Fin (tcTables nBuf tb) → BufTy
  | .hbm, ⟨0, _⟩ => ⟨S16x2048x3072, .bf16⟩
  | .hbm, ⟨1, _⟩ => ⟨S3, .i32⟩
  | .hbm, ⟨2, _⟩ => ⟨S3x1x1, .i32⟩
  | .hbm, ⟨3, _⟩ => ⟨S3, .i32⟩
  | .hbm, ⟨4, _⟩ => ⟨S3x1x1, .i32⟩
  | .hbm, ⟨5, _⟩ => ⟨S16x2048x512, .bf16⟩
  | .hbm, ⟨6, _⟩ => ⟨S16x2048x512, .f32⟩
  | .hbm, ⟨7, _⟩ => ⟨S16x2048x8x64, .f32⟩
  | .hbm, ⟨8, _⟩ => ⟨S16x2048x512, .bf16⟩
  | .hbm, ⟨9, _⟩ => ⟨S16x2048x512, .f32⟩
  | .hbm, ⟨10, _⟩ => ⟨S16x2048x8x64, .f32⟩
  | .hbm, ⟨11, _⟩ => ⟨S16x2048x512, .bf16⟩
  | .hbm, ⟨12, _⟩ => ⟨S16x2048x512, .f32⟩
  | .hbm, ⟨13, _⟩ => ⟨S16x2048x8x64, .f32⟩
  | .hbm, ⟨14, _⟩ => ⟨S16x8x2048x2048, .f32⟩
  | .hbm, ⟨15, _⟩ => ⟨S_, .f32⟩
  | .hbm, ⟨16, _⟩ => ⟨S_, .f32⟩
  | .hbm, ⟨17, _⟩ => ⟨S16x8x2048x2048, .f32⟩
  | .hbm, ⟨18, _⟩ => ⟨S16x8x2048x2048, .f32⟩
  | .hbm, ⟨19, _⟩ => ⟨S2048, .i32⟩
  | .hbm, ⟨20, _⟩ => ⟨S2048x1, .i32⟩
  | .hbm, ⟨21, _⟩ => ⟨S1x2048, .i32⟩
  | .hbm, ⟨22, _⟩ => ⟨S2048x2048, .i32⟩
  | .hbm, ⟨23, _⟩ => ⟨S2048x2048, .i32⟩
  | .hbm, ⟨24, _⟩ => ⟨S2048x2048, .i32⟩
  | .hbm, ⟨25, _⟩ => ⟨S3x2048x2048, .i32⟩
  | .hbm, ⟨26, _⟩ => ⟨S_, .i32⟩
  | .hbm, ⟨27, _⟩ => ⟨S3x2048x2048, .i32⟩
  | .hbm, ⟨28, _⟩ => ⟨S3x2048x2048, .i1⟩
  | .hbm, ⟨29, _⟩ => ⟨S3x2048x2048, .i32⟩
  | .hbm, ⟨30, _⟩ => ⟨S3x2048x2048, .i1⟩
  | .hbm, ⟨31, _⟩ => ⟨S3x2048x2048, .i1⟩
  | .hbm, ⟨32, _⟩ => ⟨S3x2048x2048, .i32⟩
  | .hbm, ⟨33, _⟩ => ⟨S3x2048x2048, .i32⟩
  | .hbm, ⟨34, _⟩ => ⟨S_, .i32⟩
  | .hbm, ⟨35, _⟩ => ⟨S3x2048x2048, .i32⟩
  | .hbm, ⟨36, _⟩ => ⟨S3x2048x2048, .i1⟩
  | .hbm, ⟨37, _⟩ => ⟨S3x2048x2048, .i1⟩
  | .hbm, ⟨38, _⟩ => ⟨S3x1x1x2048x2048, .i1⟩
  | .hbm, ⟨39, _⟩ => ⟨S_, .f32⟩
  | .hbm, ⟨40, _⟩ => ⟨S_, .f32⟩
  | .hbm, ⟨41, _⟩ => ⟨S3x16x8x2048x2048, .i1⟩
  | .hbm, ⟨42, _⟩ => ⟨S3x16x8x2048x2048, .f32⟩
  | .hbm, ⟨43, _⟩ => ⟨S3x16x8x2048x2048, .f32⟩
  | .hbm, ⟨44, _⟩ => ⟨S3x16x8x2048x2048, .f32⟩
  | .hbm, ⟨45, _⟩ => ⟨S_, .f32⟩
  | .hbm, ⟨46, _⟩ => ⟨S3x16x8x2048, .f32⟩
  | .hbm, ⟨47, _⟩ => ⟨S3x16x8x2048x1, .f32⟩
  | .hbm, ⟨48, _⟩ => ⟨S3x16x8x2048x2048, .f32⟩
  | .hbm, ⟨49, _⟩ => ⟨S3x16x8x2048x2048, .f32⟩
  | .hbm, ⟨50, _⟩ => ⟨S3x16x8x2048x2048, .f32⟩
  | .hbm, ⟨51, _⟩ => ⟨S_, .f32⟩
  | .hbm, ⟨52, _⟩ => ⟨S3x16x8x2048, .f32⟩
  | .hbm, ⟨53, _⟩ => ⟨S3x16x8x2048x1, .f32⟩
  | .hbm, ⟨54, _⟩ => ⟨S16x8x64x3x2048, .f32⟩
  | .hbm, ⟨55, _⟩ => ⟨S3x16x8x2048x64, .f32⟩
  | .hbm, ⟨56, _⟩ => ⟨S3x16x8x2048x64, .f32⟩
  | .hbm, ⟨57, _⟩ => ⟨S3x16x8x2048x64, .f32⟩
  | .hbm, ⟨58, _⟩ => ⟨S3x16x8x2048x1, .f32⟩
  | .hbm, ⟨59, _⟩ => ⟨S3x16x8x2048x1, .f32⟩
  | .hbm, ⟨60, _⟩ => ⟨S_, .f32⟩
  | .hbm, ⟨61, _⟩ => ⟨S16x8x2048x1, .f32⟩
  | .hbm, ⟨62, _⟩ => ⟨S1x16x8x2048x1, .f32⟩
  | .hbm, ⟨63, _⟩ => ⟨S3x16x8x2048x1, .f32⟩
  | .hbm, ⟨64, _⟩ => ⟨S3x16x8x2048x1, .f32⟩
  | .hbm, ⟨65, _⟩ => ⟨S3x16x8x2048x1, .f32⟩
  | .hbm, ⟨66, _⟩ => ⟨S_, .f32⟩
  | .hbm, ⟨67, _⟩ => ⟨S16x8x2048x1, .f32⟩
  | .hbm, ⟨68, _⟩ => ⟨S1x16x8x2048x1, .f32⟩
  | .hbm, ⟨69, _⟩ => ⟨S3x16x8x2048x1, .f32⟩
  | .hbm, ⟨70, _⟩ => ⟨S3x16x8x2048x1, .f32⟩
  | .hbm, ⟨71, _⟩ => ⟨S3x16x8x2048x64, .f32⟩
  | .hbm, ⟨72, _⟩ => ⟨S3x16x8x2048x64, .f32⟩
  | .hbm, ⟨73, _⟩ => ⟨S_, .f32⟩
  | .hbm, ⟨74, _⟩ => ⟨S16x8x2048x64, .f32⟩
  | .hbm, ⟨75, _⟩ => ⟨S16x2048x8x64, .f32⟩
  | .hbm, ⟨76, _⟩ => ⟨S16x2048x512, .f32⟩
  | .hbm, ⟨77, _⟩ => ⟨S16x2048x512, .bf16⟩
  | _, _ => ⟨S16x2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_c_1 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_c_2 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_cst_3 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_5 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_6 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_7 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_8 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩

abbrev nD : Nat := 1
abbrev τ : Topo := Topo.v7x

variable {F : FTy → Type} [FloatOps F]
-- ==== Proof.FfnMath.lean ====
/- Facts about extended reals and about the one activation the feed-forward layers use, stated with no program in sight. -/
module

public import Idealize.ShloMosaic.Lib.Pipeline.ValueKit
public import Idealize.ShloMosaic.Lib.Pointwise
public import Idealize.ShloMosaic.Lib.ReduceAll

@[expose] public section
noncomputable section
open Idealize.ShloMosaic
namespace Cert.Ffn

/-- An extended real that is a real number. -/
def Real' (x : EReal) : Prop := ∃ r : ℝ, x = (r : EReal)

theorem Real'.add {x y : EReal} (hx : Real' x) (hy : Real' y) : Real' (x + y) := by
  obtain ⟨a, rfl⟩ := hx
  obtain ⟨b, rfl⟩ := hy
  exact ⟨a + b, (EReal.coe_add a b).symm⟩

theorem Real'.mul {x y : EReal} (hx : Real' x) (hy : Real' y) : Real' (x * y) := by
  obtain ⟨a, rfl⟩ := hx
  obtain ⟨b, rfl⟩ := hy
  exact ⟨a * b, (EReal.coe_mul a b).symm⟩

theorem Real'.sum {ι : Type} (s : Finset ι) (f : ι → EReal) (h : ∀ i, Real' (f i)) : Real' (∑ i ∈ s, f i) := by
  classical
  induction s using Finset.induction_on with
  | empty => exact ⟨0, by simp⟩
  | insert a s ha ih => rw [Finset.sum_insert ha]; exact (h a).add ih

/-- A sum of squares of reals is a real that is not negative. -/
theorem sum_sq {ι : Type} (s : Finset ι) (f : ι → EReal) (h : ∀ i, Real' (f i)) :
    ∃ r : ℝ, 0 ≤ r ∧ ∑ i ∈ s, f i * f i = (r : EReal) := by
  classical
  induction s using Finset.induction_on with
  | empty => exact ⟨0, le_refl _, by simp⟩
  | insert a s ha ih =>
    obtain ⟨r, hr, e⟩ := ih
    obtain ⟨q, hq⟩ := h a
    exact ⟨q * q + r, add_nonneg (mul_self_nonneg q) hr, by rw [Finset.sum_insert ha, e, hq, EReal.coe_add, EReal.coe_mul]⟩

theorem ofBits_half : Ideal.ofBits .f32 0x3F000000#32 = ((1 / 2 : ℝ) : EReal) := by
  simp [Ideal.ofBits, Ideal.ieee]; norm_cast; norm_num

theorem ofBits_1024 : Ideal.ofBits .f32 0x44800000#32 = ((1024 : ℝ) : EReal) := by
  simp [Ideal.ofBits, Ideal.ieee]; norm_cast; norm_num

/-- The constant added under the root is a positive real. -/
theorem ofBits_eps : ∃ r : ℝ, 0 < r ∧ Ideal.ofBits .f32 0x3727C5AC#32 = (r : EReal) := by
  refine ⟨10995116 * (2 ^ 40)⁻¹, by positivity, ?_⟩
  simp [Ideal.ofBits, Ideal.ieee]

/-- The reciprocal root of a mean of squares of reals is real. -/
theorem rsqrt_mean {ι : Type} (s : Finset ι) (f : ι → EReal) (h : ∀ i, Real' (f i)) :
    Real' (Ideal.rsqrt (Ideal.div (∑ i ∈ s, f i * f i) (Ideal.ofBits .f32 0x44800000#32) + Ideal.ofBits .f32 0x3727C5AC#32)) := by
  obtain ⟨r, hr, e⟩ := sum_sq s f h
  obtain ⟨q, hq, e'⟩ := ofBits_eps
  rw [e, e', ofBits_1024, Ideal.div_coe (by norm_num), ← EReal.coe_mul, ← EReal.coe_add, Ideal.rsqrt_coe]
  have : 0 < r * (1 / 1024) + q := by positivity
  rw [if_neg (by linarith), if_neg (by linarith)]
  exact ⟨_, rfl⟩

/-- `½a + ½a·tanh(½a)` is `a` times the logistic function of `a`, at a real `a`. -/
theorem silu {a : EReal} (h : Real' a) :
    Ideal.ofBits .f32 0x3F000000#32 * a + Ideal.ofBits .f32 0x3F000000#32 * a * Ideal.tanh (Ideal.ofBits .f32 0x3F000000#32 * a)
      = a * Ideal.div 1 (1 + Ideal.exp (-a)) := by
  obtain ⟨r, rfl⟩ := h
  have hl : Ideal.div 1 (1 + Ideal.exp (-(r : EReal))) = ((1 + Real.exp (-r))⁻¹ : ℝ) := Ideal.logistic_coe r
  rw [hl, ofBits_half, ← EReal.coe_mul, Ideal.tanh_coe, ← EReal.coe_mul, ← EReal.coe_add, ← EReal.coe_mul]
  congr 1
  rw [Real.tanh_eq_sinh_div_cosh, Real.sinh_eq, Real.cosh_eq]
  have e : Real.exp (-r) = Real.exp (-(1 / 2 * r)) * Real.exp (-(1 / 2 * r)) := by rw [← Real.exp_add]; ring_nf
  have e' : Real.exp (1 / 2 * r) * Real.exp (-(1 / 2 * r)) = 1 := by rw [← Real.exp_add]; simp
  rw [e]
  set u := Real.exp (1 / 2 * r)
  set v := Real.exp (-(1 / 2 * r))
  have hu : 0 < u := Real.exp_pos _
  have hv : 0 < v := Real.exp_pos _
  field_simp
  linear_combination (2 * r * v) * e'

/-- A comparison with both infinities that holds says its operand is real. -/
theorem real_of_cmp (x : Ideal .f32)
    (h : IntOp.andi (Ideal.cmp .ogt x (Ideal.ofBits .f32 0xFF800000#32)) (Ideal.cmp .olt x (Ideal.ofBits .f32 0x7F800000#32)) = 1#1) :
    Real' x := by
  obtain ⟨h1, h2⟩ := IntOp.andi_eq_one.1 h
  have hb : Ideal.ofBits .f32 0xFF800000#32 = ⊥ := by simp [Ideal.ofBits, Ideal.ieee]
  have ht : Ideal.ofBits .f32 0x7F800000#32 = ⊤ := by simp [Ideal.ofBits, Ideal.ieee]
  induction x using EReal.rec with
  | bot => exact absurd h1 (by simp [hb, Ideal.cmp])
  | top => exact absurd h2 (by simp [ht, Ideal.cmp])
  | coe r => exact ⟨r, rfl⟩

end Cert.Ffn
-- ==== Proof.AttnMath.lean ====
/- A causal softmax to the base two, summed chunk by chunk against a moving shift: the real-number part, with no
   program in sight. -/
module

public import proofs.«01_k».proof.Proof.FfnMath

@[expose] public section
noncomputable section
open Idealize.ShloMosaic
namespace Cert.Attn
open Cert.Ffn

/-- The weight of key `k` for query `r`, whose scores are `s`, against the shift `μ`. -/
def w (s : ℕ → ℝ) (r : ℕ) (μ : ℝ) (k : ℕ) : ℝ := if k ≤ r then (2 : ℝ) ^ (s k - μ) else 0

/-- The average of the values `v` under the softmax of the scores `s`, over the keys that query `r` sees. -/
def avg (s v : ℕ → ℝ) (r : ℕ) : ℝ := (∑ k ∈ Finset.range 2048, v k * w s r 0 k) / ∑ k ∈ Finset.range 2048, w s r 0 k

theorem w_shift (s : ℕ → ℝ) (r : ℕ) (μ μ' : ℝ) (k : ℕ) : (2 : ℝ) ^ (μ - μ') * w s r μ k = w s r μ' k := by
  unfold w
  split
  · rw [← Real.rpow_add two_pos]; congr 1; ring
  · simp

theorem w_nonneg (s : ℕ → ℝ) (r : ℕ) (μ : ℝ) (k : ℕ) : 0 ≤ w s r μ k := by
  unfold w; split <;> positivity

/-- The total weight is positive: key 0 is always seen. -/
theorem sum_w_pos (s : ℕ → ℝ) (r : ℕ) (μ : ℝ) (n : ℕ) (h : 0 < n) : 0 < ∑ k ∈ Finset.range n, w s r μ k := by
  refine Finset.sum_pos' (fun k _ => w_nonneg s r μ k) ⟨0, Finset.mem_range.2 h, ?_⟩
  unfold w
  rw [if_pos (Nat.zero_le _)]
  positivity

/-- Rescaling the sum so far and adding a chunk gives the longer sum. -/
theorem sum_step (s v : ℕ → ℝ) (r : ℕ) (μ μ' : ℝ) (n c : ℕ) :
    (2 : ℝ) ^ (μ - μ') * (∑ k ∈ Finset.range n, v k * w s r μ k) + ∑ k ∈ Finset.range c, v (n + k) * w s r μ' (n + k)
      = ∑ k ∈ Finset.range (n + c), v k * w s r μ' k := by
  rw [Finset.sum_range_add, Finset.mul_sum]
  congr 1
  refine Finset.sum_congr rfl fun k _ => ?_
  rw [← w_shift s r μ μ' k]; ring

/-- A chunk that the query does not see adds nothing. -/
theorem sum_unseen (s v : ℕ → ℝ) (r : ℕ) (μ : ℝ) (n c : ℕ) (h : r < n) :
    ∑ k ∈ Finset.range (n + c), v k * w s r μ k = ∑ k ∈ Finset.range n, v k * w s r μ k := by
  rw [Finset.sum_range_add, add_eq_left]
  refine Finset.sum_eq_zero fun k _ => ?_
  unfold w
  rw [if_neg (by omega), mul_zero]

/-- The quotient of the sums does not depend on the shift, nor on keys past the query. -/
theorem quot_eq (s v : ℕ → ℝ) (r : ℕ) (μ : ℝ) (n : ℕ) (h : r < n) (hn : n ≤ 2048) :
    (∑ k ∈ Finset.range n, v k * w s r μ k) / (∑ k ∈ Finset.range n, w s r μ k) = avg s v r := by
  have e (f : ℕ → ℝ) : ∑ k ∈ Finset.range 2048, f k * w s r 0 k = (2 : ℝ) ^ μ * ∑ k ∈ Finset.range n, f k * w s r μ k := by
    obtain ⟨c, hc⟩ := Nat.exists_eq_add_of_le hn
    rw [hc, sum_unseen s f r 0 n c h, Finset.mul_sum]
    refine Finset.sum_congr rfl fun k _ => ?_
    rw [← w_shift s r μ 0 k, sub_zero]; ring
  have e1 := e (fun _ => 1)
  simp only [one_mul] at e1
  unfold avg
  rw [e, e1, mul_div_mul_left _ _ (by positivity)]

/-- Sums over eight interleaved rows are the sum over all. -/
theorem sum_rows (f : ℕ → ℝ) (n : ℕ) : ∑ r : Fin 8, ∑ j ∈ Finset.range n, f (8 * j + r) = ∑ k ∈ Finset.range (8 * n), f k := by
  rw [Finset.sum_comm]
  induction n with
  | zero => simp
  | succ n ih => rw [Finset.sum_range_succ, ih, Nat.mul_succ, Finset.sum_range_add, ← Finset.sum_range (fun k => f (8 * n + k))]

theorem coe_sum {ι : Type} (t : Finset ι) (f : ι → ℝ) : ∑ k ∈ t, (f k : EReal) = ((∑ k ∈ t, f k : ℝ) : EReal) := by
  classical
  induction t using Finset.induction_on with
  | empty => simp
  | insert a t ha ih => rw [Finset.sum_insert ha, Finset.sum_insert ha, ih, EReal.coe_add]

/-- A masked score's weight. -/
theorem exp2_w {x : EReal} {s : ℕ → ℝ} {r k : ℕ} (h : x = if k ≤ r then (s k : EReal) else ⊥) (μ : ℝ) :
    Ideal.exp2 (x - (μ : EReal)) = (w s r μ k : EReal) := by
  unfold w
  rw [h]
  split
  · rw [← EReal.coe_sub, Ideal.exp2_coe]; rfl
  · rw [EReal.bot_sub, Ideal.exp2_bot, EReal.coe_zero]

/-- The same weight spelt with the natural exponential. -/
theorem exp_w {x : EReal} {s : ℕ → ℝ} {r k : ℕ} (h : x = if k ≤ r then ((s k * Real.log 2 : ℝ) : EReal) else ⊥) (μ : ℝ) :
    Ideal.exp (x - (μ : EReal)) = (w s r (μ / Real.log 2) k : EReal) := by
  have hl : Real.log 2 ≠ 0 := (Real.log_pos one_lt_two).ne'
  unfold w
  rw [h]
  split
  · rw [← EReal.coe_sub, Ideal.exp_coe, Real.rpow_def_of_pos two_pos]
    congr 2
    field_simp
  · rw [EReal.bot_sub, Ideal.exp_bot, EReal.coe_zero]

theorem ofBits_neg_inf : Ideal.ofBits .f32 0xFF800000#32 = ⊥ := by simp [Ideal.ofBits, Ideal.ieee]

/-- The largest of finitely many masked scores, one of them seen, is real. -/
theorem fold_real {ι : Type} [Fintype ι] (x : ι → EReal) (ht : ∀ k, x k ≠ ⊤) (k₀ : ι) (hb : x k₀ ≠ ⊥) :
    ∃ μ : ℝ, Finset.fold max (Ideal.ofBits .f32 0xFF800000#32) x Finset.univ = (μ : EReal) := by
  rw [ofBits_neg_inf]
  have h1 : Finset.fold max ⊥ x Finset.univ < ⊤ := (Finset.fold_max_lt _).2 ⟨bot_lt_top, fun k _ => lt_top_iff_ne_top.2 (ht k)⟩
  have h2 : ⊥ < Finset.fold max ⊥ x Finset.univ := (Finset.lt_fold_max _).2 (.inr ⟨k₀, Finset.mem_univ _, bot_lt_iff_ne_bot.2 hb⟩)
  exact ⟨_, (EReal.coe_toReal h1.ne h2.ne').symm⟩

end Cert.Attn
-- ==== Proof.AttnStep.lean ====
/- One chunk of the differential attention's running softmax, as functions of vectors: 128 keys against a tile of 256
   queries, the queries along the columns. -/
module

public import proofs.«01_k».proof.Proof.Gen.KernelIdeal.Value
public import proofs.«01_k».proof.Proof.AttnMath
public import Idealize.ShloMosaic.Lib.Pipeline.ValueKit

@[expose] public section
set_option maxRecDepth 16384
noncomputable section
open Idealize.ShloMosaic Idealize.ShloMosaic.TcCoe Idealize.SL.Sem
namespace Cert.KernelIdeal.Attn
open Cert.KernelIdeal Cert.KernelIdeal.Gen Cert.Attn

/-- The scores of a chunk of keys, keys down the rows. -/
def sc (q : FVec Ideal S128x256 .bf16) (kk : FVec Ideal S1x128x128 .bf16) : FVec Ideal S128x256 .f32 :=
  matmul dot_S128x128_S128x256_S128x256_1_0_0_1_n_n none (shapeCast S128x128 kk shapeCasts_S1x128x128_S128x128) q
    (constant (F := Ideal) S128x256 .f32 0x00000000#32)

/-- The same for the upper half of the queries alone. -/
def sc2 (q : FVec Ideal S128x256 .bf16) (kk : FVec Ideal S1x128x128 .bf16) : FVec Ideal S128x128 .f32 :=
  matmul dot_S128x128_S128x128_S128x128_1_0_0_1_n_n none (shapeCast S128x128 kk shapeCasts_S1x128x128_S128x128)
    (extractStridedSlice S128x128 ![0, 128] q slices_S128x256_o0_128_S128x128) (constant (F := Ideal) S128x128 .f32 0x00000000#32)

/-- The largest score of each column. -/
def top (s : FVec Ideal S128x256 .f32) : FVec Ideal S1x256 .f32 :=
  shapeCast S1x256 (multiReduction .maximumf [0] S256 s 0xFF800000#32 reduces_S128x256_S256 (.inl rfl) rfl) shapeCasts_S256_S1x256

def top2 (s : FVec Ideal S128x128 .f32) : FVec Ideal S1x128 .f32 :=
  shapeCast S1x128 (multiReduction .maximumf [0] S128 s 0xFF800000#32 reduces_S128x128_S128 (.inl rfl) rfl) shapeCasts_S128_S1x128

/-- The weights of a chunk against a shift of each column. -/
def wt (s : FVec Ideal S128x256 .f32) (m : FVec Ideal S1x256 .f32) : FVec Ideal S128x256 .f32 :=
  exp2 (subf s (broadcastTo S128x256 m broadcasts_S1x256_S128x256))

def wt2 (s : FVec Ideal S128x128 .f32) (m : FVec Ideal S1x128 .f32) : FVec Ideal S128x128 .f32 :=
  exp2 (subf s (broadcastTo S128x128 m broadcasts_S1x128_S128x128))

/-- Sixteen groups of eight rows added up. -/
def grp (p : FVec Ideal S128x256 .f32) : FVec Ideal S8x256 .f32 :=
  have e (r : ℕ) (h : S128x256.Slices ![r, 0] S8x256) := extractStridedSlice S8x256 ![r, 0] p h
  addf (addf (addf (addf (addf (addf (addf (addf (addf (addf (addf (addf (addf (addf (addf (e 0 slices_S128x256_o0_0_S8x256) (e 8 slices_S128x256_o8_0_S8x256)) (e 16 slices_S128x256_o16_0_S8x256)) (e 24 slices_S128x256_o24_0_S8x256)) (e 32 slices_S128x256_o32_0_S8x256)) (e 40 slices_S128x256_o40_0_S8x256)) (e 48 slices_S128x256_o48_0_S8x256)) (e 56 slices_S128x256_o56_0_S8x256)) (e 64 slices_S128x256_o64_0_S8x256)) (e 72 slices_S128x256_o72_0_S8x256)) (e 80 slices_S128x256_o80_0_S8x256)) (e 88 slices_S128x256_o88_0_S8x256)) (e 96 slices_S128x256_o96_0_S8x256)) (e 104 slices_S128x256_o104_0_S8x256)) (e 112 slices_S128x256_o112_0_S8x256)) (e 120 slices_S128x256_o120_0_S8x256)

def grp2 (p : FVec Ideal S128x128 .f32) : FVec Ideal S8x128 .f32 :=
  have e (r : ℕ) (h : S128x128.Slices ![r, 0] S8x128) := extractStridedSlice S8x128 ![r, 0] p h
  addf (addf (addf (addf (addf (addf (addf (addf (addf (addf (addf (addf (addf (addf (addf (e 0 slices_S128x128_o0_0_S8x128) (e 8 slices_S128x128_o8_0_S8x128)) (e 16 slices_S128x128_o16_0_S8x128)) (e 24 slices_S128x128_o24_0_S8x128)) (e 32 slices_S128x128_o32_0_S8x128)) (e 40 slices_S128x128_o40_0_S8x128)) (e 48 slices_S128x128_o48_0_S8x128)) (e 56 slices_S128x128_o56_0_S8x128)) (e 64 slices_S128x128_o64_0_S8x128)) (e 72 slices_S128x128_o72_0_S8x128)) (e 80 slices_S128x128_o80_0_S8x128)) (e 88 slices_S128x128_o88_0_S8x128)) (e 96 slices_S128x128_o96_0_S8x128)) (e 104 slices_S128x128_o104_0_S8x128)) (e 112 slices_S128x128_o112_0_S8x128)) (e 120 slices_S128x128_o120_0_S8x128)

/-- The weighted values of a chunk. -/
def pv (vv : FVec Ideal S128x128 .bf16) (p : FVec Ideal S128x256 .f32) : FVec Ideal S128x256 .f32 :=
  matmul dot_S128x128_S128x256_S128x256_1_0_0_1_n_n none vv (truncf .bf16 p bitsLt_bf16_f32) (constant (F := Ideal) S128x256 .f32 0x00000000#32)

def pv2 (vv : FVec Ideal S128x128 .bf16) (p : FVec Ideal S128x128 .f32) : FVec Ideal S128x128 .f32 :=
  matmul dot_S128x128_S128x128_S128x128_1_0_0_1_n_n none vv (truncf .bf16 p bitsLt_bf16_f32) (constant (F := Ideal) S128x128 .f32 0x00000000#32)

/-- The factor by which a new shift rescales what was summed before. -/
def fac (m m' : FVec Ideal S1x256 .f32) : FVec Ideal S1x256 .f32 := exp2 (subf m m')

def fac2 (m m' : FVec Ideal S1x128 .f32) : FVec Ideal S1x128 .f32 := exp2 (subf m m')

/-- The running sums after a chunk with scores `s`. -/
def nextM (m : FVec Ideal S1x256 .f32) (s : FVec Ideal S128x256 .f32) : FVec Ideal S1x256 .f32 := maximumf m (top s)

def nextL (m : FVec Ideal S1x256 .f32) (l : FVec Ideal S8x256 .f32) (s : FVec Ideal S128x256 .f32) : FVec Ideal S8x256 .f32 :=
  addf (mulf (broadcastTo S8x256 (fac m (nextM m s)) broadcasts_S1x256_S8x256) l) (grp (wt s (nextM m s)))

def nextA (m : FVec Ideal S1x256 .f32) (a : FVec Ideal S128x256 .f32) (s : FVec Ideal S128x256 .f32) (vv : FVec Ideal S128x128 .bf16) :
    FVec Ideal S128x256 .f32 :=
  addf (mulf (broadcastTo S128x256 (fac m (nextM m s)) broadcasts_S1x256_S128x256) a) (pv vv (wt s (nextM m s)))

/-- The upper half's shift. -/
def up (m : FVec Ideal S1x256 .f32) : FVec Ideal S1x128 .f32 := extractStridedSlice S1x128 ![0, 128] m slices_S1x256_o0_128_S1x128

def lastM (m : FVec Ideal S1x256 .f32) (s : FVec Ideal S128x128 .f32) : FVec Ideal S1x128 .f32 := maximumf (up m) (top2 s)

/-- The sums after the last chunk, which only the upper half of the queries sees. -/
def lastL (m : FVec Ideal S1x256 .f32) (l : FVec Ideal S8x256 .f32) (s : FVec Ideal S128x128 .f32) : FVec Ideal S8x256 .f32 :=
  concatenate S8x256 1 [⟨S8x128, extractStridedSlice S8x128 ![0, 0] l slices_S8x256_o0_0_S8x128⟩,
    ⟨S8x128, addf (mulf (broadcastTo S8x128 (fac2 (up m) (lastM m s)) broadcasts_S1x128_S8x128)
      (extractStridedSlice S8x128 ![0, 128] l slices_S8x256_o0_128_S8x128)) (grp2 (wt2 s (lastM m s)))⟩] concatenates_S8x128_S8x128_S8x256_d1

def lastA (m : FVec Ideal S1x256 .f32) (a : FVec Ideal S128x256 .f32) (s : FVec Ideal S128x128 .f32) (vv : FVec Ideal S128x128 .bf16) :
    FVec Ideal S128x256 .f32 :=
  concatenate S128x256 1 [⟨S128x128, extractStridedSlice S128x128 ![0, 0] a slices_S128x256_o0_0_S128x128⟩,
    ⟨S128x128, addf (mulf (broadcastTo S128x128 (fac2 (up m) (lastM m s)) broadcasts_S1x128_S128x128)
      (extractStridedSlice S128x128 ![0, 128] a slices_S128x256_o0_128_S128x128)) (pv2 vv (wt2 s (lastM m s)))⟩] concatenates_S128x128_S128x128_S128x256_d1

/-- The weighted values over the summed weights. -/
def quo (l : FVec Ideal S8x256 .f32) (a : FVec Ideal S128x256 .f32) : FVec Ideal S128x256 .f32 :=
  mulf a (broadcastTo S128x256 (divf (broadcast S1x256 (Scalar.ofBits (F := Ideal) .f32 0x3F800000#32))
    (shapeCast S1x256 (multiReduction .add [0] S256 l 0x00000000#32 reduces_S8x256_S256 (.inl rfl) rfl) shapeCasts_S256_S1x256)) broadcasts_S1x256_S128x256)

/-- The difference of two maps' outputs, queries down the rows. -/
def dif (lam : FVec Ideal S1x1 .f32) (lo hi : FVec Ideal S128x256 .f32) : FVec Ideal S256x128 .f32 :=
  transpose S256x128 [1, 0] (subf lo (mulf (broadcastTo S128x256 lam broadcasts_S1x1_S128x256) hi)) transposes_S128x256_p1_0_S256x128

/-- The normalised, scaled difference that is stored. -/
def fin (d : FVec Ideal S256x128 .f32) (g : FVec Ideal S1x128 .f32) : FVec Ideal S1x256x128 .bf16 :=
  shapeCast S1x256x128 (truncf .bf16 (mulf (mulf (mulf d (broadcastTo S256x128 (rsqrt (addf (divf
    (shapeCast S256x1 (multiReduction .add [1] S256 (mulf d d) 0x00000000#32 reduces_S256x128_S256 (.inl rfl) rfl) shapeCasts_S256_S256x1)
    (broadcast S256x1 (Scalar.ofBits (F := Ideal) .f32 0x43000000#32))) (broadcast S256x1 (Scalar.ofBits (F := Ideal) .f32 0x3727C5AC#32)))) broadcasts_S256x1_S256x128))
    (broadcastTo S256x128 g broadcasts_S1x128_S256x128)) (broadcast S256x128 (Scalar.ofBits (F := Ideal) .f32 0x3F4CCCCD#32))) bitsLt_bf16_f32)
    shapeCasts_S256x128_S1x256x128

end Cert.KernelIdeal.Attn
-- ==== Proof.AttnRun.lean ====
/- What the running softmax of the differential attention holds after each chunk of keys. -/
module

public import proofs.«01_k».proof.Proof.AttnStep

@[expose] public section
set_option maxRecDepth 16384
noncomputable section
open Idealize.ShloMosaic Idealize.ShloMosaic.TcCoe Idealize.SL.Sem
namespace Cert.KernelIdeal.Attn
open Cert.KernelIdeal Cert.KernelIdeal.Gen Cert.Attn

variable (s : Fin 256 → ℕ → ℝ) (V : Fin 128 → ℕ → ℝ) (B : ℕ)

/-- The chunk of scores from key `n` on: column `c` is query `B + c`, which sees the keys up to its own. -/
def Sc (n : ℕ) (sv : FVec Ideal S128x256 .f32) : Prop :=
  ∀ (k : Fin 128) (c : Fin 256), sv (ix2 k c) = if n + k.val ≤ B + c.val then (s c (n + k.val) : EReal) else ⊥

/-- The same for the upper half of the columns alone. -/
def Sc2 (n : ℕ) (sv : FVec Ideal S128x128 .f32) : Prop :=
  ∀ k c : Fin 128, sv (ix2 k c) = if n + k.val ≤ B + (128 + c.val) then (s ⟨128 + c.val, by omega⟩ (n + k.val) : EReal) else ⊥

/-- The chunk of values from key `n` on. -/
def Vc (n : ℕ) (vv : FVec Ideal S128x128 .bf16) : Prop := ∀ d k : Fin 128, vv (ix2 d k) = (V d (n + k.val) : EReal)

/-- The running sums after `n` keys, against a shift `μ` of each column. -/
def Sums (n : ℕ) (c : Fin 256) (μ : ℝ) (l : FVec Ideal S8x256 .f32) (a : FVec Ideal S128x256 .f32) : Prop :=
  (∃ L : Fin 8 → ℝ, (∀ r, l (ix2 r c) = (L r : EReal)) ∧ ∑ r, L r = ∑ k ∈ Finset.range n, w (s c) (B + c.val) μ k) ∧
    ∀ d, a (ix2 d c) = ((∑ k ∈ Finset.range n, V d k * w (s c) (B + c.val) μ k : ℝ) : EReal)

/-- The state after `n` keys. -/
def St (n : ℕ) (m : FVec Ideal S1x256 .f32) (l : FVec Ideal S8x256 .f32) (a : FVec Ideal S128x256 .f32) : Prop :=
  ∀ c, ∃ μ : ℝ, m (ix2 0 c) = (μ : EReal) ∧ Sums s V B n c μ l a

/-- The sums after the last chunk. -/
def Done (n : ℕ) (l : FVec Ideal S8x256 .f32) (a : FVec Ideal S128x256 .f32) : Prop := ∀ c, ∃ μ : ℝ, Sums s V B n c μ l a

variable {s V B}

theorem grp_apply (p : FVec Ideal S128x256 .f32) (f : ℕ → ℝ) (c : Fin 256) (h : ∀ k : Fin 128, p (ix2 k c) = (f k.val : EReal)) (r : Fin 8) :
    grp p (ix2 r c) = ((∑ j ∈ Finset.range 16, f (8 * j + r.val) : ℝ) : EReal) := by
  pointwise [grp]
  simp only [h, Finset.sum_range_succ, Finset.sum_range_zero, EReal.coe_add, EReal.coe_zero, zero_add, mul_zero, mul_one, Nat.reduceMul]

theorem grp2_apply (p : FVec Ideal S128x128 .f32) (f : ℕ → ℝ) (c : Fin 128) (h : ∀ k : Fin 128, p (ix2 k c) = (f k.val : EReal)) (r : Fin 8) :
    grp2 p (ix2 r c) = ((∑ j ∈ Finset.range 16, f (8 * j + r.val) : ℝ) : EReal) := by
  pointwise [grp2]
  simp only [h, Finset.sum_range_succ, Finset.sum_range_zero, EReal.coe_add, EReal.coe_zero, zero_add, mul_zero, mul_one, Nat.reduceMul]

theorem wt_apply {n : ℕ} {sv : FVec Ideal S128x256 .f32} (hs : Sc s B n sv) {m : FVec Ideal S1x256 .f32} {c : Fin 256} {μ : ℝ}
    (hm : m (ix2 0 c) = (μ : EReal)) (k : Fin 128) : wt sv m (ix2 k c) = (w (s c) (B + c.val) μ (n + k.val) : EReal) := by
  pointwise [wt]
  rw [hm]
  exact exp2_w (hs k c) μ

theorem wt2_apply {n : ℕ} {sv : FVec Ideal S128x128 .f32} (hs : Sc2 s B n sv) {m : FVec Ideal S1x128 .f32} {c : Fin 128} {μ : ℝ}
    (hm : m (ix2 0 c) = (μ : EReal)) (k : Fin 128) :
    wt2 sv m (ix2 k c) = (w (s ⟨128 + c.val, by omega⟩) (B + (128 + c.val)) μ (n + k.val) : EReal) := by
  pointwise [wt2]
  rw [hm]
  exact exp2_w (hs k c) μ

theorem pv_apply {n : ℕ} {vv : FVec Ideal S128x128 .bf16} (hv : Vc V n vv) (p : FVec Ideal S128x256 .f32) (f : ℕ → ℝ) (c : Fin 256)
    (h : ∀ k : Fin 128, p (ix2 k c) = (f k.val : EReal)) (d : Fin 128) :
    pv vv p (ix2 d c) = ((∑ k ∈ Finset.range 128, V d (n + k) * f k : ℝ) : EReal) := by
  pointwise [pv]
  rw [Finset.sum_range, ← coe_sum]
  exact Finset.sum_congr rfl fun k _ => by rw [hv, h, EReal.coe_mul]

theorem pv2_apply {n : ℕ} {vv : FVec Ideal S128x128 .bf16} (hv : Vc V n vv) (p : FVec Ideal S128x128 .f32) (f : ℕ → ℝ) (c : Fin 128)
    (h : ∀ k : Fin 128, p (ix2 k c) = (f k.val : EReal)) (d : Fin 128) :
    pv2 vv p (ix2 d c) = ((∑ k ∈ Finset.range 128, V d (n + k) * f k : ℝ) : EReal) := by
  pointwise [pv2]
  rw [Finset.sum_range, ← coe_sum]
  exact Finset.sum_congr rfl fun k _ => by rw [hv, h, EReal.coe_mul]

/-- The largest score of a column that sees the chunk's first key is real. -/
theorem top_real {n : ℕ} {sv : FVec Ideal S128x256 .f32} (hs : Sc s B n sv) (c : Fin 256) (h : n ≤ B + c.val) :
    ∃ μ : ℝ, top sv (ix2 0 c) = (μ : EReal) := by
  pointwise [top]
  refine fold_real _ (fun k => ?_) 0 ?_
  · rw [hs]; split <;> simp
  · rw [hs, if_pos (by simpa using h)]; simp

theorem top2_real {n : ℕ} {sv : FVec Ideal S128x128 .f32} (hs : Sc2 s B n sv) (c : Fin 128) (h : n ≤ B + (128 + c.val)) :
    ∃ μ : ℝ, top2 sv (ix2 0 c) = (μ : EReal) := by
  pointwise [top2]
  refine fold_real _ (fun k => ?_) 0 ?_
  · rw [hs]; split <;> simp
  · rw [hs, if_pos (by simpa using h)]; simp

/-- The first chunk. -/
theorem st_first {sv : FVec Ideal S128x256 .f32} {vv : FVec Ideal S128x128 .bf16} (hs : Sc s B 0 sv) (hv : Vc V 0 vv) :
    St s V B 128 (top sv) (grp (wt sv (top sv))) (pv vv (wt sv (top sv))) := fun c => by
  obtain ⟨μ, hμ⟩ := top_real hs c (Nat.zero_le _)
  have hw := fun k => wt_apply hs hμ k
  refine ⟨μ, hμ, ⟨_, grp_apply _ (fun k => w (s c) (B + c.val) μ (0 + k)) c hw, ?_⟩, fun d => ?_⟩
  · rw [sum_rows (fun k => w (s c) (B + c.val) μ (0 + k))]; simp only [zero_add]
  · rw [pv_apply hv _ (fun k => w (s c) (B + c.val) μ (0 + k)) c hw]; simp only [zero_add]

/-- A further chunk, whose first key every column sees. -/
theorem st_next {n : ℕ} {m : FVec Ideal S1x256 .f32} {l : FVec Ideal S8x256 .f32} {a sv : FVec Ideal S128x256 .f32} {vv : FVec Ideal S128x128 .bf16}
    (hst : St s V B n m l a) (hn : n ≤ B) (hs : Sc s B n sv) (hv : Vc V n vv) :
    St s V B (n + 128) (nextM m sv) (nextL m l sv) (nextA m a sv vv) := fun c => by
  obtain ⟨μ, hμ, ⟨L, hL, hLs⟩, ha⟩ := hst c
  obtain ⟨μ₁, hμ₁⟩ := top_real hs c (by omega)
  have hM : nextM m sv (ix2 0 c) = ((max μ μ₁ : ℝ) : EReal) := by
    pointwise [nextM]
    rw [hμ, hμ₁]; exact (EReal.coe_strictMono.monotone.map_max).symm
  have hw := fun k => wt_apply hs hM k
  have hf : fac m (nextM m sv) (ix2 0 c) = (((2 : ℝ) ^ (μ - max μ μ₁) : ℝ) : EReal) := by
    pointwise [fac]
    rw [hμ, hM, ← EReal.coe_sub]; rfl
  refine ⟨_, hM, ⟨fun r => (2 : ℝ) ^ (μ - max μ μ₁) * L r + ∑ j ∈ Finset.range 16, w (s c) (B + c.val) (max μ μ₁) (n + (8 * j + r.val)),
    fun r => ?_, ?_⟩, fun d => ?_⟩
  · have := grp_apply _ (fun k => w (s c) (B + c.val) (max μ μ₁) (n + k)) c hw r
    pointwise [nextL]
    rw [hf, hL, this, EReal.coe_add, EReal.coe_mul]
  · rw [Finset.sum_add_distrib, ← Finset.mul_sum, hLs, sum_rows (fun k => w (s c) (B + c.val) (max μ μ₁) (n + k))]
    simpa using sum_step (s c) (fun _ => 1) (B + c.val) μ (max μ μ₁) n 128
  · have := pv_apply hv _ (fun k => w (s c) (B + c.val) (max μ μ₁) (n + k)) c hw d
    pointwise [nextA]
    rw [hf, ha, this, ← EReal.coe_mul, ← EReal.coe_add, sum_step]

theorem Done.of {n : ℕ} {m : FVec Ideal S1x256 .f32} {l : FVec Ideal S8x256 .f32} {a : FVec Ideal S128x256 .f32} (h : St s V B n m l a) : Done s V B n l a :=
  fun c => let ⟨μ, _, h⟩ := h c; ⟨μ, h⟩

/-- The last chunk, which the lower half of the columns does not see. -/
theorem st_last {n : ℕ} {m : FVec Ideal S1x256 .f32} {l : FVec Ideal S8x256 .f32} {a : FVec Ideal S128x256 .f32} {sv : FVec Ideal S128x128 .f32}
    {vv : FVec Ideal S128x128 .bf16} (hst : St s V B n m l a) (hn : n = B + 128) (hs : Sc2 s B n sv) (hv : Vc V n vv) :
    Done s V B (n + 128) (lastL m l sv) (lastA m a sv vv) := fun c => by
  obtain ⟨μ, hμ, ⟨L, hL, hLs⟩, ha⟩ := hst c
  by_cases hc : c.val < 128
  · refine ⟨μ, ⟨L, fun r => ?_, ?_⟩, fun d => ?_⟩
    · pointwise [lastL]
      rw [dif_pos hc]; exact hL r
    · rw [hLs]
      simpa using (sum_unseen (s c) (fun _ => 1) (B + c.val) μ n 128 (by omega)).symm
    · pointwise [lastA]
      rw [dif_pos hc, sum_unseen _ _ _ _ _ _ (by omega)]; exact ha d
  obtain ⟨e, he⟩ : ∃ e : Fin 128, c.val = 128 + e.val := ⟨⟨c.val - 128, by omega⟩, by simp; omega⟩
  obtain rfl : c = ⟨128 + e.val, Nat.add_lt_add_left e.isLt 128⟩ := Fin.ext he
  obtain ⟨μ₁, hμ₁⟩ := top2_real hs e (by omega)
  have hu : up m (ix2 0 e) = (μ : EReal) := by
    pointwise [up]
    exact hμ
  have hM : lastM m sv (ix2 0 e) = ((max μ μ₁ : ℝ) : EReal) := by
    pointwise [lastM]
    rw [hu, hμ₁]; exact (EReal.coe_strictMono.monotone.map_max).symm
  have hw := fun k => wt2_apply hs hM k
  have hf : fac2 (up m) (lastM m sv) (ix2 0 e) = (((2 : ℝ) ^ (μ - max μ μ₁) : ℝ) : EReal) := by
    pointwise [fac2]
    rw [hu, hM, ← EReal.coe_sub]; rfl
  refine ⟨max μ μ₁, ⟨fun r => (2 : ℝ) ^ (μ - max μ μ₁) * L r + ∑ j ∈ Finset.range 16, w (s ⟨128 + e.val, by omega⟩) (B + (128 + e.val)) (max μ μ₁) (n + (8 * j + r.val)),
    fun r => ?_, ?_⟩, fun d => ?_⟩
  · have := grp2_apply _ (fun k => w (s ⟨128 + e.val, by omega⟩) (B + (128 + e.val)) (max μ μ₁) (n + k)) e hw r
    pointwise [lastL]
    rw [hf, this]
    refine (congrArg (_ * · + _) (hL r)).trans ?_
    rw [EReal.coe_add, EReal.coe_mul]
  · rw [Finset.sum_add_distrib, ← Finset.mul_sum, hLs, sum_rows (fun k => w (s ⟨128 + e.val, by omega⟩) (B + (128 + e.val)) (max μ μ₁) (n + k))]
    simpa using sum_step (s ⟨128 + e.val, by omega⟩) (fun _ => 1) (B + (128 + e.val)) μ (max μ μ₁) n 128
  · have := pv2_apply hv _ (fun k => w (s ⟨128 + e.val, by omega⟩) (B + (128 + e.val)) (max μ μ₁) (n + k)) e hw d
    pointwise [lastA]
    rw [hf, this]
    refine (congrArg (_ * · + _) (ha d)).trans ?_
    rw [← EReal.coe_mul, ← EReal.coe_add, sum_step]

/-- The quotient of the sums is the softmax average. -/
theorem quo_eq {n : ℕ} {l : FVec Ideal S8x256 .f32} {a : FVec Ideal S128x256 .f32} (h : Done s V B n l a) (hn : n = B + 256) (hB : n ≤ 2048)
    (d : Fin 128) (c : Fin 256) : quo l a (ix2 d c) = (avg (s c) (V d) (B + c.val) : EReal) := by
  obtain ⟨μ, ⟨L, hL, hLs⟩, ha⟩ := h c
  pointwise [quo]
  simp only [hL, ha]
  rw [coe_sum, hLs, show (1 : EReal) = ((1 : ℝ) : EReal) from rfl, Ideal.div_coe (sum_w_pos _ _ _ _ (by omega)).ne', ← EReal.coe_mul, ← EReal.coe_mul,
    ← quot_eq (s c) (V d) (B + c.val) μ n (by omega) hB]
  congr 1; ring

/-- A chunk of scores that every column sees whole. -/
theorem sc_plain {K : ℕ → Fin 128 → ℝ} {Q : Fin 128 → Fin 256 → ℝ} {n : ℕ} {q : FVec Ideal S128x256 .bf16} {kk : FVec Ideal S1x128x128 .bf16}
    (hk : ∀ k d : Fin 128, kk (ix3 0 k d) = (K (n + k.val) d : EReal)) (hq : ∀ d c, q (ix2 d c) = (Q d c : EReal)) (hn : n + 128 ≤ B + 1) :
    Sc (fun c k => ∑ d, K k d * Q d c) B n (sc q kk) := fun k c => by
  rw [if_pos (by omega)]
  pointwise [sc]
  rw [← coe_sum]
  exact Finset.sum_congr rfl fun d _ => by rw [hk, hq, EReal.coe_mul]

/-- The diagonal chunk of scores, masked by the bias. -/
theorem sc_bias {K : ℕ → Fin 128 → ℝ} {Q : Fin 128 → Fin 256 → ℝ} {n : ℕ} {q b : FVec Ideal _ _} {kk : FVec Ideal S1x128x128 .bf16}
    (hk : ∀ k d : Fin 128, kk (ix3 0 k d) = (K (n + k.val) d : EReal)) (hq : ∀ d c, q (ix2 d c) = (Q d c : EReal))
    (hb : ∀ (k : Fin 128) (c : Fin 256), b (ix2 k c) = if k.val ≤ c.val then 0 else ⊥) (hn : n = B) :
    Sc (fun c k => ∑ d, K k d * Q d c) B n (addf (sc q kk) b) := fun k c => by
  have e : sc q kk (ix2 k c) = ((∑ d, K (n + k.val) d * Q d c : ℝ) : EReal) := by
    pointwise [sc]
    rw [← coe_sum]
    exact Finset.sum_congr rfl fun d _ => by rw [hk, hq, EReal.coe_mul]
  show sc q kk (ix2 k c) + b (ix2 k c) = _
  rw [e, hb]
  simp only [hn, Nat.add_le_add_iff_left]
  split <;> simp

/-- The last chunk of scores, masked by the bias. -/
theorem sc2_bias {K : ℕ → Fin 128 → ℝ} {Q : Fin 128 → Fin 256 → ℝ} {n : ℕ} {q : FVec Ideal S128x256 .bf16} {b : FVec Ideal S128x128 .f32} {kk : FVec Ideal S1x128x128 .bf16}
    (hk : ∀ k d : Fin 128, kk (ix3 0 k d) = (K (n + k.val) d : EReal)) (hq : ∀ d c, q (ix2 d c) = (Q d c : EReal))
    (hb : ∀ k c : Fin 128, b (ix2 k c) = if k.val ≤ c.val then 0 else ⊥) (hn : n = B + 128) :
    Sc2 (fun c k => ∑ d, K k d * Q d c) B n (addf (sc2 q kk) b) := fun k c => by
  have e : sc2 q kk (ix2 k c) = ((∑ d, K (n + k.val) d * Q d ⟨128 + c.val, by omega⟩ : ℝ) : EReal) := by
    pointwise [sc2]
    rw [← coe_sum]
    exact Finset.sum_congr rfl fun d _ => by rw [hk, hq, EReal.coe_mul]
  show sc2 q kk (ix2 k c) + b (ix2 k c) = _
  rw [e, hb]
  simp only [hn, ← Nat.add_assoc, Nat.add_le_add_iff_left]
  split <;> simp

end Cert.KernelIdeal.Attn
-- ==== Proof.AttnFn.lean ====
/- The differential attention's output as one formula of its arguments: two causal softmax averages, their difference,
   and its norm. -/
module

public import proofs.«01_k».proof.Proof.AttnMath

@[expose] public section
noncomputable section
open Idealize.ShloMosaic
namespace Cert.Attn

/-- The score of key `j` for query `r` in half `h` of the head whose columns start at `o`. -/
def sco (q k : ℕ → ℕ → ℝ) (o h r j : ℕ) : ℝ := ∑ d : Fin 128, k j (o + d.val) * if d.val / 64 = h then q r (o + d.val) else 0

/-- One column of the difference of the head's two averages. -/
def mix (q k v : ℕ → ℕ → ℝ) (lam : EReal) (o r : ℕ) (e : Fin 128) : EReal :=
  (avg (sco q k o 0 r) (fun j => v j (o + e.val)) r : EReal) - lam * (avg (sco q k o 1 r) (fun j => v j (o + e.val)) r : EReal)

/-- A head's row divided by its root mean square, times the gain and a constant. -/
def nrm1 (D g : Fin 128 → EReal) (e : Fin 128) : EReal :=
  D e * Ideal.rsqrt (Ideal.div (∑ x, D x * D x) (Ideal.ofBits .f32 0x43000000#32) + Ideal.ofBits .f32 0x3727C5AC#32) * g e * Ideal.ofBits .f32 0x3F4CCCCD#32

/-- The output's column `c`, row `r`: the head is `c / 128`, and `q k v` are read at its columns. -/
def outAt (q k v : ℕ → ℕ → ℝ) (lam : EReal) (g : Fin 128 → EReal) (r c : ℕ) : EReal :=
  nrm1 (mix q k v lam (128 * (c / 128)) r) g ⟨c % 128, Nat.mod_lt _ (by norm_num)⟩

/-- The weight of the second average. -/
def lamOf (a b c d : Fin 64 → EReal) : EReal := Ideal.exp (∑ x, a x * b x) - Ideal.exp (∑ x, c x * d x) + Ideal.ofBits .f32 0x3E4CCCCD#32

theorem sco_congr {q k q' k' : ℕ → ℕ → ℝ} {o o' : ℕ} (hq : ∀ r, ∀ d < 128, q r (o + d) = q' r (o' + d)) (hk : ∀ r, ∀ d < 128, k r (o + d) = k' r (o' + d))
    (h r : ℕ) : sco q k o h r = sco q' k' o' h r := by
  funext j
  exact Finset.sum_congr rfl fun d _ => by rw [hk _ _ d.isLt, hq _ _ d.isLt]

/-- The output depends on the head's own columns alone. -/
theorem outAt_congr {q k v q' k' v' : ℕ → ℕ → ℝ} {lam lam' : EReal} {g g' : Fin 128 → EReal} {c c' : ℕ}
    (hq : ∀ r, ∀ d < 128, q r (128 * (c / 128) + d) = q' r (128 * (c' / 128) + d)) (hk : ∀ r, ∀ d < 128, k r (128 * (c / 128) + d) = k' r (128 * (c' / 128) + d))
    (hv : ∀ r, ∀ d < 128, v r (128 * (c / 128) + d) = v' r (128 * (c' / 128) + d)) (hl : lam = lam') (hg : g = g') (hc : c % 128 = c' % 128) (r : ℕ) :
    outAt q k v lam g r c = outAt q' k' v' lam' g' r c' := by
  subst hl hg
  unfold outAt
  have : mix q k v lam (128 * (c / 128)) r = mix q' k' v' lam (128 * (c' / 128)) r := by
    funext e
    unfold mix
    simp only [sco_congr hq hk, hv _ _ e.isLt]
  rw [this]
  congr 1
  exact Fin.ext hc

/-- The columns of the projected array from `s` on, of sequence `b`, as real numbers. -/
def colsOf (A : (⟨3, ![16, 2048, 3072]⟩ : Shape).Idx → EReal) (b : Fin 16) (s r c : ℕ) : ℝ :=
  (A (ix3 b ⟨r % 2048, Nat.mod_lt _ (by norm_num)⟩ ⟨(s + c) % 3072, Nat.mod_lt _ (by norm_num)⟩)).toReal

/-- The attention's output array. -/
def attnOut (A : (⟨3, ![16, 2048, 3072]⟩ : Shape).Idx → EReal) (a b c d : (⟨2, ![1, 64]⟩ : Shape).Idx → EReal) (g : (⟨2, ![1, 128]⟩ : Shape).Idx → EReal) :
    (⟨3, ![16, 2048, 512]⟩ : Shape).Idx → EReal := fun z =>
  outAt (colsOf A (z 0) 0) (colsOf A (z 0) 512) (colsOf A (z 0) 1024)
    (lamOf (fun x => a (ix2 0 x)) (fun x => b (ix2 0 x)) (fun x => c (ix2 0 x)) (fun x => d (ix2 0 x))) (fun e => g (ix2 0 e)) (z 1).val (z 2).val

end Cert.Attn
-- ==== Proof.Attn.lean ====
/- The differential attention's output array at the end of the kernel's run. -/
module

public import proofs.«01_k».proof.Proof.AttnRun
public import proofs.«01_k».proof.Proof.AttnFn
public import Idealize.ShloMosaic.Lib.Pipeline.ReadBack

@[expose] public section
set_option maxRecDepth 65536
noncomputable section
open Idealize.ShloMosaic Idealize.ShloMosaic.TcCoe Idealize.SL.Sem
open Idealize.ShloMosaic.Pipeline (Dat)
namespace Cert.KernelIdeal.Value
open Cert.KernelIdeal Cert.KernelIdeal.Gen Cert.KernelIdeal.Attn Cert.Attn Cert.Ffn

/-- A block of rows as real numbers. -/
def rl (x : FVec Ideal S1x2048x256 .bf16) (r c : ℕ) : ℝ :=
  (x (ix3 0 ⟨r % 2048, Nat.mod_lt _ (by norm_num)⟩ ⟨c % 256, Nat.mod_lt _ (by norm_num)⟩)).toReal

theorem rl_eq {x : FVec Ideal S1x2048x256 .bf16} (hx : ∀ i, Real' (x i)) (r : Fin 2048) (c : Fin 256) : x (ix3 0 r c) = (rl x r.val c.val : EReal) := by
  unfold rl
  simp only [Nat.mod_eq_of_lt r.isLt, Nat.mod_eq_of_lt c.isLt]
  obtain ⟨a, ha⟩ := hx (ix3 0 r c)
  rw [ha, EReal.toReal_coe]

/-- A chunk of keys, loaded from its block. -/
theorem ld_rl {x : FVec Ideal S1x2048x256 .bf16} (hx : ∀ i, Real' (x i)) {n o N : ℕ} (inb) (k : Fin N) (d : Fin 128) :
    View.ld (Val := Elt Ideal) (e' := .bf16) x (Rect.unit (s := S1x2048x256) ![0, n, o] ![1, N, 128] inb) (ix3 (n0 := 1) (n1 := N) (n2 := 128) 0 k d) = (rl x (n + k.val) (o + d.val) : EReal) := by
  have h1 : n + N ≤ 2048 := inb 1
  have h2 : o + 128 ≤ 256 := inb 2
  refine Eq.trans ?_ (rl_eq hx ⟨n + k.val, by omega⟩ ⟨o + d.val, by omega⟩)
  rw [View.ld_apply]
  congr 1
  funext a
  apply Fin.ext
  fin_cases a <;> simp [LoadRect.idx_apply]

/-- The transposed rows. -/
theorem tr_apply (w : FVec Ideal S1x2048x128 .bf16) (d : Fin 128) (c : Fin 2048) : k0_pay2 (F := Ideal) w (ix2 d c) = w (ix3 0 c d) := by
  pointwise [k0_pay2]

/-- One tile of queries or values read back from the scratch that holds them transposed. -/
theorem tr_rl {x : FVec Ideal S1x2048x256 .bf16} (hx : ∀ i, Real' (x i)) {o p N : ℕ} {κ : Kind} {sp : Space} (v : View sig κ sp S128x2048 .bf16) (inb) (inb0) (inb1) (d : Fin 128) (c : Fin N) :
    v.readCov (Val := Elt Ideal) [⟨Rect.unit (s := S128x2048) ![0, 0] ![128, 2048] inb0, k0_pay2 (F := Ideal) (View.ld (e' := .bf16) x (Rect.unit (s := S1x2048x256) ![0, 0, o] ![1, 2048, 128] inb))⟩]
      (Rect.unit (s := S128x2048) ![0, p] ![128, N] inb1).toLoadRect (ix2 (n0 := 128) (n1 := N) d c) = (rl x (p + c.val) (o + d.val) : EReal) := by
  have h1 : p + N ≤ 2048 := inb1 1
  rw [View.readCov_eq_canon', View.canon_cons_unit_lit inb0 _ _ (by decide)]
  have e : (Rect.unit (s := S128x2048) ![0, p] ![128, N] inb1).toLoadRect.idx (ix2 (n0 := 128) (n1 := N) d c) = ix2 d ⟨p + c.val, by omega⟩ := by
    funext a
    apply Fin.ext
    fin_cases a <;> simp [LoadRect.idx_apply]
  refine (congrArg (k0_pay2 (F := Ideal) _) e).trans ((tr_apply _ d ⟨p + c.val, by omega⟩).trans ((ld_rl hx inb ⟨p + c.val, by omega⟩ d).trans ?_))
  rw [Nat.zero_add]

theorem half : ∀ d : Fin 128, IntOp.cmpi .slt (BitVec.ofNat 32 d.val) 64#32 = if d.val / 64 = 0 then 1#1 else 0#1 := by decide +kernel

theorem half' : ∀ d : Fin 128, IntOp.cmpi .slt (BitVec.ofNat 32 d.val) 64#32 = if d.val / 64 = 1 then 0#1 else 1#1 := by decide +kernel

/-- The queries with the upper half of the head's columns set to zero. -/
theorem lo_apply {q : FVec Ideal S128x256 .bf16} {f : Fin 128 → Fin 256 → ℝ} (h : ∀ d c, q (ix2 d c) = (f d c : EReal)) (d : Fin 128) (c : Fin 256) :
    k0_pay1851 (F := Ideal) k0_pay4 q (ix2 d c) = ((if d.val / 64 = 0 then f d c else 0 : ℝ) : EReal) := by
  pointwise [k0_pay1851, k0_pay4]
  rw [half, h]
  split <;> simp [Scalar.select]

theorem hi_apply {q : FVec Ideal S128x256 .bf16} {f : Fin 128 → Fin 256 → ℝ} (h : ∀ d c, q (ix2 d c) = (f d c : EReal)) (d : Fin 128) (c : Fin 256) :
    k0_pay1852 (F := Ideal) k0_pay4 q (ix2 d c) = ((if d.val / 64 = 1 then f d c else 0 : ℝ) : EReal) := by
  pointwise [k0_pay1852, k0_pay4]
  rw [half', h]
  split <;> simp [Scalar.select]

/-- The scores of a tile's half-head: its queries start at row `p`, its columns at `o`. -/
abbrev SS (x0 x1 : FVec Ideal S1x2048x256 .bf16) (o p h : ℕ) : Fin 256 → ℕ → ℝ := fun c => sco (rl x0) (rl x1) o h (p + c.val)

/-- Its values. -/
abbrev VV (x2 : FVec Ideal S1x2048x256 .bf16) (o : ℕ) : Fin 128 → ℕ → ℝ := fun d n => rl x2 n (o + d.val)

section Rules
variable (x0 x1 : FVec Ideal S1x2048x256 .bf16) (o p h n : ℕ) (q : FVec Ideal S128x256 .bf16) (kk : FVec Ideal S1x128x128 .bf16)

/-- A chunk of keys from row `n` on. -/
def Kc : Prop := ∀ k d : Fin 128, kk (ix3 0 k d) = (rl x1 (n + k.val) (o + d.val) : EReal)

/-- A tile of queries, zero outside half `h`. -/
def Qc : Prop := ∀ d c, q (ix2 d c) = ((if d.val / 64 = h then rl x0 (p + c.val) (o + d.val) else 0 : ℝ) : EReal)

/-- The mask of a diagonal chunk. -/
def Bc (b : FVec Ideal S128x256 .f32) : Prop := ∀ (k : Fin 128) (c : Fin 256), b (ix2 k c) = if k.val ≤ c.val then 0 else ⊥

/-- The mask of a last chunk. -/
def Bc2 (b : FVec Ideal S128x128 .f32) : Prop := ∀ k c : Fin 128, b (ix2 k c) = if k.val ≤ c.val then 0 else ⊥

variable {x0 x1 o p h n q kk}

theorem ss_plain (hk : Kc x1 o n kk) (hq : Qc x0 o p h q) (hn : n + 128 ≤ p + 1) : Sc (SS x0 x1 o p h) p n (sc q kk) :=
  sc_plain (K := fun n d => rl x1 n (o + d.val)) (Q := fun d c => if d.val / 64 = h then rl x0 (p + c.val) (o + d.val) else 0) hk hq hn

theorem ss_bias {b : FVec Ideal S128x256 .f32} (hk : Kc x1 o p kk) (hq : Qc x0 o p h q) (hb : Bc b) :
    Sc (SS x0 x1 o p h) p p (addf (sc q kk) b) :=
  sc_bias (K := fun n d => rl x1 n (o + d.val)) (Q := fun d c => if d.val / 64 = h then rl x0 (p + c.val) (o + d.val) else 0) hk hq hb rfl

theorem ss2_bias {b : FVec Ideal S128x128 .f32} (hk : Kc x1 o n kk) (hq : Qc x0 o p h q) (hb : Bc2 b) (hn : n = p + 128) :
    Sc2 (SS x0 x1 o p h) p n (addf (sc2 q kk) b) :=
  sc2_bias (K := fun n d => rl x1 n (o + d.val)) (Q := fun d c => if d.val / 64 = h then rl x0 (p + c.val) (o + d.val) else 0) hk hq hb hn

end Rules

/-- A block of the output: each row and column by the formula, on the block's own queries, keys and values. -/
def blkOut (x0 x1 x2 : FVec Ideal S1x2048x256 .bf16) (lam : FVec Ideal S1x1 .f32) (gain : FVec Ideal S1x128 .f32) : S1x2048x256.Idx → EReal :=
  fun z => outAt (rl x0) (rl x1) (rl x2) (lam (ix2 0 0)) (fun e => gain (ix2 0 e)) (z 1).val (z 2).val

theorem fin_apply (d : FVec Ideal S256x128 .f32) (g : FVec Ideal S1x128 .f32) (c : Fin 256) (e : Fin 128) :
    fin d g (ix3 0 c e) = nrm1 (fun e => d (ix2 c e)) (fun e => g (ix2 0 e)) e := by
  pointwise [fin, nrm1]

theorem dif_apply (lam : FVec Ideal S1x1 .f32) (lo hi : FVec Ideal S128x256 .f32) (c : Fin 256) (e : Fin 128) :
    dif lam lo hi (ix2 c e) = lo (ix2 e c) - lam (ix2 0 0) * hi (ix2 e c) := by
  pointwise [dif]

/-- A stored tile holds the formula's values at its place. -/
theorem piece {x0 x1 x2 : FVec Ideal S1x2048x256 .bf16} {lam : FVec Ideal S1x1 .f32} {gain : FVec Ideal S1x128 .f32} {p o : ℕ}
    {l1 l2 : FVec Ideal S8x256 .f32} {a1 a2 : FVec Ideal S128x256 .f32} (inb) (ho : 128 * (o / 128) = o)
    (h1 : Done (SS x0 x1 o p 0) (VV x2 o) p (p + 256) l1 a1) (h2 : Done (SS x0 x1 o p 1) (VV x2 o) p (p + 256) l2 a2) :
    ∀ x : (Rect.unit (s := S1x2048x256) ![0, p, o] ![1, 256, 128] inb).shape.Idx, fin (dif lam (quo l1 a1) (quo l2 a2)) gain x
      = blkOut x0 x1 x2 lam gain ((Rect.unit (s := S1x2048x256) ![0, p, o] ![1, 256, 128] inb).emb x) := fun (j : S1x256x128.Idx) => by
  have hp : p + 256 ≤ 2048 := inb 1
  idx_vars j
  obtain rfl : j0 = 0 := Subsingleton.elim _ _
  refine (fin_apply _ _ j1 j2).trans ?_
  unfold blkOut outAt
  have e1 : (((Rect.unit (s := S1x2048x256) ![0, p, o] ![1, 256, 128] inb).emb (ix3 0 j1 j2)) 1).val = p + j1.val := ValueKit.rect_emb_unit_val ..
  have e2 : (((Rect.unit (s := S1x2048x256) ![0, p, o] ![1, 256, 128] inb).emb (ix3 0 j1 j2)) 2).val = o + j2.val := ValueKit.rect_emb_unit_val ..
  rw [e1, e2]
  have e3 : 128 * ((o + j2.val) / 128) = o := by omega
  have e4 : (⟨(o + j2.val) % 128, Nat.mod_lt _ (by norm_num)⟩ : Fin 128) = j2 := Fin.ext (by show (o + j2.val) % 128 = j2.val; omega)
  rw [e3, e4]
  congr 1
  funext e
  rw [dif_apply, quo_eq h1 rfl hp, quo_eq h2 rfl hp]
  rfl

end Cert.KernelIdeal.Value
-- ==== Proof.AttnBias.lean ====
/- The attention's mask: the table the kernel adds to the scores on the diagonal. -/
module

public import proofs.«01_k».proof.Proof.Gen.KernelIdeal.Value
public import proofs.«01_k».proof.Proof.AttnMath

@[expose] public section
set_option maxRecDepth 65536
set_option maxHeartbeats 4000000
noncomputable section
open Idealize.ShloMosaic Idealize.ShloMosaic.TcCoe Idealize.SL.Sem
namespace Cert.KernelIdeal.Attn
open Cert.KernelIdeal Cert.KernelIdeal.Gen Cert.Attn

/-- Row `a` of the table from column `o` on, `n` columns: zero on and above the diagonal, negative infinity below it. -/
abbrev Row (a o n : ℕ) : Prop := ∀ b : Fin n, lit0t (256 * a + (o + b.val)) = if a ≤ o + b.val then 0x00000000#32 else 0xFF800000#32

/-- The upper half of the rows. -/
theorem upper : ∀ p < 32, ∀ a : Fin 4, Row (4 * p + a.val) 0 256 := by
  intro p hp
  interval_cases p <;> decide +kernel

/-- The lower half of the rows, in the columns that a query reads there. -/
theorem lower : ∀ p < 32, ∀ a : Fin 4, Row (128 + (4 * p + a.val)) 128 128 := by
  intro p hp
  interval_cases p <;> decide +kernel

end Cert.KernelIdeal.Attn
-- ==== Proof.AttnOut.lean ====
/- The differential attention's output array at the end of the kernel's run. -/
module

public import proofs.«01_k».proof.Proof.Attn
public import proofs.«01_k».proof.Proof.AttnBias

@[expose] public section
set_option maxRecDepth 65536
set_option maxHeartbeats 1000000
noncomputable section
open Idealize.ShloMosaic Idealize.ShloMosaic.TcCoe Idealize.SL.Sem
open Idealize.ShloMosaic.Pipeline (Dat)
namespace Cert.KernelIdeal.Value
open Cert.KernelIdeal Cert.KernelIdeal.Gen Cert.KernelIdeal.Attn Cert.Attn Cert.Ffn

variable (m : (ℓ : Loc nD τ sig) → Buf (Elt Ideal) ℓ)

section Halves
variable {x : FVec Ideal S1x2048x256 .bf16} (hx : ∀ i, Real' (x i)) {o p : ℕ} {κ : Kind} {sp : Space} (v : View sig κ sp S128x2048 .bf16)
include hx

/-- The first half-head's queries of a tile. -/
theorem lo_rl (inb) (inb0) (inb1) :
    Qc x o p 0 (k0_pay1851 (F := Ideal) k0_pay4 (v.readCov (Val := Elt Ideal) [⟨Rect.unit (s := S128x2048) ![0, 0] ![128, 2048] inb0, k0_pay2 (F := Ideal) (View.ld (e' := .bf16) x (Rect.unit (s := S1x2048x256) ![0, 0, o] ![1, 2048, 128] inb))⟩]
      (Rect.unit (s := S128x2048) ![0, p] ![128, 256] inb1).toLoadRect)) := fun d c =>
  lo_apply (f := fun d c => rl x (p + c.val) (o + d.val)) (fun d c => tr_rl hx v inb inb0 inb1 d c) d c

/-- The second half-head's. -/
theorem hi_rl (inb) (inb0) (inb1) :
    Qc x o p 1 (k0_pay1852 (F := Ideal) k0_pay4 (v.readCov (Val := Elt Ideal) [⟨Rect.unit (s := S128x2048) ![0, 0] ![128, 2048] inb0, k0_pay2 (F := Ideal) (View.ld (e' := .bf16) x (Rect.unit (s := S1x2048x256) ![0, 0, o] ![1, 2048, 128] inb))⟩]
      (Rect.unit (s := S128x2048) ![0, p] ![128, 256] inb1).toLoadRect)) := fun d c =>
  hi_apply (f := fun d c => rl x (p + c.val) (o + d.val)) (fun d c => tr_rl hx v inb inb0 inb1 d c) d c

/-- A chunk of keys. -/
theorem kc_rl {n : ℕ} (inb) : Kc x o n (View.ld (Val := Elt Ideal) (e' := .bf16) x (Rect.unit (s := S1x2048x256) ![0, n, o] ![1, 128, 128] inb)) :=
  fun k d => ld_rl hx inb k d

/-- A chunk of values. -/
theorem vc_rl {n : ℕ} (inb) (inb0) (inb1) :
    Vc (VV x o) n (v.readCov (Val := Elt Ideal) [⟨Rect.unit (s := S128x2048) ![0, 0] ![128, 2048] inb0, k0_pay2 (F := Ideal) (View.ld (e' := .bf16) x (Rect.unit (s := S1x2048x256) ![0, 0, o] ![1, 2048, 128] inb))⟩]
      (Rect.unit (s := S128x2048) ![0, n] ![128, 128] inb1).toLoadRect) := fun d k => tr_rl hx v inb inb0 inb1 d k

end Halves

theorem idx : ∀ t : Fin cfg0.N, win0_0.index t = ![t.val / 2, 0, t.val % 2] ∧ win0_1.index t = ![t.val / 2, 0, 2 + t.val % 2] ∧ win0_2.index t = ![t.val / 2, 0, 4 + t.val % 2] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![t.val / 2, 0, t.val % 2] :=
  (by decide +kernel : ∀ t : Fin grid0.N, _)

/-- The projected array's columns that a grid point reads. -/
theorem blk0 (c : Dev nD) (t : Fin cfg0.N) (r : Fin 2048) (e : Fin 256) (i : Fin 16) (hi : i.val = t.val / 2) (j : Fin 3072) (hj : j.val = 256 * (t.val % 2) + e.val) :
    iblk m c 0 t (ix3 0 r e) = m ((c : Thread nD τ).loc main_arg0) (ix3 i r j) := by
  blk_point [iblk, V, idx t]

theorem blk1 (c : Dev nD) (t : Fin cfg0.N) (r : Fin 2048) (e : Fin 256) (i : Fin 16) (hi : i.val = t.val / 2) (j : Fin 3072) (hj : j.val = 512 + (256 * (t.val % 2) + e.val)) :
    iblk m c 1 t (ix3 0 r e) = m ((c : Thread nD τ).loc main_arg0) (ix3 i r j) := by
  blk_point [iblk, V, idx t]

theorem blk2 (c : Dev nD) (t : Fin cfg0.N) (r : Fin 2048) (e : Fin 256) (i : Fin 16) (hi : i.val = t.val / 2) (j : Fin 3072) (hj : j.val = 1024 + (256 * (t.val % 2) + e.val)) :
    iblk m c 2 t (ix3 0 r e) = m ((c : Thread nD τ).loc main_arg0) (ix3 i r j) := by
  blk_point [iblk, V, idx t]

theorem lam_eq (c : Dev nD) (t : Fin cfg0.N) : k0_pay1 (iblk m c 4 t) (iblk m c 5 t) (iblk m c 6 t) (iblk m c 7 t) (ix2 0 0) = lamOf (fun x => m ((c : Thread nD τ).loc main_arg1) (ix2 0 x)) (fun x => m ((c : Thread nD τ).loc main_arg2) (ix2 0 x)) (fun x => m ((c : Thread nD τ).loc main_arg3) (ix2 0 x)) (fun x => m ((c : Thread nD τ).loc main_arg4) (ix2 0 x)) := by
  pointwise [k0_pay1, lamOf]
  blk_point [iblk, V, idx t]

theorem gain_eq (c : Dev nD) (t : Fin cfg0.N) (e : Fin 128) : iblk m c 8 t (ix2 0 e) = m ((c : Thread nD τ).loc main_arg5) (ix2 0 e) := by
  blk_point [iblk, V, idx t]

/-- The mask's table as the call reads it. -/
theorem V_cst (c : Dev nD) (i : S256x256.Idx) : (V m c main_cst : FVec Ideal S256x256 .f32) i = Ideal.ofBits .f32 (lit0 (S256x256.rowMajor i)) := by
  entry_read
  rfl

theorem blk3 (c : Dev nD) (t : Fin cfg0.N) (a b : Fin 256) : iblk m c 3 t (ix2 a b) = Ideal.ofBits .f32 (lit0t (256 * a.val + b.val)) := by
  refine Eq.trans ?_ ((V_cst m c (ix2 a b)).trans ?_)
  · blk_point [iblk, idx t]
  · have e : (S256x256.rowMajor (ix2 a b)).val = 256 * a.val + b.val := (Shape.rowMajor_val_two (ix2 a b)).trans (by show a.val * 256 + b.val = _; omega)
    exact congrArg (fun n => Ideal.ofBits .f32 (lit0t n)) e

/-- At real queries, keys and values each block is real. -/
theorem row_real (c : Dev nD) (hA : ∀ i j k, k.val < 1536 → Real' (m ((c : Thread nD τ).loc main_arg0) (ix3 (n0 := 16) (n1 := 2048) (n2 := 3072) i j k))) (t : Fin cfg0.N) :
    (∀ i, Real' (iblk m c 0 t i)) ∧ (∀ i, Real' (iblk m c 1 t i)) ∧ ∀ i, Real' (iblk m c 2 t i) := by
  have ht : t.val < 32 := t.isLt
  refine ⟨fun (i : S1x2048x256.Idx) => ?_, fun (i : S1x2048x256.Idx) => ?_, fun (i : S1x2048x256.Idx) => ?_⟩
  all_goals
    idx_vars i
    obtain rfl : i0 = 0 := Subsingleton.elim _ _
  · rw [blk0 m c t i1 i2 ⟨t.val / 2, by omega⟩ rfl ⟨256 * (t.val % 2) + i2.val, by omega⟩ rfl]
    exact hA _ _ _ (by show 256 * (t.val % 2) + i2.val < 1536; omega)
  · rw [blk1 m c t i1 i2 ⟨t.val / 2, by omega⟩ rfl ⟨512 + (256 * (t.val % 2) + i2.val), by omega⟩ rfl]
    exact hA _ _ _ (by show 512 + (256 * (t.val % 2) + i2.val) < 1536; omega)
  · rw [blk2 m c t i1 i2 ⟨t.val / 2, by omega⟩ rfl ⟨1024 + (256 * (t.val % 2) + i2.val), by omega⟩ rfl]
    exact hA _ _ _ (by show 1024 + (256 * (t.val % 2) + i2.val) < 1536; omega)

/-- A grid point's block of the formula. -/
theorem blk_out (c : Dev nD) (t : Fin cfg0.N) (y : S1x2048x256.Idx) (z : S16x2048x512.Idx) (z0 : (z 0).val = t.val / 2) (z1 : (z 1).val = (y 1).val) (z2 : (z 2).val = 256 * (t.val % 2) + (y 2).val) :
    blkOut (iblk m c 0 t) (iblk m c 1 t) (iblk m c 2 t) (k0_pay1 (iblk m c 4 t) (iblk m c 5 t) (iblk m c 6 t) (iblk m c 7 t)) (iblk m c 8 t) y =
    attnOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) z := by
  have hy : (y 2).val < 256 := (y 2).isLt
  unfold blkOut attnOut
  rw [z1, z2]
  refine outAt_congr (fun r d hd => ?_) (fun r d hd => ?_) (fun r d hd => ?_) (lam_eq m c t) (funext fun e => gain_eq m c t e) (by omega) _
  · exact congrArg EReal.toReal (blk0 m c t _ _ _ z0 _ (by show (0 + _) % 3072 = 256 * (t.val % 2) + _ % 256; omega))
  · exact congrArg EReal.toReal (blk1 m c t _ _ _ z0 _ (by show (512 + _) % 3072 = 512 + (256 * (t.val % 2) + _ % 256); omega))
  · exact congrArg EReal.toReal (blk2 m c t _ _ _ z0 _ (by show (1024 + _) % 3072 = 1024 + (256 * (t.val % 2) + _ % 256); omega))

/-- The mask of the diagonal chunk. -/
theorem mask_all (c : Dev nD) (t) (inb) :
    Bc (View.ld (Val := Elt Ideal) (e' := .f32) (iblk m c 3 t) (Rect.unit (s := S256x256) ![0, 0] ![128, 256] inb)) := fun k j => by
  have h := upper (k.val / 4) (by omega) ⟨k.val % 4, by omega⟩ j
  refine Eq.trans ?_ ((blk3 m c t ⟨k.val, by omega⟩ j).trans ?_)
  · rw [View.ld_apply]
    congr 1
    funext a
    apply Fin.ext
    fin_cases a <;> simp [LoadRect.idx_apply]
  · rw [show 4 * (k.val / 4) + (⟨k.val % 4, by omega⟩ : Fin 4).val = k.val from by show 4 * (k.val / 4) + k.val % 4 = k.val; omega, Nat.zero_add] at h
    refine (congrArg (Ideal.ofBits .f32) h).trans ?_
    split <;> simp [ofBits_neg_inf, Ideal.ofBits_zero]

/-- The mask of the last chunk. -/
theorem mask_low (c : Dev nD) (t) (inb) :
    Bc2 (View.ld (Val := Elt Ideal) (e' := .f32) (iblk m c 3 t) (Rect.unit (s := S256x256) ![128, 128] ![128, 128] inb)) := fun k j => by
  have h := lower (k.val / 4) (by omega) ⟨k.val % 4, by omega⟩ j
  refine Eq.trans ?_ ((blk3 m c t ⟨128 + k.val, by omega⟩ ⟨128 + j.val, by omega⟩).trans ?_)
  · rw [View.ld_apply]
    congr 1
    funext a
    apply Fin.ext
    fin_cases a <;> simp [LoadRect.idx_apply]
  · rw [show 4 * (k.val / 4) + (⟨k.val % 4, by omega⟩ : Fin 4).val = k.val from by show 4 * (k.val / 4) + k.val % 4 = k.val; omega] at h
    refine (congrArg (Ideal.ofBits .f32) h).trans ?_
    simp only [Nat.add_le_add_iff_left]
    split <;> simp [ofBits_neg_inf, Ideal.ofBits_zero]

attribute [local irreducible] Sc Sc2 St Done Vc Kc Qc Bc Bc2

/-- The output array at the end of the run. -/
theorem final (c : Dev nD) (hA : ∀ i j k, k.val < 1536 → Real' (m ((c : Thread nD τ).loc main_arg0) (ix3 (n0 := 16) (n1 := 2048) (n2 := 3072) i j k))) :
    (dats m 0 c).arrAt 9 (cfgs 0).N = attnOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t _ y => ?_
  obtain ⟨h0, h1, h2⟩ := row_real m c hA t
  blk_simp
  rw [after0_9]
  unfold outsAt0
  frame_out
  refine (View.canon_apply_of_pieces (blkOut (iblk m c 0 t) (iblk m c 1 t) (iblk m c 2 t) (k0_pay1 (iblk m c 4 t) (iblk m c 5 t) (iblk m c 6 t) (iblk m c 7 t)) (iblk m c 8 t)) _ (View.PiecesOf.mem ?_) _ (View.cover_of_tiled_head _ _ _ (by rfl) _)).trans ?_
  · refine ⟨?_, ?_, ?_, ?_, ?_, ?_, ?_, ?_, ?_, ?_, ?_, ?_, ?_, ?_, ?_, ?_, trivial⟩
    all_goals refine piece (by decide) rfl ?_ ?_
    all_goals refine st_last ?_ rfl ?_ ?_
    all_goals
      repeat' first
        | refine st_first ?_ ?_
        | refine st_next ?_ (by decide) ?_ ?_
        | refine ss_bias ?_ ?_ ?_
        | refine ss_plain ?_ ?_ (by decide)
        | refine ss2_bias ?_ ?_ ?_ rfl
    all_goals first
      | exact kc_rl h1 (by decide)
      | exact lo_rl h0 _ (by decide) (by decide) (by decide)
      | exact hi_rl h0 _ (by decide) (by decide) (by decide)
      | exact vc_rl h2 _ (by decide) (by decide) (by decide)
      | exact mask_all m c t (by decide)
      | exact mask_low m c t (by decide)
  refine blk_out m c t y _ ?_ ?_ ?_ <;> blk_simp [idx t]
  exact congrArg (· + _) (Nat.mul_comm _ _)

end Cert.KernelIdeal.Value
-- ==== Proof.AttnRef.lean ====
/- The reference's differential attention: its stages as composed, and their values at an index. -/
module

public import proofs.«01_k».proof.Proof.Gen.ReferenceIdeal.Run
public import proofs.«01_k».proof.Proof.AttnFn
public import Idealize.ShloMosaic.Lib.Pointwise

@[expose] public section
set_option maxRecDepth 16384
noncomputable section
open Idealize.ShloMosaic Idealize.ShloMosaic.TcCoe Idealize.SL.Sem
namespace Cert.Attn

/-- A maximum over the last of five axes, at an index. -/
theorem red_max {n0 n1 n2 n3 n4 : ℕ} (x : FVec Ideal ⟨5, ![n0, n1, n2, n3, n4]⟩ .f32) (h : (⟨5, ![n0, n1, n2, n3, n4]⟩ : Shape).ReducesTo [4] ⟨4, ![n0, n1, n2, n3]⟩) (hu)
    (b : Fin n0) (c : Fin n1) (d : Fin n2) (e : Fin n3) :
    Host.reduce FloatOps.maximumf x (constant (F := Ideal) ⟨0, ![]⟩ .f32 0xFF800000#32) h hu (ix4 b c d e)
      = Finset.fold max (Ideal.ofBits .f32 0xFF800000#32) (fun k : Fin n4 => x (ix5 b c d e k)) Finset.univ := by
  pointwise

/-- The same, with the lower bound taken once more. -/
theorem max_red {n0 n1 n2 n3 n4 : ℕ} (x : FVec Ideal ⟨5, ![n0, n1, n2, n3, n4]⟩ .f32) (h : (⟨5, ![n0, n1, n2, n3, n4]⟩ : Shape).ReducesTo [4] ⟨4, ![n0, n1, n2, n3]⟩) (hu) (hb)
    (b : Fin n0) (c : Fin n1) (d : Fin n2) (e : Fin n3) :
    (maximumf (broadcastInDim ⟨4, ![n0, n1, n2, n3]⟩ ![] hb (constant ⟨0, ![]⟩ .f32 0xFF800000#32)) (Host.reduce FloatOps.maximumf x (constant (F := Ideal) ⟨0, ![]⟩ .f32 0xFF800000#32) h hu)) (ix4 b c d e)
      = max (Ideal.ofBits .f32 0xFF800000#32) (Finset.fold max (Ideal.ofBits .f32 0xFF800000#32) (fun k : Fin n4 => x (ix5 b c d e k)) Finset.univ) :=
  congrArg (max (Ideal.ofBits .f32 0xFF800000#32)) (red_max x h hu b c d e)

end Cert.Attn

namespace Cert.ReferenceIdeal.Attn
open Cert.ReferenceIdeal Cert.ReferenceIdeal.Gen Cert.Attn Cert.Ffn

/-- The masked scores, in natural units. -/
def msk (A : FVec Ideal S16x2048x3072 .bf16) : FVec Ideal S16x4x2x2048x2048 .f32 :=
  select (broadcastInDim S16x4x2x2048x2048 ![3, 4] bcast_S2048x2048_S16x4x2x2048x2048_3_4 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))) (mulf (Host.dotGeneral dot_S16x2048x4x2x64_S16x2048x4x2x64_S16x4x2x2048x2048_4_4_1_1_023_023 none (shapeCast _ (extf .f32 (extractStridedSlice S16x2048x512 ![0, 0, 0] A slices_S16x2048x3072_S16x2048x512_0_0_0) bitsLt_bf16_f32) shapeCasts_S16x2048x512_S16x2048x4x2x64) (shapeCast _ (extf .f32 (extractStridedSlice S16x2048x512 ![0, 0, 512] A slices_S16x2048x3072_S16x2048x512_0_0_512) bitsLt_bf16_f32) shapeCasts_S16x2048x512_S16x2048x4x2x64)) (broadcastInDim S16x4x2x2048x2048 ![] bcast_S_S16x4x2x2048x2048 (Host.log (constant S_ .f32 0x40000000#32)))) (broadcastInDim S16x4x2x2048x2048 ![] bcast_S_S16x4x2x2048x2048 (id (constant S_ .f32 0xFF800000#32)))

/-- The largest score of each query. -/
def big (x : FVec Ideal S16x4x2x2048x2048 .f32) : FVec Ideal S16x4x2x2048 .f32 :=
  maximumf (broadcastInDim S16x4x2x2048 ![] bcast_S_S16x4x2x2048 (constant S_ .f32 0xFF800000#32)) (Host.reduce FloatOps.maximumf x (constant S_ .f32 0xFF800000#32) reducesTo_S16x4x2x2048x2048_S16x4x2x2048_d4 h_S_)

/-- A query's value repeated over the keys. -/
def rep (x : FVec Ideal S16x4x2x2048 .f32) : FVec Ideal S16x4x2x2048x2048 .f32 :=
  broadcastInDim S16x4x2x2048x2048 ![0, 1, 2, 3, 4] bcast_S16x4x2x2048x1_S16x4x2x2048x2048_0_1_2_3_4 (broadcastInDim S16x4x2x2048x1 ![0, 1, 2, 3] bcast_S16x4x2x2048_S16x4x2x2048x1_0_1_2_3 x)

/-- The weights before division. -/
def ex (x : FVec Ideal S16x4x2x2048x2048 .f32) : FVec Ideal S16x4x2x2048x2048 .f32 := Host.exp (subf x (rep (big x)))

/-- The softmax. -/
def soft (x : FVec Ideal S16x4x2x2048x2048 .f32) : FVec Ideal S16x4x2x2048x2048 .f32 :=
  Host.divf (ex x) (rep (Host.reduceAdd (ex x) (constant S_ .f32 0x00000000#32) reducesTo_S16x4x2x2048x2048_S16x4x2x2048_d4 h_S_))

/-- The weight of the second softmax. -/
def lamR (a b c d : FVec Ideal S1x64 .f32) : FVec Ideal S_ .f32 :=
  addf (subf (Host.exp (Host.reduceAdd (mulf a b) (constant S_ .f32 0x00000000#32) reducesTo_S1x64_S_d0_1 h_S_)) (Host.exp (Host.reduceAdd (mulf c d) (constant S_ .f32 0x00000000#32) reducesTo_S1x64_S_d0_1 h_S_))) (constant S_ .f32 0x3E4CCCCD#32)

/-- The difference of the two softmaxes. -/
def dmap (p : FVec Ideal S16x4x2x2048x2048 .f32) (lam : FVec Ideal S_ .f32) : FVec Ideal S16x4x2048x2048 .f32 :=
  subf (shapeCast _ (extractStridedSlice S16x4x1x2048x2048 ![0, 0, 0, 0, 0] p slices_S16x4x2x2048x2048_S16x4x1x2048x2048_0_0_0_0_0) shapeCasts_S16x4x1x2048x2048_S16x4x2048x2048) (mulf (broadcastInDim S16x4x2048x2048 ![] bcast_S_S16x4x2048x2048 lam) (shapeCast _ (extractStridedSlice S16x4x1x2048x2048 ![0, 0, 1, 0, 0] p slices_S16x4x2x2048x2048_S16x4x1x2048x2048_0_0_1_0_0) shapeCasts_S16x4x1x2048x2048_S16x4x2048x2048))

/-- The values it weighs. -/
def mixR (A : FVec Ideal S16x2048x3072 .bf16) (p : FVec Ideal S16x4x2048x2048 .f32) : FVec Ideal S16x2048x4x128 .f32 :=
  transpose S16x2048x4x128 [0, 3, 1, 2] (Host.dotGeneral dot_S16x2048x4x128_S16x4x2048x2048_S16x4x128x2048_1_3_3_2_02_01 none (shapeCast _ (extf .f32 (extractStridedSlice S16x2048x512 ![0, 0, 1024] A slices_S16x2048x3072_S16x2048x512_0_0_1024) bitsLt_bf16_f32) shapeCasts_S16x2048x512_S16x2048x4x128) p) transposes_S16x4x128x2048_S16x2048x4x128_0_3_1_2

/-- Each head's row divided by its root mean square, times gain and constant. -/
def outR (O : FVec Ideal S16x2048x4x128 .f32) (g : FVec Ideal S1x128 .f32) : FVec Ideal S16x2048x512 .bf16 :=
  truncf .bf16 (shapeCast _ (mulf (mulf (mulf O (broadcastInDim S16x2048x4x128 ![0, 1, 2, 3] bcast_S16x2048x4x1_S16x2048x4x128_0_1_2_3 (Host.rsqrt (addf (Host.divf (broadcastInDim S16x2048x4x1 ![0, 1, 2] bcast_S16x2048x4_S16x2048x4x1_0_1_2 (Host.reduceAdd (mulf O O) (constant S_ .f32 0x00000000#32) reducesTo_S16x2048x4x128_S16x2048x4_d3 h_S_)) (broadcastInDim S16x2048x4x1 ![] bcast_S_S16x2048x4x1 (constant S_ .f32 0x43000000#32))) (broadcastInDim S16x2048x4x1 ![] bcast_S_S16x2048x4x1 (constant S_ .f32 0x3727C5AC#32)))))) (broadcastInDim S16x2048x4x128 ![0, 1, 2, 3] bcast_S1x1x1x128_S16x2048x4x128_0_1_2_3 (broadcastInDim S1x1x1x128 ![3] bcast_S128_S1x1x1x128_3 (shapeCast _ g shapeCasts_S1x128_S128)))) (broadcastInDim S16x2048x4x128 ![] bcast_S_S16x2048x4x128 (constant S_ .f32 0x3F4CCCCD#32))) shapeCasts_S16x2048x4x128_S16x2048x512) bitsLt_bf16_f32

/-- The whole of it. -/
def refOut (A : FVec Ideal S16x2048x3072 .bf16) (a b c d : FVec Ideal S1x64 .f32) (g : FVec Ideal S1x128 .f32) : FVec Ideal S16x2048x512 .bf16 :=
  outR (mixR A (dmap (soft (msk A)) (lamR a b c d))) g

/-- The program's result is the composed stages. -/
theorem res_eq (m : (ℓ : Loc nD τ sig) → Buf (Elt Ideal) ℓ) (c : Dev nD) : Value.res_out0 m c = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold Value.res_out0 Value.res_main_v65
  rfl

/-- A half-head's score, over its own columns alone. -/
theorem sco_half (q k : ℕ → ℕ → ℝ) (o : ℕ) (h : Fin 2) (r j : ℕ) :
    sco q k o h.val r j = ∑ d : Fin 64, q r (o + (64 * h.val + d.val)) * k j (o + (64 * h.val + d.val)) := by
  unfold sco
  rw [Fin.sum_univ_eq_sum_range (fun d => k j (o + d) * if d / 64 = h.val then q r (o + d) else 0) 128,
    Fin.sum_univ_eq_sum_range (fun d => q r (o + (64 * h.val + d)) * k j (o + (64 * h.val + d))) 64, show 128 = 64 + 64 from rfl, Finset.sum_range_add]
  have e (a : ℕ) : ∑ d ∈ Finset.range 64, (k j (o + (64 * a + d)) * if (64 * a + d) / 64 = h.val then q r (o + (64 * a + d)) else 0)
      = if a = h.val then ∑ d ∈ Finset.range 64, q r (o + (64 * a + d)) * k j (o + (64 * a + d)) else 0 := by
    split
    · refine Finset.sum_congr rfl fun d hd => ?_
      have := Finset.mem_range.1 hd
      rw [if_pos (by omega), mul_comm]
    · refine Finset.sum_eq_zero fun d hd => ?_
      have := Finset.mem_range.1 hd
      rw [if_neg (by omega), mul_zero]
  have e0 := e 0
  have e1 := e 1
  simp only [Nat.mul_zero, Nat.zero_add, Nat.mul_one] at e0 e1
  rw [e0, e1]
  fin_cases h <;> simp

variable {A : FVec Ideal S16x2048x3072 .bf16}

/-- A real entry of the projected array. -/
theorem cols_eq (hA : ∀ i j k, k.val < 1536 → Real' (A (ix3 i j k))) (b : Fin 16) (r : Fin 2048) (k : Fin 3072) (s c : ℕ) (h : k.val = s + c) (hk : k.val < 1536) :
    A (ix3 b r k) = (colsOf A b s r.val c : EReal) := by
  have e1 : (⟨r.val % 2048, Nat.mod_lt _ (by norm_num)⟩ : Fin 2048) = r := Fin.ext (Nat.mod_eq_of_lt r.isLt)
  have e2 : (⟨(s + c) % 3072, Nat.mod_lt _ (by norm_num)⟩ : Fin 3072) = k := Fin.ext (by show (s + c) % 3072 = k.val; omega)
  unfold colsOf
  rw [e1, e2]
  obtain ⟨a, ha⟩ := hA b r k hk
  rw [ha, EReal.toReal_coe]

/-- The mask's comparison of two positions. -/
theorem le_bit (a b : Fin 2048) : IntOp.cmpi .sle (BitVec.ofNat 32 a.val) (BitVec.ofNat 32 b.val) = if a.val ≤ b.val then 1#1 else 0#1 := by
  have e (a : Fin 2048) : (BitVec.ofNat 32 a.val).toInt = a.val := by
    rw [BitVec.toInt_eq_toNat_of_lt (by rw [BitVec.toNat_ofNat]; omega), BitVec.toNat_ofNat]
    congr 1
    omega
  simp only [IntOp.cmpi, BitVec.sle, e, Nat.cast_le]
  by_cases h : a.val ≤ b.val <;> simp [h]

/-- The constant that the base-two scores are multiplied with. -/
theorem log_two : Ideal.log (Ideal.ofBits .f32 0x40000000#32) = (Real.log 2 : EReal) := by
  have : Ideal.ofBits .f32 0x40000000#32 = ((2 : ℝ) : EReal) := by
    simp [Ideal.ofBits, Ideal.ieee]
    exact (EReal.coe_mul _ _).symm.trans (congrArg ((↑) : ℝ → EReal) (by norm_num))
  rw [this, Ideal.log_coe, if_neg (by norm_num)]

/-- The masked scores at an index: the score in natural units, or minus infinity for a later key. -/
theorem msk_apply (hA : ∀ i j k, k.val < 1536 → Real' (A (ix3 i j k))) (b : Fin 16) (h : Fin 4) (f : Fin 2) (r j : Fin 2048) :
    msk A (ix5 b h f r j) = if j.val ≤ r.val then ((sco (colsOf A b 0) (colsOf A b 512) (128 * h.val) f.val r.val j.val * Real.log 2 : ℝ) : EReal) else ⊥ := by
  have e (d : Fin 64) : A (ix3 b r ⟨h.val * 128 + f.val * 64 + d.val, by omega⟩) * A (ix3 b j ⟨512 + (h.val * 128 + f.val * 64 + d.val), by omega⟩)
      = ((colsOf A b 0 r.val (128 * h.val + (64 * f.val + d.val)) * colsOf A b 512 j.val (128 * h.val + (64 * f.val + d.val)) : ℝ) : EReal) := by
    rw [cols_eq hA b r _ 0 (128 * h.val + (64 * f.val + d.val)) (by show h.val * 128 + f.val * 64 + d.val = _; omega) (by show h.val * 128 + f.val * 64 + d.val < 1536; omega),
      cols_eq hA b j _ 512 (128 * h.val + (64 * f.val + d.val)) (by show 512 + (h.val * 128 + f.val * 64 + d.val) = _; omega) (by show 512 + (h.val * 128 + f.val * 64 + d.val) < 1536; omega), EReal.coe_mul]
  pointwise [msk]
  simp only [e]
  rw [coe_sum, log_two, ← EReal.coe_mul, ← sco_half, le_bit]
  split
  · simp [Scalar.select]
  · simp only [Scalar.select]
    exact ofBits_neg_inf

/-- The largest score, as a maximum over the keys. -/
theorem big_apply (x : FVec Ideal S16x4x2x2048x2048 .f32) (b : Fin 16) (h : Fin 4) (f : Fin 2) (r : Fin 2048) :
    big x (ix4 b h f r) = max (Ideal.ofBits .f32 0xFF800000#32) (Finset.fold max (Ideal.ofBits .f32 0xFF800000#32) (fun j : Fin 2048 => x (ix5 b h f r j)) Finset.univ) :=
  max_red (n0 := 16) (n1 := 4) (n2 := 2) (n3 := 2048) (n4 := 2048) x reducesTo_S16x4x2x2048x2048_S16x4x2x2048_d4 h_S_ bcast_S_S16x4x2x2048 b h f r

/-- The largest score is real: a query sees its own key. -/
theorem big_real {x : FVec Ideal S16x4x2x2048x2048 .f32} {s : ℕ → ℝ} (b : Fin 16) (h : Fin 4) (f : Fin 2) (r : Fin 2048)
    (hx : ∀ j : Fin 2048, x (ix5 b h f r j) = if j.val ≤ r.val then ((s j.val * Real.log 2 : ℝ) : EReal) else ⊥) :
    ∃ μ : ℝ, big x (ix4 b h f r) = (μ : EReal) := by
  obtain ⟨μ, hμ⟩ := fold_real (fun j : Fin 2048 => x (ix5 b h f r j)) (fun j => by
    show x (ix5 b h f r j) ≠ ⊤
    rw [hx]
    split
    · exact EReal.coe_ne_top _
    · exact bot_ne_top) r (by
    show x (ix5 b h f r r) ≠ ⊥
    rw [hx, if_pos le_rfl]
    exact EReal.coe_ne_bot _)
  exact ⟨μ, by rw [big_apply, hμ, ofBits_neg_inf, max_eq_right bot_le]⟩

/-- The softmax at an index, as base-two weights over their sum. -/
theorem soft_apply {x : FVec Ideal S16x4x2x2048x2048 .f32} {s : ℕ → ℝ} (b : Fin 16) (h : Fin 4) (f : Fin 2) (r : Fin 2048)
    (hx : ∀ j : Fin 2048, x (ix5 b h f r j) = if j.val ≤ r.val then ((s j.val * Real.log 2 : ℝ) : EReal) else ⊥) :
    ∃ μ : ℝ, ∀ j : Fin 2048, soft x (ix5 b h f r j) = ((w s r.val μ j.val / ∑ k ∈ Finset.range 2048, w s r.val μ k : ℝ) : EReal) := by
  obtain ⟨μ, hμ⟩ := big_real b h f r hx
  refine ⟨μ / Real.log 2, fun j => ?_⟩
  have he (j : Fin 2048) : ex x (ix5 b h f r j) = (w s r.val (μ / Real.log 2) j.val : EReal) := by
    pointwise [ex, rep]
    rw [hμ]
    exact exp_w (hx j) μ
  pointwise [soft, rep]
  simp only [he]
  rw [coe_sum, Fin.sum_univ_eq_sum_range (fun k => w s r.val (μ / Real.log 2) k) 2048, Ideal.div_coe (sum_w_pos _ _ _ _ (by norm_num)).ne', ← EReal.coe_mul, mul_one_div]

/-- The weight of the second softmax is the formula's. -/
theorem lamR_eq (a b c d : FVec Ideal S1x64 .f32) (i) : lamR a b c d i = lamOf (fun x => a (ix2 0 x)) (fun x => b (ix2 0 x)) (fun x => c (ix2 0 x)) (fun x => d (ix2 0 x)) := by
  pointwise [lamR, lamOf]
  simp only [Finset.univ_unique, Finset.sum_singleton]
  rfl

/-- That weight is real. -/
theorem lam_real {a b c d : Fin 64 → EReal} (ha : ∀ i, Real' (a i)) (hb : ∀ i, Real' (b i)) (hc : ∀ i, Real' (c i)) (hd : ∀ i, Real' (d i)) : Real' (lamOf a b c d) := by
  obtain ⟨x, hx⟩ := Real'.sum Finset.univ (fun i => a i * b i) fun i => (ha i).mul (hb i)
  obtain ⟨y, hy⟩ := Real'.sum Finset.univ (fun i => c i * d i) fun i => (hc i).mul (hd i)
  have hz : Real' (Ideal.ofBits .f32 0x3E4CCCCD#32) := by
    simp [Ideal.ofBits, Ideal.ieee]
    exact ⟨_, rfl⟩
  obtain ⟨z, hz⟩ := hz
  unfold lamOf
  rw [hx, hy, hz, Ideal.exp_coe, Ideal.exp_coe]
  exact ⟨Real.exp x - Real.exp y + z, by rw [EReal.coe_add, EReal.coe_sub]⟩

/-- The difference of the two softmaxes at an index. -/
theorem dmap_apply (p : FVec Ideal S16x4x2x2048x2048 .f32) (lam : FVec Ideal S_ .f32) (b : Fin 16) (h : Fin 4) (r j : Fin 2048) :
    dmap p lam (ix4 b h r j) = p (ix5 b h 0 r j) - lam ix0 * p (ix5 b h 1 r j) := by
  pointwise [dmap]

/-- The weighted values at an index. -/
theorem mixR_apply (p : FVec Ideal S16x4x2048x2048 .f32) (b : Fin 16) (h : Fin 4) (r : Fin 2048) (e : Fin 128) :
    mixR A p (ix4 b r h e) = ∑ j : Fin 2048, A (ix3 b j ⟨1024 + (h.val * 128 + e.val), by omega⟩) * p (ix4 b h r j) := by
  pointwise [mixR]

/-- The divided row at an index. -/
theorem outR_apply (O : FVec Ideal S16x2048x4x128 .f32) (g : FVec Ideal S1x128 .f32) (b : Fin 16) (r : Fin 2048) (c : Fin 512) :
    outR O g (ix3 b r c) = nrm1 (fun e => O (ix4 b r ⟨c.val / 128, by omega⟩ e)) (fun e => g (ix2 0 e)) ⟨c.val % 128, by omega⟩ := by
  pointwise [outR, nrm1]

/-- The weighted values are the difference of the two averages. -/
theorem mixR_eq (hA : ∀ i j k, k.val < 1536 → Real' (A (ix3 i j k))) (lam : FVec Ideal S_ .f32) (hl : Real' (lam ix0)) (b : Fin 16) (h : Fin 4) (r : Fin 2048) (e : Fin 128) :
    mixR A (dmap (soft (msk A)) lam) (ix4 b r h e) = mix (colsOf A b 0) (colsOf A b 512) (colsOf A b 1024) (lam ix0) (128 * h.val) r.val e := by
  obtain ⟨ℓ, hℓ⟩ := hl
  obtain ⟨μ, hμ⟩ := soft_apply b h 0 r fun j => msk_apply hA b h 0 r j
  obtain ⟨ν, hν⟩ := soft_apply b h 1 r fun j => msk_apply hA b h 1 r j
  rw [mixR_apply]
  unfold mix
  rw [← quot_eq _ _ r.val μ 2048 r.isLt le_rfl, ← quot_eq _ _ r.val ν 2048 r.isLt le_rfl, hℓ, ← EReal.coe_mul, ← EReal.coe_sub]
  have hj (j : Fin 2048) : A (ix3 b j ⟨1024 + (h.val * 128 + e.val), by omega⟩) * dmap (soft (msk A)) lam (ix4 b h r j)
      = ((fun j : ℕ => colsOf A b 1024 j (128 * h.val + e.val) * ((w (sco (colsOf A b 0) (colsOf A b 512) (128 * h.val) 0 r.val) r.val μ j / ∑ k ∈ Finset.range 2048, w (sco (colsOf A b 0) (colsOf A b 512) (128 * h.val) 0 r.val) r.val μ k) - ℓ * (w (sco (colsOf A b 0) (colsOf A b 512) (128 * h.val) 1 r.val) r.val ν j / ∑ k ∈ Finset.range 2048, w (sco (colsOf A b 0) (colsOf A b 512) (128 * h.val) 1 r.val) r.val ν k))) j.val : ℝ) := by
    rw [dmap_apply, hμ, hν, hℓ, cols_eq hA b j _ 1024 (128 * h.val + e.val) (by show 1024 + (h.val * 128 + e.val) = _; omega) (by show 1024 + (h.val * 128 + e.val) < 1536; omega),
      ← EReal.coe_mul, ← EReal.coe_sub, ← EReal.coe_mul]
    rfl
  rw [Finset.sum_congr rfl fun j _ => hj j, coe_sum, Fin.sum_univ_eq_sum_range (fun j : ℕ => colsOf A b 1024 j (128 * h.val + e.val) * ((w (sco (colsOf A b 0) (colsOf A b 512) (128 * h.val) 0 r.val) r.val μ j / ∑ k ∈ Finset.range 2048, w (sco (colsOf A b 0) (colsOf A b 512) (128 * h.val) 0 r.val) r.val μ k) - ℓ * (w (sco (colsOf A b 0) (colsOf A b 512) (128 * h.val) 1 r.val) r.val ν j / ∑ k ∈ Finset.range 2048, w (sco (colsOf A b 0) (colsOf A b 512) (128 * h.val) 1 r.val) r.val ν k))) 2048, Finset.sum_div, Finset.sum_div, Finset.mul_sum, ← Finset.sum_sub_distrib]
  exact congrArg _ (Finset.sum_congr rfl fun j _ => by ring)

/-- The reference's result is the formula's, at real queries, keys, values and weights of the second average. -/
theorem ref_eq (hA : ∀ i j k, k.val < 1536 → Real' (A (ix3 i j k))) {a b c d : FVec Ideal S1x64 .f32} (ha : ∀ i, Real' (a i)) (hb : ∀ i, Real' (b i))
    (hc : ∀ i, Real' (c i)) (hd : ∀ i, Real' (d i)) (g : FVec Ideal S1x128 .f32) : refOut A a b c d g = attnOut A a b c d g := by
  funext z
  idx_vars z
  unfold refOut attnOut outAt
  rw [outR_apply]
  have e : (fun e => mixR A (dmap (soft (msk A)) (lamR a b c d)) (ix4 z0 z1 ⟨z2.val / 128, by omega⟩ e)) = mix (colsOf A z0 0) (colsOf A z0 512) (colsOf A z0 1024) (lamOf (fun x => a (ix2 0 x)) (fun x => b (ix2 0 x)) (fun x => c (ix2 0 x)) (fun x => d (ix2 0 x))) (128 * (z2.val / 128)) z1.val := by
    funext e
    rw [mixR_eq hA _ (by rw [lamR_eq]; exact lam_real (fun _ => ha _) (fun _ => hb _) (fun _ => hc _) (fun _ => hd _)), lamR_eq]
  rw [e]
  rfl

end Cert.ReferenceIdeal.Attn
-- ==== Proof.AttnClaim.lean ====
/- The attention call: what its precondition says, and its value claim. -/
module

public import proofs.«01_k».proof.Defs
public import proofs.«01_k».proof.Proof.AttnOut
public import proofs.«01_k».proof.Proof.AttnRef
public import Idealize.ShloMosaic.Lib.Claim

@[expose] public section
set_option maxRecDepth 16384
noncomputable section
open Idealize.ShloMosaic Idealize.ShloMosaic.TcCoe Idealize.SL.Sem
namespace Cert.Attn
open Cert.ReferenceIdeal Cert.ReferenceIdeal.Attn Cert.Ffn

/-- The shape facts the precondition's text states. -/
instance attnPreFacts : Cert.Pre_attn_finite.Facts := by constructor <;> decide

/-- The precondition at its arguments: queries, keys, values and the vectors behind the second softmax's weight are real. -/
theorem attn_pre_real (A : FVec Ideal S16x2048x3072 .bf16) (a b c d : FVec Ideal S1x64 .f32) (g : FVec Ideal S1x128 .f32)
    (h : Cert.Pre_attn_finite.fn (F := Ideal) A a b c d g = fun _ => 1#1) :
    (∀ i j k, k.val < 1536 → Real' (A (ix3 (n0 := 16) (n1 := 2048) (n2 := 3072) i j k))) ∧ (∀ i, Real' (a i)) ∧ (∀ i, Real' (b i)) ∧ (∀ i, Real' (c i)) ∧ ∀ i, Real' (d i) := by
  have h := congrFun h (fun a => a.elim0)
  obtain ⟨h, h5⟩ := IntOp.andi_eq_one.1 h
  obtain ⟨h, h4⟩ := IntOp.andi_eq_one.1 h
  obtain ⟨h, h3⟩ := IntOp.andi_eq_one.1 h
  obtain ⟨h1, h2⟩ := IntOp.andi_eq_one.1 h
  refine ⟨fun i j k hk => ?_, fun i => real_of_cmp _ (Host.reduce_andi_all _ _ _ _ _ h2 i), fun i => real_of_cmp _ (Host.reduce_andi_all _ _ _ _ _ h3 i),
    fun i => real_of_cmp _ (Host.reduce_andi_all _ _ _ _ _ h4 i), fun i => real_of_cmp _ (Host.reduce_andi_all _ _ _ _ _ h5 i)⟩
  have e := real_of_cmp _ (Host.reduce_andi_all _ _ _ _ _ h1 (ix3 (n0 := 16) (n1 := 2048) (n2 := 1536) i j ⟨k.val, hk⟩))
  have e2 : extractStridedSlice Cert.Pre_attn_finite.S16x2048x1536 ![0, 0, 0] A Cert.Pre_attn_finite.Facts.slices_S16x2048x3072_S16x2048x1536_0_0_0 (ix3 (n0 := 16) (n1 := 2048) (n2 := 1536) i j ⟨k.val, hk⟩) = A (ix3 i j k) := by
    pointwise
  exact e2 ▸ e

/-- The attention call ends with the reference's result. -/
theorem attn_algebraic : Cert.algebraic_KernelIdeal_ReferenceIdeal_pre_attn_finite := by
  pair_intro
  · run_from Cert.KernelIdeal.Gen.run_main m g
  · run_from Cert.ReferenceIdeal.Value.run m' g'
    have hp : Cert.Pre_KernelIdeal_attn_finite m := by assumption
    obtain ⟨hA, ha, hb, hc, hd⟩ := attn_pre_real _ _ _ _ _ _ (hp c)
    refine Eq.trans ?_ (Cert.KernelIdeal.Value.final m c hA).symm
    refine Eq.trans ?_ (ref_eq hA ha hb hc hd (m ((c.tc : Thread Cert.KernelIdeal.nD Cert.KernelIdeal.τ).loc Cert.KernelIdeal.main_arg5)))
    refine Eq.trans (res_eq m' c) ?_
    obtain ⟨e0, e1, e2, e3, e4, e5⟩ := hagree c
    rw [← e0, ← e1, ← e2, ← e3, ← e4, ← e5]

end Cert.Attn
-- ==== Proof.FfnRef.lean ====
/- The reference's feed-forward step as one composed term, and its two spellings of the activation. -/
module

public import proofs.«01_k».proof.Proof.Gen.Reference2Ideal.Run
public import proofs.«01_k».proof.Proof.FfnMath

@[expose] public section
set_option maxRecDepth 16384
noncomputable section
open Idealize.ShloMosaic Idealize.ShloMosaic.TcCoe Idealize.SL.Sem
namespace Cert.Ffn
open Cert.Reference2Ideal Cert.Reference2Ideal.Gen

/-- The rows divided by their root mean square, times the gain, as the reference composes it. -/
def nrm (X : FVec Ideal S32768x1024 .f32) (g : FVec Ideal S1x1024 .f32) : FVec Ideal S32768x1024 .f32 :=
  mulf (mulf X (broadcastInDim S32768x1024 ![0, 1] bcast_S32768x1_S32768x1024_0_1 (Host.rsqrt (addf (Host.divf (broadcastInDim S32768x1 ![0] bcast_S32768_S32768x1_0 (Host.reduceAdd (mulf X X) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x3727C5AC#32)))))) (broadcastInDim S32768x1024 ![0, 1] bcast_S1x1024_S32768x1024_0_1 g)

/-- The rows times a hidden weight. -/
def hid (H : FVec Ideal S32768x1024 .f32) (w : FVec Ideal S1024x2816 .f32) : FVec Ideal S32768x2816 .f32 :=
  Host.dotGeneral dot_S32768x1024_S1024x2816_S32768x2816_1_0_0_1_n_n none H w

/-- The activation as the reference writes it: the argument times its logistic function. -/
def actLog (z : FVec Ideal S32768x2816 .f32) : FVec Ideal S32768x2816 .f32 :=
  mulf z (Host.divf (broadcastInDim S32768x2816 ![] bcast_S_S32768x2816 (constant S_ .f32 0x3F800000#32)) (addf (broadcastInDim S32768x2816 ![] bcast_S_S32768x2816 (constant S_ .f32 0x3F800000#32)) (Host.exp (Host.negf z))))

/-- The activation as the kernel writes it: half the argument, plus that half times its hyperbolic tangent. -/
def actTanh (z : FVec Ideal S32768x2816 .f32) : FVec Ideal S32768x2816 .f32 := fun i =>
  Ideal.ofBits .f32 0x3F000000#32 * z i + Ideal.ofBits .f32 0x3F000000#32 * z i * Ideal.tanh (Ideal.ofBits .f32 0x3F000000#32 * z i)

/-- The residual step around an activation `f`. -/
def step (f : FVec Ideal S32768x2816 .f32 → FVec Ideal S32768x2816 .f32) (X : FVec Ideal S32768x1024 .f32) (g : FVec Ideal S1x1024 .f32)
    (wg wu : FVec Ideal S1024x2816 .f32) (wd : FVec Ideal S2816x1024 .f32) : FVec Ideal S32768x1024 .f32 :=
  addf X (mulf (broadcastInDim S32768x1024 ![] bcast_S_S32768x1024 (constant S_ .f32 0x3F000000#32)) (Host.dotGeneral dot_S32768x2816_S2816x1024_S32768x1024_1_0_0_1_n_n none (mulf (f (hid (nrm X g) wg)) (hid (nrm X g) wu)) wd))

theorem hid_real (X : FVec Ideal S32768x1024 .f32) (g : FVec Ideal S1x1024 .f32) (wg : FVec Ideal S1024x2816 .f32)
    (hX : ∀ i, Real' (X i)) (hg : ∀ i, Real' (g i)) (hw : ∀ i, Real' (wg i)) (i) : Real' (hid (nrm X g) wg i) := by
  idx_vars i
  pointwise [hid, nrm]
  exact Real'.sum _ _ fun k => ((hX _).mul (rsqrt_mean _ _ fun _ => hX _) |>.mul (hg _)).mul (hw _)

theorem act_eq (z : FVec Ideal S32768x2816 .f32) (h : ∀ i, Real' (z i)) : actLog z = actTanh z := by
  funext i
  have e := silu (h i)
  idx_vars i
  pointwise [actLog, actTanh]
  exact e.symm

/-- With real rows, gain and gate weights the two activations give the same step. -/
theorem step_eq (X : FVec Ideal S32768x1024 .f32) (g : FVec Ideal S1x1024 .f32)
    (wg wu : FVec Ideal S1024x2816 .f32) (wd : FVec Ideal S2816x1024 .f32)
    (hX : ∀ i, Real' (X i)) (hg : ∀ i, Real' (g i)) (hw : ∀ i, Real' (wg i)) : step actLog X g wg wu wd = step actTanh X g wg wu wd := by
  unfold step
  rw [act_eq _ (hid_real X g wg hX hg hw)]

end Cert.Ffn
-- ==== Proof.Ffn.lean ====
module

public import proofs.«01_k».proof.Proof.Gen.Kernel2Ideal.Value
public import proofs.«01_k».proof.Proof.FfnRef
public import Idealize.ShloMosaic.Lib.Pipeline.ReadBack

@[expose] public section
set_option maxRecDepth 16384
noncomputable section
open Idealize.ShloMosaic Idealize.ShloMosaic.TcCoe Idealize.SL.Sem
open Idealize.ShloMosaic.Pipeline (Dat)
namespace Cert.Kernel2Ideal.Value
open Cert.Kernel2Ideal Cert.Kernel2Ideal.Gen Cert.Ffn

/-- The gate of one tile: the normalised rows times the gate weights. -/
def gate (a : FVec Ideal S1024x1024 .bf16) (wg : FVec Ideal S1024x2816 .f32) : S1024x2816.Idx → EReal := fun i =>
  ∑ k : Fin 1024, a (ix2 (i 0) k) * wg (ix2 k (i 1))

/-- The activation of one tile, as one array over the whole hidden width. -/
def act (a : FVec Ideal S1024x1024 .bf16) (wg wu : FVec Ideal S1024x2816 .f32) : FVec Ideal S1024x2816 .bf16 := fun i =>
  (Ideal.ofBits .f32 0x3F000000#32 * gate a wg i + Ideal.ofBits .f32 0x3F000000#32 * gate a wg i * Ideal.tanh (Ideal.ofBits .f32 0x3F000000#32 * gate a wg i))
    * gate a wu i

variable (m : (ℓ : Loc nD τ sig) → Buf (Elt Ideal) ℓ)

theorem idx : ∀ t : Fin cfg0.N, win0_0.index t = ![t.val, 0] ∧ win0_1.index t = ![0, 0] ∧ win0_2.index t = ![0, 0] ∧ win0_3.index t = ![0, 0] ∧ win0_4.index t = ![0, 0] ∧ win0_5.index t = ![t.val, 0] :=
  (by decide +kernel : ∀ t : Fin grid0.N, _)

theorem pay17_congr (x : FVec Ideal S1024x1024 .f32) {z z' : FVec Ideal S1024x2816 .bf16} (w : FVec Ideal S2816x1024 .f32) (y : S1024x1024.Idx) (h : z = z') :
    k0_pay17 (F := Ideal) x z w y = k0_pay17 (F := Ideal) x z' w y := by rw [h]

theorem final (c : Dev nD) : (dats m 0 c).arrAt 5 (cfgs 0).N = step actTanh (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  unfold outsAt0
  frame_out
  refine (pay17_congr (z' := act (k0_pay1 (iblk m c 0 t) (iblk m c 1 t)) (iblk m c 2 t) (iblk m c 3 t)) _ _ _ ?_).trans ?_
  · funext j
    rw [View.readCov_eq_canon']
    refine (View.canon_apply_of_pieces (act (k0_pay1 (iblk m c 0 t) (iblk m c 1 t)) (iblk m c 2 t) (iblk m c 3 t)) _ (View.PiecesOf.mem ?_) _ (View.cover_of_tiled_head _ _ _ (by rfl) _)).trans ?_
    · refine ⟨?_, ?_, ?_, ?_, ?_, ?_, ?_, ?_, ?_, ?_, ?_, trivial⟩
      all_goals
        intro x
        idx_vars x
      all_goals
        pointwise [k0_pay2, k0_pay3, k0_pay4, k0_pay5, k0_pay6, k0_pay7, k0_pay8, k0_pay9, k0_pay10, k0_pay11, k0_pay12, k0_pay13, k0_pay14, k0_pay15, k0_pay16, act, gate]
        blk_point
    idx_vars j
    exact congrArg _ (by blk_ext <;> simp [LoadRect.idx_apply])
  pointwise [k0_pay17, act, gate, k0_pay1, step, actTanh, hid, nrm]
  blk_point [iblk, V, idx t]

end Cert.Kernel2Ideal.Value
-- ==== Proof.FfnClaim.lean ====
/- The first feed-forward call: what its precondition says, and its value claim. -/
module

public import proofs.«01_k».proof.Defs
public import proofs.«01_k».proof.Proof.Ffn
public import Idealize.ShloMosaic.Lib.Claim

@[expose] public section
set_option maxRecDepth 16384
noncomputable section
open Idealize.ShloMosaic Idealize.ShloMosaic.TcCoe Idealize.SL.Sem
namespace Cert.Ffn

/-- The shape facts the precondition's text states. -/
instance preFacts : Cert.Pre_finite.Facts := by constructor <;> decide

/-- The precondition at its arguments: rows, gain and gate weights are real. -/
theorem pre_real (X : FVec Ideal Cert.Reference2Ideal.S32768x1024 .f32) (g : FVec Ideal Cert.Reference2Ideal.S1x1024 .f32)
    (wg wu : FVec Ideal Cert.Reference2Ideal.S1024x2816 .f32) (wd : FVec Ideal Cert.Reference2Ideal.S2816x1024 .f32)
    (h : Cert.Pre_finite.fn (F := Ideal) X g wg wu wd = fun _ => 1#1) : (∀ i, Real' (X i)) ∧ (∀ i, Real' (g i)) ∧ ∀ i, Real' (wg i) := by
  have h := congrFun h (fun a => a.elim0)
  obtain ⟨h, h3⟩ := IntOp.andi_eq_one.1 h
  obtain ⟨h1, h2⟩ := IntOp.andi_eq_one.1 h
  exact ⟨fun i => real_of_cmp _ (Host.reduce_andi_all _ _ _ _ _ h1 i), fun i => real_of_cmp _ (Host.reduce_andi_all _ _ _ _ _ h2 i),
    fun i => real_of_cmp _ (Host.reduce_andi_all _ _ _ _ _ h3 i)⟩

/-- The first feed-forward call ends with the reference's result. -/
theorem algebraic : Cert.algebraic_Kernel2Ideal_Reference2Ideal_pre_finite := by
  pair_intro
  · run_from Cert.Kernel2Ideal.Gen.run_main m g
  · run_from Cert.Reference2Ideal.Value.run m' g'
    have hp : Cert.Pre_Kernel2Ideal_finite m := by assumption
    obtain ⟨hX, hg, hw⟩ := pre_real _ _ _ _ _ (hp c)
    exact (step_eq _ _ _ (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) hX hg hw).trans
      (Cert.Kernel2Ideal.Value.final m c).symm

end Cert.Ffn
-- ==== Proof.OutRef.lean ====
/- The reference's attention output projection and residual: as composed, and with the two halves summed apart. -/
module

public import proofs.«01_k».proof.Proof.Gen.Reference3Ideal.Run
public import proofs.«01_k».proof.Proof.FfnRef

@[expose] public section
set_option maxRecDepth 16384
noncomputable section
open Idealize.ShloMosaic Idealize.ShloMosaic.TcCoe Idealize.SL.Sem
namespace Cert.Ffn
open Cert.Reference3Ideal Cert.Reference3Ideal.Gen

/-- The rows plus the concatenated attention outputs times their projection. -/
def xcat (X : FVec Ideal S32768x1024 .f32) (a b : FVec Ideal S32768x512 .bf16) (wo : FVec Ideal S1024x1024 .f32) : FVec Ideal S32768x1024 .f32 :=
  addf X (Host.dotGeneral dot_S32768x1024_S1024x1024_S32768x1024_1_0_0_1_n_n none (extf .f32 (concatenate S32768x1024 1 [⟨S32768x512, a⟩, ⟨S32768x512, b⟩] concatenates_S32768x512_S32768x512_S32768x1024_d1) bitsLt_bf16_f32) wo)

/-- The same rows with the two attention outputs projected apart. -/
def xsum (X : FVec Ideal S32768x1024 .f32) (a b : FVec Ideal S32768x512 .bf16) (wo : FVec Ideal S1024x1024 .f32) : FVec Ideal S32768x1024 .f32 := fun i =>
  X i + (∑ k : Fin 512, a (ix2 (i 0) k) * wo (ix2 ⟨k.val, by omega⟩ (i 1))) + ∑ k : Fin 512, b (ix2 (i 0) k) * wo (ix2 ⟨512 + k.val, by omega⟩ (i 1))

theorem xcat_eq (X : FVec Ideal S32768x1024 .f32) (a b : FVec Ideal S32768x512 .bf16) (wo : FVec Ideal S1024x1024 .f32) : xcat X a b wo = xsum X a b wo := by
  funext i
  idx_vars i
  pointwise [xcat, xsum]
  exact (add_assoc _ _ _).symm

theorem xsum_real (X : FVec Ideal S32768x1024 .f32) (a b : FVec Ideal S32768x512 .bf16) (wo : FVec Ideal S1024x1024 .f32)
    (hX : ∀ i, Real' (X i)) (ha : ∀ i, Real' (a i)) (hb : ∀ i, Real' (b i)) (hw : ∀ i, Real' (wo i)) (i) : Real' (xsum X a b wo i) :=
  ((hX _).add (Real'.sum _ _ fun _ => (ha _).mul (hw _))).add (Real'.sum _ _ fun _ => (hb _).mul (hw _))

end Cert.Ffn
-- ==== Proof.Out.lean ====
module

public import proofs.«01_k».proof.Proof.Gen.Kernel3Ideal.Value
public import proofs.«01_k».proof.Proof.OutRef
public import Idealize.ShloMosaic.Lib.Pipeline.ReadBack

@[expose] public section
set_option maxRecDepth 16384
noncomputable section
open Idealize.ShloMosaic Idealize.ShloMosaic.TcCoe Idealize.SL.Sem
open Idealize.ShloMosaic.Pipeline (Dat)
namespace Cert.Kernel3Ideal.Value
open Cert.Kernel3Ideal Cert.Kernel3Ideal.Gen Cert.Ffn

/-- The gate of one tile: the normalised rows times the gate weights. -/
def gate (a : FVec Ideal S512x1024 .bf16) (wg : FVec Ideal S1024x2816 .f32) : S512x2816.Idx → EReal := fun i =>
  ∑ k : Fin 1024, a (ix2 (i 0) k) * wg (ix2 k (i 1))

/-- The activation of one tile, as one array over the whole hidden width. -/
def act (a : FVec Ideal S512x1024 .bf16) (wg wu : FVec Ideal S1024x2816 .f32) : FVec Ideal S512x2816 .bf16 := fun i =>
  (Ideal.ofBits .f32 0x3F000000#32 * gate a wg i + Ideal.ofBits .f32 0x3F000000#32 * gate a wg i * Ideal.tanh (Ideal.ofBits .f32 0x3F000000#32 * gate a wg i))
    * gate a wu i

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![t.val, 0] :=
  (by decide +kernel : ∀ t : Fin grid0.N, _)

theorem pay2_congr (x : FVec Ideal S512x1024 .f32) {z z' : FVec Ideal S512x2816 .bf16} (w : FVec Ideal S2816x1024 .f32) (g : FVec Ideal S1x1024 .f32) (y : S512x1024.Idx) (h : z = z') :
    k0_pay2 (F := Ideal) x z w g y = k0_pay2 (F := Ideal) x z' w g y := by rw [h]

/-- The output array at the end of the run. -/
theorem final (c : Dev nD) : (dats m 0 c).arrAt 9 (cfgs 0).N = nrm (step actTanh (xsum (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)) (m ((c : Thread nD τ).loc main_arg6)) (m ((c : Thread nD τ).loc main_arg7))) (m ((c : Thread nD τ).loc main_arg8)) := by
  refine (dats m 0 c).arrAt_eq_of_covers 9 _ (by decide +kernel) fun t _ y => ?_
  blk_simp
  rw [after0_9]
  unfold outsAt0
  frame_out
  refine (pay2_congr (z' := act (k0_pay4 (View.ld (iblk m c 3 t) (Rect.unit ![0, 0] ![512, 1024] inb_S1024x1024_S512x1024_0_0)) (View.ld (iblk m c 3 t) (Rect.unit ![512, 0] ![512, 1024] inb_S1024x1024_S512x1024_512_0)) (iblk m c 0 t) (iblk m c 1 t) (iblk m c 2 t) (iblk m c 4 t)) (iblk m c 5 t) (iblk m c 6 t)) _ _ _ _ ?_).trans ?_
  · funext j
    rw [View.readCov_eq_canon']
    refine (View.canon_apply_of_pieces (act (k0_pay4 (View.ld (iblk m c 3 t) (Rect.unit ![0, 0] ![512, 1024] inb_S1024x1024_S512x1024_0_0)) (View.ld (iblk m c 3 t) (Rect.unit ![512, 0] ![512, 1024] inb_S1024x1024_S512x1024_512_0)) (iblk m c 0 t) (iblk m c 1 t) (iblk m c 2 t) (iblk m c 4 t)) (iblk m c 5 t) (iblk m c 6 t)) _ (View.PiecesOf.mem ?_) _ (View.cover_of_tiled_head _ _ _ (by rfl) _)).trans ?_
    · refine ⟨?_, ?_, ?_, ?_, ?_, ?_, ?_, ?_, ?_, ?_, ?_, trivial⟩
      all_goals
        intro x
        idx_vars x
      all_goals
        try unfold k0_pay5
        generalize (k0_pay4 (View.ld (iblk m c 3 t) (Rect.unit ![0, 0] ![512, 1024] inb_S1024x1024_S512x1024_0_0)) (View.ld (iblk m c 3 t) (Rect.unit ![512, 0] ![512, 1024] inb_S1024x1024_S512x1024_512_0)) (iblk m c 0 t) (iblk m c 1 t) (iblk m c 2 t) (iblk m c 4 t)) = H
        pointwise [k0_pay1, k0_pay5, k0_pay6, k0_pay7, k0_pay8, k0_pay9, k0_pay10, k0_pay11, k0_pay12, k0_pay13, k0_pay14, k0_pay15, k0_pay16, k0_pay17, k0_pay18, k0_pay19, act, gate]
        blk_point
    idx_vars j
    exact congrArg _ (by blk_ext <;> simp [LoadRect.idx_apply])
  pointwise [k0_pay2, k0_pay3, k0_pay4, act, gate, step, actTanh, hid, nrm, xsum]
  blk_point [iblk, V, idx t]

end Cert.Kernel3Ideal.Value
-- ==== Proof.OutClaim.lean ====
/- The last feed-forward call: what its precondition says, and its value claim. -/
module

public import proofs.«01_k».proof.Defs
public import proofs.«01_k».proof.Proof.Out
public import Idealize.ShloMosaic.Lib.Claim

@[expose] public section
set_option maxRecDepth 16384
noncomputable section
open Idealize.ShloMosaic Idealize.ShloMosaic.TcCoe Idealize.SL.Sem
namespace Cert.Ffn
open Cert.Reference3Ideal

/-- The shape facts the precondition's text states. -/
instance outPreFacts : Cert.Pre_out_finite.Facts := by constructor <;> decide

/-- The precondition at its arguments: rows, attention outputs, their projection, gain and gate weights are real. -/
theorem out_pre_real (X : FVec Ideal S32768x1024 .f32) (a b : FVec Ideal S32768x512 .bf16) (wo : FVec Ideal S1024x1024 .f32)
    (g : FVec Ideal S1x1024 .f32) (wg wu : FVec Ideal S1024x2816 .f32) (wd : FVec Ideal S2816x1024 .f32) (gf : FVec Ideal S1x1024 .f32)
    (h : Cert.Pre_out_finite.fn (F := Ideal) X a b wo g wg wu wd gf = fun _ => 1#1) :
    (∀ i, Real' (X i)) ∧ (∀ i, Real' (a i)) ∧ (∀ i, Real' (b i)) ∧ (∀ i, Real' (wo i)) ∧ (∀ i, Real' (g i)) ∧ ∀ i, Real' (wg i) := by
  have h := congrFun h (fun a => a.elim0)
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h1, h2⟩ := IntOp.andi_eq_one.1 h
  exact ⟨fun i => real_of_cmp _ (Host.reduce_andi_all _ _ _ _ _ h1 i), fun i => real_of_cmp _ (Host.reduce_andi_all _ _ _ _ _ h2 i),
    fun i => real_of_cmp _ (Host.reduce_andi_all _ _ _ _ _ h3 i), fun i => real_of_cmp _ (Host.reduce_andi_all _ _ _ _ _ h4 i),
    fun i => real_of_cmp _ (Host.reduce_andi_all _ _ _ _ _ h5 i), fun i => real_of_cmp _ (Host.reduce_andi_all _ _ _ _ _ h6 i)⟩

/-- The reference's result is the kernel's spelling of it, at real rows. -/
theorem out_eq (X : FVec Ideal S32768x1024 .f32) (a b : FVec Ideal S32768x512 .bf16) (wo : FVec Ideal S1024x1024 .f32)
    (g : FVec Ideal S1x1024 .f32) (wg wu : FVec Ideal S1024x2816 .f32) (wd : FVec Ideal S2816x1024 .f32) (gf : FVec Ideal S1x1024 .f32)
    (hX : ∀ i, Real' (X i)) (ha : ∀ i, Real' (a i)) (hb : ∀ i, Real' (b i)) (ho : ∀ i, Real' (wo i)) (hg : ∀ i, Real' (g i)) (hw : ∀ i, Real' (wg i)) :
    nrm (step actLog (xcat X a b wo) g wg wu wd) gf = nrm (step actTanh (xsum X a b wo) g wg wu wd) gf := by
  rw [xcat_eq, step_eq _ g wg wu wd (xsum_real X a b wo hX ha hb ho) hg hw]

/-- The last feed-forward call ends with the reference's result. -/
theorem out_algebraic : Cert.algebraic_Kernel3Ideal_Reference3Ideal_pre_out_finite := by
  pair_intro
  · run_from Cert.Kernel3Ideal.Gen.run_main m g
  · run_from Cert.Reference3Ideal.Value.run m' g'
    have hp : Cert.Pre_Kernel3Ideal_out_finite m := by assumption
    obtain ⟨hX, ha, hb, ho, hg, hw⟩ := out_pre_real _ _ _ _ _ _ _ _ _ (hp c)
    refine Eq.trans ?_ (Cert.Kernel3Ideal.Value.final m c).symm
    refine Eq.trans ?_ (out_eq _ _ _ _ _ _ (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) hX ha hb ho hg hw)
    obtain ⟨e0, e1, e2, e3, e4, e5, e6, e7, e8⟩ := hagree c
    rw [← e0, ← e1, ← e2, ← e3, ← e4, ← e5, ← e6, ← e7, ← e8]
    rfl

end Cert.Ffn
-- ==== Proof.InFn.lean ====
/- The input projection with its norm and rotary embedding, as one formula, and the kernel's table form of the rotation. -/
module

public import Idealize.ShloMosaic.PureOps
public import Idealize.ShloMosaic.PureOps.Ideal
public import Idealize.ShloMosaic.Lib.Pointwise

@[expose] public section
noncomputable section
open Idealize.ShloMosaic
namespace Cert.Rope

/-- An entry of the normalised rows. -/
def nrmAt (X : FVec Ideal ⟨2, ![32768, 1024]⟩ .f32) (g : FVec Ideal ⟨2, ![1, 1024]⟩ .f32) (r : Fin 32768) (k : Fin 1024) : EReal :=
  X (ix2 r k) * Ideal.rsqrt (Ideal.div (∑ j : Fin 1024, X (ix2 r j) * X (ix2 r j)) (Ideal.ofBits .f32 0x44800000#32) + Ideal.ofBits .f32 0x3727C5AC#32) * g (ix2 0 k)

/-- An entry of their product with the projection's weights. -/
def pr (X : FVec Ideal ⟨2, ![32768, 1024]⟩ .f32) (g : FVec Ideal ⟨2, ![1, 1024]⟩ .f32) (w : FVec Ideal ⟨2, ![1024, 3072]⟩ .f32) (r : Fin 32768) (c : ℕ) : EReal :=
  ∑ k : Fin 1024, nrmAt X g r k * w (ix2 k ⟨c % 3072, Nat.mod_lt _ (by norm_num)⟩)

/-- A position as a real number. -/
def posAt (P : IVec ⟨2, ![16, 2048]⟩ 32) (r : Fin 32768) : EReal :=
  (((P (ix2 ⟨r.val / 2048, by omega⟩ ⟨r.val % 2048, by omega⟩)).toInt : ℝ) : EReal)

/-- The frequency of a rotated column. -/
def freq (d : ℕ) : EReal :=
  Ideal.exp (Ideal.div (Ideal.ofBits .f32 0xC151F533#32 * (((BitVec.ofNat 32 d).toInt : ℝ) : EReal) * Ideal.ofBits .f32 0x40000000#32) (Ideal.ofBits .f32 0x41800000#32))

/-- The angles of a row, by frequency. -/
def ang (P : IVec ⟨2, ![16, 2048]⟩ 32) (r : Fin 32768) (d : ℕ) : EReal := freq (d % 8) * posAt P r

/-- The rotation of one head, the two halves of its rotated columns eight apart: `p` by column, `θ` the angles. -/
def rope (p θ : ℕ → EReal) (c : ℕ) : EReal :=
  if c % 64 < 8 then p c * Ideal.cos (θ (c % 64)) - p (c + 8) * Ideal.sin (θ (c % 64))
  else if c % 64 < 16 then p c * Ideal.cos (θ (c % 64 - 8)) + p (c - 8) * Ideal.sin (θ (c % 64 - 8))
  else p c

/-- The queries' factor. -/
def qs : EReal := ((8 * Real.log 2)⁻¹ : ℝ)

/-- A column of the result, of the kind its group of 512 has: scaled rotation, rotation, or the product itself. -/
def seg (p θ : ℕ → EReal) (c : ℕ) : EReal :=
  if c / 512 % 3 = 2 then p c else if c / 512 % 3 = 0 then rope p θ c * qs else rope p θ c

/-- The projection of all rows. -/
def inOut (X : FVec Ideal ⟨2, ![32768, 1024]⟩ .f32) (P : IVec ⟨2, ![16, 2048]⟩ 32) (g : FVec Ideal ⟨2, ![1, 1024]⟩ .f32) (w : FVec Ideal ⟨2, ![1024, 3072]⟩ .f32) : FVec Ideal ⟨2, ![32768, 3072]⟩ .bf16 :=
  fun z => seg (pr X g w (z 0)) (ang P (z 0)) (z 1).val

/-- The cosines' table. -/
def ct (θ : ℕ → EReal) (c : ℕ) : EReal := if c % 64 < 8 then Ideal.cos (θ (c % 64)) else if c % 64 < 16 then Ideal.cos (θ (c % 64 - 8)) else 1

/-- The table for the columns eight to the right. -/
def sl (θ : ℕ → EReal) (c : ℕ) : EReal := if c % 64 < 8 then 0 - Ideal.sin (θ (c % 64)) else 0

/-- The table for the columns eight to the left. -/
def sh (θ : ℕ → EReal) (c : ℕ) : EReal := if c % 64 < 8 then 0 else if c % 64 < 16 then Ideal.sin (θ (c % 64 - 8)) else 0

/-- The rotation by tables, the rotated columns taken around a group of 128. -/
def tab (p ct sl sh : ℕ → EReal) (c : ℕ) : EReal :=
  p c * ct c + p (128 * (c / 128) + (c % 128 + 8) % 128) * sl c + p (128 * (c / 128) + (c % 128 + 120) % 128) * sh c

/-- The tables give the rotation. -/
theorem tab_eq (p θ : ℕ → EReal) (c : ℕ) : tab p (ct θ) (sl θ) (sh θ) c = rope p θ c := by
  unfold tab ct sl sh rope
  split_ifs
  · rw [show 128 * (c / 128) + (c % 128 + 8) % 128 = c + 8 by omega]
    simp [sub_eq_add_neg]
  · rw [show 128 * (c / 128) + (c % 128 + 120) % 128 = c - 8 by omega]
    simp
  · simp

/-- Scaled tables give the scaled rotation. -/
theorem tab_mul (p θ : ℕ → EReal) (c : ℕ) (q : ℝ) (hq : 0 ≤ q) :
    tab p (fun c => ct θ c * (q : EReal)) (fun c => sl θ c * (q : EReal)) (fun c => sh θ c * (q : EReal)) c = rope p θ c * (q : EReal) := by
  have hd (x y : EReal) : (x + y) * (q : EReal) = x * (q : EReal) + y * (q : EReal) :=
    EReal.right_distrib_of_nonneg_of_ne_top (EReal.coe_nonneg.2 hq) (EReal.coe_ne_top q) x y
  rw [← tab_eq]
  unfold tab
  rw [hd, hd]
  simp only [mul_assoc]

end Cert.Rope
-- ==== Proof.In.lean ====
/- The input projection's block of one grid point: what the kernel stores, as one formula. -/
module

public import proofs.«01_k».proof.Proof.Gen.Kernel4Ideal.Value
public import proofs.«01_k».proof.Proof.InFn
public import Idealize.ShloMosaic.Lib.Pipeline.ReadBack
public import Idealize.ShloMosaic.Lib.Pipeline.ValueKit
public import Idealize.ShloMosaic.Lib.Claim

@[expose] public section
set_option maxRecDepth 16384
set_option maxHeartbeats 2000000
noncomputable section
open Idealize.ShloMosaic Idealize.ShloMosaic.TcCoe Idealize.SL.Sem
open Idealize.ShloMosaic.Pipeline (Dat)
namespace Cert.Kernel4Ideal.Value
open Cert.Kernel4Ideal Cert.Kernel4Ideal.Gen Cert.Rope

/-- The product's entries of one block, by column. -/
def pB (a : FVec Ideal S1024x1024 .bf16) (w : FVec Ideal S1024x3072 .f32) (r : Fin 1024) (c : ℕ) : EReal :=
  ∑ k : Fin 1024, a (ix2 r k) * w (ix2 k ⟨c % 3072, Nat.mod_lt _ (by norm_num)⟩)

/-- The angles of one block. -/
def thB (T : FVec Ideal S8x1024 .f32) (r : Fin 1024) (d : ℕ) : EReal := T (ix2 ⟨d % 8, Nat.mod_lt _ (by norm_num)⟩ r)

/-- One block of the result. -/
def blkOut (a : FVec Ideal S1024x1024 .bf16) (w : FVec Ideal S1024x3072 .f32) (T : FVec Ideal S8x1024 .f32) : FVec Ideal S1024x3072 .bf16 :=
  fun z => seg (pB a w (z 0)) (thB T (z 0)) (z 1).val

/-- The kernel's cosine table. -/
theorem pay10_apply (x1 : IVec S1x8x128 32) (x4 : FVec Ideal S8x1 .f32) (r : Fin 1024) (l : Fin 128) :
    k0_pay10 (F := Ideal) x1 x4 (ix2 r l) = ct (thB (k0_pay6 x1 x4) r) l.val := by
  pointwise [k0_pay10, ct, thB]
  repeat' split
  all_goals first | omega | rfl | exact congrArg (fun n => Ideal.cos (k0_pay6 (F := Ideal) x1 x4 (ix2 n r))) (Fin.ext (by dsimp only <;> omega))

/-- Its table of negated sines. -/
theorem pay11_apply (x1 : IVec S1x8x128 32) (x4 : FVec Ideal S8x1 .f32) (r : Fin 1024) (l : Fin 128) :
    k0_pay11 (F := Ideal) x1 x4 (ix2 r l) = sl (thB (k0_pay6 x1 x4) r) l.val := by
  pointwise [k0_pay11, k0_pay7, k0_pay8, k0_pay9, sl, thB]
  repeat' split
  all_goals first | omega | rfl | exact congrArg (fun n => 0 - Ideal.sin (k0_pay6 (F := Ideal) x1 x4 (ix2 n r))) (Fin.ext (by dsimp only <;> omega))

/-- Its table of sines. -/
theorem pay12_apply (x1 : IVec S1x8x128 32) (x4 : FVec Ideal S8x1 .f32) (r : Fin 1024) (l : Fin 128) :
    k0_pay12 (F := Ideal) (k0_pay7 x1 x4) k0_pay8 k0_pay9 (ix2 r l) = sh (thB (k0_pay6 x1 x4) r) l.val := by
  pointwise [k0_pay12, k0_pay7, k0_pay8, k0_pay9, sh, thB]
  repeat' split
  all_goals first | omega | rfl | exact congrArg (fun n => Ideal.sin (k0_pay6 (F := Ideal) x1 x4 (ix2 n r))) (Fin.ext (by dsimp only <;> omega))

/-- The named factor. -/
theorem named_qs : (Named.named κ "qscale" 0x3E38AA3B#32 : Idealize.ShloMosaic.Ideal .f32) = qs :=
  IdealRules.named_const.ideal_named_scalar _ _ _ _ rfl

/-- The three tables scaled. -/
theorem pay14_apply (T : FVec Ideal S1024x128 .f32) (i) : k0_pay14 (F := Ideal) T i = T i * qs :=
  congrArg (T i * ·) named_qs

theorem pay15_apply (T : FVec Ideal S1024x128 .f32) (i) : k0_pay15 (F := Ideal) T i = T i * qs :=
  congrArg (T i * ·) named_qs

theorem pay16_apply (a : FVec Ideal S8x1024 .f32) (b c) (i) : k0_pay16 (F := Ideal) a b c i = k0_pay12 a b c i * qs :=
  congrArg (k0_pay12 a b c i * ·) named_qs

/-- One group of 128 columns, rotated by tables. -/
@[reducible] def rot (lo : ℕ) (hs : S1024x512.Slices ![0, lo] S1024x128) (v : FVec Ideal S1024x512 .f32) (c l h : FVec Ideal S1024x128 .f32) : FVec Ideal S1024x128 .bf16 :=
  truncf .bf16 (addf (addf (mulf (extractStridedSlice S1024x128 ![0, lo] v hs) c) (mulf (dynamicRotate 1 120#32 none (extractStridedSlice S1024x128 ![0, lo] v hs) rotates_S1024x128_d1) l)) (mulf (dynamicRotate 1 8#32 none (extractStridedSlice S1024x128 ![0, lo] v hs) rotates_S1024x128_d1) h)) bitsLt_bf16_f32

theorem rot_apply (lo : ℕ) (hlo : lo + 128 ≤ 512) (hs) (v : FVec Ideal S1024x512 .f32) (c l h : FVec Ideal S1024x128 .f32) (r : Fin 1024) (j : Fin 128) :
    rot lo hs v c l h (ix2 r j) = v (ix2 r ⟨lo + j.val, by omega⟩) * c (ix2 r j) + v (ix2 r ⟨lo + (j.val + 8) % 128, by omega⟩) * l (ix2 r j) + v (ix2 r ⟨lo + (j.val + 120) % 128, by omega⟩) * h (ix2 r j) := by
  pointwise [rot]
  rfl

/-- A product with 512 of the weights' columns. -/
@[reducible] def mm (a : FVec Ideal S1024x1024 .bf16) (w : FVec Ideal S1024x512 .f32) : FVec Ideal S1024x512 .f32 :=
  matmul dot_S1024x1024_S1024x512_S1024x512_1_0_0_1_n_n none a w (constant S1024x512 .f32 0x00000000#32)

theorem mm_apply (a : FVec Ideal S1024x1024 .bf16) (w : FVec Ideal S1024x3072 .f32) (o : ℕ) (inb) (r : Fin 1024) (j : Fin 512) :
    mm a (View.ld (Val := Elt Ideal) (e' := .f32) w (Rect.unit (s := S1024x3072) ![0, o] ![1024, 512] inb)) (ix2 r j) = pB a w r (o + j.val) := by
  have h : o + 512 ≤ 3072 := inb 1
  pointwise [mm, pB]
  refine Finset.sum_congr rfl fun k _ => congrArg (fun n => a (ix2 r k) * w (ix2 k n)) (Fin.ext ?_)
  exact (Nat.mod_eq_of_lt (by omega)).symm

variable (a : FVec Ideal S1024x1024 .bf16) (w : FVec Ideal S1024x3072 .f32) (x1 : IVec S1x8x128 32) (x4 : FVec Ideal S8x1 .f32)

/-- A rotated group by the formula's tables. -/
theorem rot_tab (f fl fh : ℕ → EReal) (o lo : ℕ) (ho : o % 512 = 0) (hlo : lo + 128 ≤ 512) (hl : lo % 128 = 0) (inb) (hs) (c l h : FVec Ideal S1024x128 .f32) (r : Fin 1024) (j : Fin 128)
    (hc : c (ix2 r j) = f (o + lo + j.val)) (hl' : l (ix2 r j) = fl (o + lo + j.val)) (hh : h (ix2 r j) = fh (o + lo + j.val)) :
    rot lo hs (mm a (View.ld (Val := Elt Ideal) (e' := .f32) w (Rect.unit (s := S1024x3072) ![0, o] ![1024, 512] inb))) c l h (ix2 r j) = tab (pB a w r) f fl fh (o + lo + j.val) := by
  rw [rot_apply lo hlo, mm_apply, mm_apply, mm_apply, hc, hl', hh]
  unfold tab
  rw [← Nat.add_assoc, show 128 * ((o + lo + j.val) / 128) + ((o + lo + j.val) % 128 + 8) % 128 = o + (lo + (j.val + 8) % 128) by omega,
    show 128 * ((o + lo + j.val) / 128) + ((o + lo + j.val) % 128 + 120) % 128 = o + (lo + (j.val + 120) % 128) by omega]

/-- The tables repeat every 64 columns. -/
theorem ct_mod (θ : ℕ → EReal) (n j : ℕ) (h : n % 128 = 0) : ct θ (n + j) = ct θ j := by unfold ct; rw [show (n + j) % 64 = j % 64 by omega]
theorem sl_mod (θ : ℕ → EReal) (n j : ℕ) (h : n % 128 = 0) : sl θ (n + j) = sl θ j := by unfold sl; rw [show (n + j) % 64 = j % 64 by omega]
theorem sh_mod (θ : ℕ → EReal) (n j : ℕ) (h : n % 128 = 0) : sh θ (n + j) = sh θ j := by unfold sh; rw [show (n + j) % 64 = j % 64 by omega]

/-- A rotated group of keys. -/
theorem piece_k (o lo : ℕ) (ho : o % 512 = 0) (hlo : lo + 128 ≤ 512) (hl : lo % 128 = 0) (hk : o / 512 % 3 = 1) (inb) (hs) (r : Fin 1024) (j : Fin 128) :
    rot lo hs (mm a (View.ld (Val := Elt Ideal) (e' := .f32) w (Rect.unit (s := S1024x3072) ![0, o] ![1024, 512] inb))) (k0_pay10 x1 x4) (k0_pay11 x1 x4) (k0_pay12 (k0_pay7 x1 x4) k0_pay8 k0_pay9) (ix2 r j)
      = seg (pB a w r) (thB (k0_pay6 x1 x4) r) (o + lo + j.val) := by
  refine (rot_tab a w (ct (thB (k0_pay6 x1 x4) r)) (sl (thB (k0_pay6 x1 x4) r)) (sh (thB (k0_pay6 x1 x4) r)) o lo ho hlo hl inb hs _ _ _ r j ?_ ?_ ?_).trans ?_
  · rw [pay10_apply, ct_mod _ _ _ (by omega)]
  · rw [pay11_apply, sl_mod _ _ _ (by omega)]
  · rw [pay12_apply, sh_mod _ _ _ (by omega)]
  · unfold seg
    rw [tab_eq, if_neg (by omega), if_neg (by omega)]

/-- A rotated group of queries. -/
theorem piece_q (o lo : ℕ) (ho : o % 512 = 0) (hlo : lo + 128 ≤ 512) (hl : lo % 128 = 0) (hk : o / 512 % 3 = 0) (inb) (hs) (r : Fin 1024) (j : Fin 128) :
    rot lo hs (mm a (View.ld (Val := Elt Ideal) (e' := .f32) w (Rect.unit (s := S1024x3072) ![0, o] ![1024, 512] inb))) (k0_pay14 (k0_pay10 x1 x4)) (k0_pay15 (k0_pay11 x1 x4)) (k0_pay16 (k0_pay7 x1 x4) k0_pay8 k0_pay9) (ix2 r j)
      = seg (pB a w r) (thB (k0_pay6 x1 x4) r) (o + lo + j.val) := by
  refine (rot_tab a w (fun n => ct (thB (k0_pay6 x1 x4) r) n * qs) (fun n => sl (thB (k0_pay6 x1 x4) r) n * qs) (fun n => sh (thB (k0_pay6 x1 x4) r) n * qs) o lo ho hlo hl inb hs _ _ _ r j ?_ ?_ ?_).trans ?_
  · rw [pay14_apply, pay10_apply, ct_mod _ _ _ (by omega)]
  · rw [pay15_apply, pay11_apply, sl_mod _ _ _ (by omega)]
  · rw [pay16_apply, pay12_apply, sh_mod _ _ _ (by omega)]
  · unfold seg
    rw [if_neg (by omega), if_pos (by omega)]
    exact tab_mul _ _ _ _ (by have := Real.log_pos (show (1 : ℝ) < 2 by norm_num); positivity)

/-- A group of values. -/
theorem piece_v (o : ℕ) (hk : o / 512 % 3 = 2) (inb) (r : Fin 1024) (j : Fin 512) (θ) (ho : o % 512 = 0) :
    mm a (View.ld (Val := Elt Ideal) (e' := .f32) w (Rect.unit (s := S1024x3072) ![0, o] ![1024, 512] inb)) (ix2 r j) = seg (pB a w r) θ (o + j.val) := by
  rw [mm_apply]
  unfold seg
  rw [if_pos (by omega)]

/-- The formula's block at a stored rectangle. -/
theorem out_emb (T : FVec Ideal S8x1024 .f32) (o n : ℕ) (inb) (r : Fin 1024) (j : Fin n) :
    blkOut a w T ((Rect.unit (s := S1024x3072) ![0, o] ![1024, n] inb).emb (ix2 r j)) = seg (pB a w r) (thB T r) (o + j.val) := by
  unfold blkOut
  have e : ((Rect.unit (s := S1024x3072) ![0, o] ![1024, n] inb).emb (ix2 r j)) 0 = r := Fin.ext (by simp)
  rw [e]
  refine congrArg _ ?_
  simp

theorem store_k (o lo o' : ℕ) (inb) (hs) (inb') (r : Fin 1024) (j : Fin 128) (ho : o % 512 = 0 ∧ lo + 128 ≤ 512 ∧ lo % 128 = 0 ∧ o / 512 % 3 = 1 ∧ o' = o + lo) :
    rot lo hs (mm a (View.ld (Val := Elt Ideal) (e' := .f32) w (Rect.unit (s := S1024x3072) ![0, o] ![1024, 512] inb))) (k0_pay10 x1 x4) (k0_pay11 x1 x4) (k0_pay12 (k0_pay7 x1 x4) k0_pay8 k0_pay9) (ix2 r j)
      = blkOut a w (k0_pay6 x1 x4) ((Rect.unit (s := S1024x3072) ![0, o'] ![1024, 128] inb').emb (ix2 r j)) := by
  obtain ⟨h1, h2, h3, h4, rfl⟩ := ho
  rw [out_emb, piece_k a w x1 x4 o lo h1 h2 h3 h4]

theorem store_q (o lo o' : ℕ) (inb) (hs) (inb') (r : Fin 1024) (j : Fin 128) (ho : o % 512 = 0 ∧ lo + 128 ≤ 512 ∧ lo % 128 = 0 ∧ o / 512 % 3 = 0 ∧ o' = o + lo) :
    rot lo hs (mm a (View.ld (Val := Elt Ideal) (e' := .f32) w (Rect.unit (s := S1024x3072) ![0, o] ![1024, 512] inb))) (k0_pay14 (k0_pay10 x1 x4)) (k0_pay15 (k0_pay11 x1 x4)) (k0_pay16 (k0_pay7 x1 x4) k0_pay8 k0_pay9) (ix2 r j)
      = blkOut a w (k0_pay6 x1 x4) ((Rect.unit (s := S1024x3072) ![0, o'] ![1024, 128] inb').emb (ix2 r j)) := by
  obtain ⟨h1, h2, h3, h4, rfl⟩ := ho
  rw [out_emb, piece_q a w x1 x4 o lo h1 h2 h3 h4]

theorem store_v (o : ℕ) (T : FVec Ideal S8x1024 .f32) (inb) (inb') (r : Fin 1024) (j : Fin 512) (ho : o % 512 = 0 ∧ o / 512 % 3 = 2) :
    truncf .bf16 (mm a (View.ld (Val := Elt Ideal) (e' := .f32) w (Rect.unit (s := S1024x3072) ![0, o] ![1024, 512] inb))) bitsLt_bf16_f32 (ix2 r j)
      = blkOut a w T ((Rect.unit (s := S1024x3072) ![0, o] ![1024, 512] inb').emb (ix2 r j)) := by
  rw [out_emb]
  exact piece_v a w o ho.2 inb r j _ ho.1

/-- The angles of a block: frequency times position. -/
theorem pay6_apply (d : Fin 8) (r : Fin 1024) : k0_pay6 (F := Ideal) x1 x4 (ix2 d r) = x4 (ix2 d 0) * (((x1 (ix3 0 ⟨r.val / 128, by omega⟩ ⟨r.val % 128, by omega⟩)).toInt : ℝ) : EReal) := by
  pointwise [k0_pay6]
  repeat' split
  all_goals exact congrArg₂ (fun (n : Fin 8) (k : Fin 128) => x4 (ix2 d 0) * (((x1 (ix3 0 n k)).toInt : ℝ) : EReal)) (Fin.ext (by first | omega | (simp only [Fin.val_zero, Fin.val_one] <;> omega))) (Fin.ext (by dsimp only <;> omega))

variable (m : (ℓ : Loc nD τ sig) → Buf (Elt Ideal) ℓ)

theorem idx : ∀ t : Fin cfg0.N, win0_0.index t = ![t.val, 0] ∧ win0_1.index t = ![t.val, 0, 0] ∧ win0_2.index t = ![0, 0] ∧ win0_3.index t = ![0, 0] ∧ win0_4.index t = ![0, 0] ∧ win0_5.index t = ![t.val, 0] :=
  (by decide +kernel : ∀ t : Fin grid0.N, _)

/-- The positions a grid point reads. -/
theorem blk1 (c : Dev nD) (t : Fin cfg0.N) (p : Fin 8) (q : Fin 128) (i : Fin 16) (k : Fin 2048) (h : 2048 * i.val + k.val = 1024 * t.val + (128 * p.val + q.val)) :
    iblk m c 1 t (ix3 0 p q) = m ((c : Thread nD τ).loc main_arg1) (ix2 i k) := by
  refine Eq.trans (b := V m c main_v9 (ix3 ⟨t.val, t.isLt⟩ p q)) ?_ ?_
  · blk_point [iblk, idx t]
  · entry_read
    pointwise
    exact congrArg₂ (fun a b => m ((c : Thread nD τ).loc main_arg1) (ix2 a b)) (Fin.ext (by dsimp only; omega)) (Fin.ext (by dsimp only; omega))

/-- The frequencies it reads. -/
theorem blk4 (c : Dev nD) (t : Fin cfg0.N) (d : Fin 8) : iblk m c 4 t (ix2 d 0) = freq d.val := by
  refine Eq.trans (b := V m c main_v10 (ix2 d 0)) ?_ ?_
  · blk_point [iblk, idx t]
  · entry_read
    pointwise [freq]
    rfl

/-- The product it forms. -/
theorem pB_eq (c : Dev nD) (t : Fin cfg0.N) (r : Fin 1024) (R : Fin 32768) (h : R.val = 1024 * t.val + r.val) (n : ℕ) :
    pB (k0_pay5 (iblk m c 0 t) (iblk m c 2 t)) (iblk m c 3 t) r n = pr (m ((c : Thread nD τ).loc main_arg0)) (m ((c : Thread nD τ).loc main_arg2)) (m ((c : Thread nD τ).loc main_arg3)) R n := by
  pointwise [pB, k0_pay5, pr, nrmAt]
  blk_point [iblk, V, idx t]

theorem th_eq (c : Dev nD) (t : Fin cfg0.N) (r : Fin 1024) (R : Fin 32768) (h : R.val = 1024 * t.val + r.val) (n : ℕ) :
    thB (k0_pay6 (iblk m c 1 t) (iblk m c 4 t)) r n = ang (m ((c : Thread nD τ).loc main_arg1)) R n := by
  unfold thB ang posAt
  rw [pay6_apply, blk4, blk1 m c t _ _ ⟨R.val / 2048, by omega⟩ ⟨R.val % 2048, by omega⟩ (by dsimp only; omega)]

/-- The output array at the end of the run. -/
theorem final (c : Dev nD) : (dats m 0 c).arrAt 5 (cfgs 0).N = inOut (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  unfold outsAt0
  frame_out
  refine (View.canon_apply_of_pieces (blkOut (k0_pay5 (iblk m c 0 t) (iblk m c 2 t)) (iblk m c 3 t) (k0_pay6 (iblk m c 1 t) (iblk m c 4 t))) _ (View.PiecesOf.mem ?_) _ (View.cover_of_tiledBy _ ![1024, 128] (by sl_kernel_rfl) _)).trans ?_
  · refine ⟨?_, ?_, ?_, ?_, ?_, ?_, ?_, ?_, ?_, ?_, ?_, ?_, ?_, ?_, ?_, ?_, ?_, ?_, trivial⟩
    all_goals
      intro x
      idx_vars x
    all_goals dsimp only [k0_pay1, k0_pay2, k0_pay3, k0_pay4, k0_pay13, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42]
    all_goals first
      | with_reducible refine store_v _ _ _ _ _ _ x0 x1 ?_
      | with_reducible refine store_k _ _ _ _ _ _ _ _ _ _ x0 x1 ?_
      | with_reducible refine store_q _ _ _ _ _ _ _ _ _ _ x0 x1 ?_
    all_goals decide
  · generalize hz : ((View.whole main_v11).slice (win0_5.rect t)).emb y = z
    have h0 : (z 0).val = 1024 * t.val + (y 0).val := by
      rw [← hz]
      blk_simp [idx t]
      omega
    have h1 : (z 1).val = (y 1).val := by
      rw [← hz]
      blk_simp [idx t]
    unfold blkOut inOut
    rw [h1, funext (pB_eq m c t (y 0) (z 0) h0), funext (th_eq m c t (y 0) (z 0) h0)]

end Cert.Kernel4Ideal.Value
-- ==== Proof.InRef.lean ====
/- The reference's input projection: its stages as composed, and their values at an index. -/
module

public import proofs.«01_k».proof.Proof.Gen.Reference4Ideal.Run
public import proofs.«01_k».proof.Proof.InFn
public import Idealize.ShloMosaic.Lib.Pointwise

@[expose] public section
set_option maxRecDepth 16384
noncomputable section
open Idealize.ShloMosaic Idealize.ShloMosaic.TcCoe Idealize.SL.Sem
namespace Cert.Reference4Ideal.In
open Cert.Reference4Ideal Cert.Reference4Ideal.Gen Cert.Rope

/-- The projected rows, by sequence. -/
def prR (X : FVec Ideal S32768x1024 .f32) (g : FVec Ideal S1x1024 .f32) (w : FVec Ideal S1024x3072 .f32) : FVec Ideal S16x2048x3072 .f32 :=
  shapeCast _ (Host.dotGeneral dot_S32768x1024_S1024x3072_S32768x3072_1_0_0_1_n_n none (mulf (mulf X (broadcastInDim S32768x1024 ![0, 1] bcast_S32768x1_S32768x1024_0_1 (Host.rsqrt (addf (Host.divf (broadcastInDim S32768x1 ![0] bcast_S32768_S32768x1_0 (Host.reduceAdd (mulf X X) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x3727C5AC#32)))))) (broadcastInDim S32768x1024 ![0, 1] bcast_S1x1024_S32768x1024_0_1 g)) w) shapeCasts_S32768x3072_S16x2048x3072

/-- The angles. -/
def angR (P : IVec S16x2048 32) : FVec Ideal S16x2048x1x8 .f32 :=
  mulf (broadcastInDim S16x2048x1x8 ![0, 1, 2, 3] bcast_S16x2048x1x1_S16x2048x1x8_0_1_2_3 (broadcastInDim S16x2048x1x1 ![0, 1] bcast_S16x2048_S16x2048x1x1_0_1 (sitofp .f32 P))) (broadcastInDim S16x2048x1x8 ![0, 1, 2, 3] bcast_S1x1x1x8_S16x2048x1x8_0_1_2_3 (broadcastInDim S1x1x1x8 ![3] bcast_S8_S1x1x1x8_3 (Host.exp (Host.divf (mulf (mulf (broadcastInDim S8 ![] bcast_S_S8 (constant S_ .f32 0xC151F533#32)) (sitofp .f32 (iotaInDim S8 32 0))) (broadcastInDim S8 ![] bcast_S_S8 (constant S_ .f32 0x40000000#32))) (broadcastInDim S8 ![] bcast_S_S8 (constant S_ .f32 0x41800000#32))))))

/-- The rotation of every head of one group of 512 columns. -/
def ropeR (Q : FVec Ideal S16x2048x8x64 .f32) (A : FVec Ideal S16x2048x1x8 .f32) : FVec Ideal S16x2048x8x64 .f32 :=
  concatenate S16x2048x8x64 3 [⟨S16x2048x8x8, subf (mulf (extractStridedSlice S16x2048x8x8 ![0, 0, 0, 0] Q slices_S16x2048x8x64_S16x2048x8x8_0_0_0_0) (broadcastInDim S16x2048x8x8 ![0, 1, 2, 3] bcast_S16x2048x1x8_S16x2048x8x8_0_1_2_3 (Host.cos A))) (mulf (extractStridedSlice S16x2048x8x8 ![0, 0, 0, 8] Q slices_S16x2048x8x64_S16x2048x8x8_0_0_0_8) (broadcastInDim S16x2048x8x8 ![0, 1, 2, 3] bcast_S16x2048x1x8_S16x2048x8x8_0_1_2_3 (Host.sin A)))⟩, ⟨S16x2048x8x8, addf (mulf (extractStridedSlice S16x2048x8x8 ![0, 0, 0, 8] Q slices_S16x2048x8x64_S16x2048x8x8_0_0_0_8) (broadcastInDim S16x2048x8x8 ![0, 1, 2, 3] bcast_S16x2048x1x8_S16x2048x8x8_0_1_2_3 (Host.cos A))) (mulf (extractStridedSlice S16x2048x8x8 ![0, 0, 0, 0] Q slices_S16x2048x8x64_S16x2048x8x8_0_0_0_0) (broadcastInDim S16x2048x8x8 ![0, 1, 2, 3] bcast_S16x2048x1x8_S16x2048x8x8_0_1_2_3 (Host.sin A)))⟩, ⟨S16x2048x8x48, extractStridedSlice S16x2048x8x48 ![0, 0, 0, 16] Q slices_S16x2048x8x64_S16x2048x8x48_0_0_0_16⟩] concatenates_S16x2048x8x8_S16x2048x8x8_S16x2048x8x48_S16x2048x8x64_d3

/-- One group of 512 columns, by head. -/
def grp (o : ℕ) (h : S16x2048x3072.Slices ![0, 0, o] S16x2048x512) (p : FVec Ideal S16x2048x3072 .f32) : FVec Ideal S16x2048x8x64 .f32 :=
  shapeCast _ (extractStridedSlice S16x2048x512 ![0, 0, o] p h) shapeCasts_S16x2048x512_S16x2048x8x64

/-- Rotated keys. -/
def keyR (o : ℕ) (h : S16x2048x3072.Slices ![0, 0, o] S16x2048x512) (p : FVec Ideal S16x2048x3072 .f32) (A : FVec Ideal S16x2048x1x8 .f32) : FVec Ideal S16x2048x512 .f32 :=
  shapeCast _ (ropeR (grp o h p) A) shapeCasts_S16x2048x8x64_S16x2048x512

/-- Rotated and scaled queries. -/
def qryR (o : ℕ) (h : S16x2048x3072.Slices ![0, 0, o] S16x2048x512) (p : FVec Ideal S16x2048x3072 .f32) (A : FVec Ideal S16x2048x1x8 .f32) : FVec Ideal S16x2048x512 .f32 :=
  shapeCast _ (Host.divf (ropeR (grp o h p) A) (broadcastInDim S16x2048x8x64 ![] bcast_S_S16x2048x8x64 (mulf (constant S_ .f32 0x41000000#32) (Host.log (constant S_ .f32 0x40000000#32))))) shapeCasts_S16x2048x8x64_S16x2048x512

/-- The six groups side by side. -/
def catR (a b c d e f : FVec Ideal S16x2048x512 .f32) : FVec Ideal S32768x3072 .bf16 :=
  truncf .bf16 (shapeCast _ (concatenate S16x2048x3072 2 [⟨S16x2048x512, a⟩, ⟨S16x2048x512, b⟩, ⟨S16x2048x512, c⟩, ⟨S16x2048x512, d⟩, ⟨S16x2048x512, e⟩, ⟨S16x2048x512, f⟩] concatenates_S16x2048x512_S16x2048x512_S16x2048x512_S16x2048x512_S16x2048x512_S16x2048x512_S16x2048x3072_d2) shapeCasts_S16x2048x3072_S32768x3072) bitsLt_bf16_f32

/-- The whole of it. -/
def refOut (X : FVec Ideal S32768x1024 .f32) (P : IVec S16x2048 32) (g : FVec Ideal S1x1024 .f32) (w : FVec Ideal S1024x3072 .f32) : FVec Ideal S32768x3072 .bf16 :=
  catR (qryR 0 slices_S16x2048x3072_S16x2048x512_0_0_0 (prR X g w) (angR P)) (keyR 512 slices_S16x2048x3072_S16x2048x512_0_0_512 (prR X g w) (angR P)) (extractStridedSlice S16x2048x512 ![0, 0, 1024] (prR X g w) slices_S16x2048x3072_S16x2048x512_0_0_1024)
    (qryR 1536 slices_S16x2048x3072_S16x2048x512_0_0_1536 (prR X g w) (angR P)) (keyR 2048 slices_S16x2048x3072_S16x2048x512_0_0_2048 (prR X g w) (angR P)) (extractStridedSlice S16x2048x512 ![0, 0, 2560] (prR X g w) slices_S16x2048x3072_S16x2048x512_0_0_2560)

/-- The program's result is the composed stages. -/
theorem res_eq (m : (ℓ : Loc nD τ sig) → Buf (Elt Ideal) ℓ) (c : Dev nD) : Value.res_out0 m c = refOut (m ((c.tc : Thread nD τ).loc main_arg0)) (m ((c.tc : Thread nD τ).loc main_arg1)) (m ((c.tc : Thread nD τ).loc main_arg2)) (m ((c.tc : Thread nD τ).loc main_arg3)) := by
  unfold Value.res_out0 Value.res_main_v158
  rfl

/-- A projected entry is the formula's. -/
theorem prR_apply (X : FVec Ideal S32768x1024 .f32) (g : FVec Ideal S1x1024 .f32) (w : FVec Ideal S1024x3072 .f32) (b : Fin 16) (s : Fin 2048) (c : Fin 3072)
    (r : Fin 32768) (h : b.val * 2048 + s.val = r.val) (n : ℕ) (hn : c.val = n) : prR X g w (ix3 b s c) = pr X g w r n := by
  subst hn
  pointwise [prR, pr, nrmAt]
  have hr : (⟨b.val * 2048 + s.val, by omega⟩ : Fin 32768) = r := Fin.ext h
  have hc : (⟨c.val % 3072, Nat.mod_lt _ (by norm_num)⟩ : Fin 3072) = c := Fin.ext (Nat.mod_eq_of_lt c.2)
  simp only [hr, hc]

/-- An angle is the formula's. -/
theorem angR_apply (P : IVec S16x2048 32) (b : Fin 16) (s : Fin 2048) (r : Fin 32768) (h : b.val * 2048 + s.val = r.val) (d : Fin 8) (n : ℕ) (hn : n = d.val) :
    angR P (ix4 b s 0 d) = ang P r n := by
  subst hn
  have hb : b = ⟨r.val / 2048, by omega⟩ := Fin.ext (by dsimp only; omega)
  have hs : s = ⟨r.val % 2048, by omega⟩ := Fin.ext (by dsimp only; omega)
  rw [hb, hs]
  pointwise [angR, ang, posAt, freq]
  rw [Nat.mod_eq_of_lt d.2]
  exact mul_comm _ _

/-- The first half of the rotated columns. -/
theorem rope_lo (p θ : ℕ → EReal) (c : ℕ) (h : c % 64 < 8) : rope p θ c = p c * Ideal.cos (θ (c % 64)) - p (c + 8) * Ideal.sin (θ (c % 64)) := if_pos h

/-- The second half of the rotated columns. -/
theorem rope_mid (p θ : ℕ → EReal) (c : ℕ) (h : ¬c % 64 < 8) (h' : c % 64 < 16) : rope p θ c = p c * Ideal.cos (θ (c % 64 - 8)) + p (c - 8) * Ideal.sin (θ (c % 64 - 8)) :=
  (if_neg h).trans (if_pos h')

/-- The other columns. -/
theorem rope_hi (p θ : ℕ → EReal) (c : ℕ) (h : ¬c % 64 < 16) : rope p θ c = p c := (if_neg (by omega)).trans (if_neg h)

/-- A difference of products, factor by factor. -/
theorem sub_of {a a' b b' c c' d d' : EReal} (ha : a = a') (hb : b = b') (hc : c = c') (hd : d = d') : a * b - c * d = a' * b' - c' * d' := by rw [ha, hb, hc, hd]

/-- A sum of products, factor by factor. -/
theorem add_of {a a' b b' c c' d d' : EReal} (ha : a = a') (hb : b = b') (hc : c = c') (hd : d = d') : a * b + c * d = a' * b' + c' * d' := by rw [ha, hb, hc, hd]

/-- A rotated entry is the formula's, from a projected row `q` and its angles `θ`. -/
theorem keyR_apply (o : ℕ) (h : S16x2048x3072.Slices ![0, 0, o] S16x2048x512) (ho : o + 512 ≤ 3072) (ho' : o % 64 = 0) (p : FVec Ideal S16x2048x3072 .f32) (A : FVec Ideal S16x2048x1x8 .f32)
    (b : Fin 16) (s : Fin 2048) (q θ : ℕ → EReal) (hq : ∀ (c : Fin 3072) (n : ℕ), c.val = n → p (ix3 b s c) = q n) (hθ : ∀ (d : Fin 8) (n : ℕ), n = d.val → A (ix4 b s 0 d) = θ n)
    (j : Fin 512) (c : ℕ) (hc : o + j.val = c) : keyR o h p A (ix3 b s j) = rope q θ c := by
  pointwise [keyR, ropeR, grp]
  by_cases h1 : j.val % 64 < 8
  · refine (dif_pos h1).trans ?_
    rw [rope_lo q θ c (by omega)]
    exact sub_of (hq _ c (by dsimp only; omega)) (congrArg Ideal.cos (hθ _ (c % 64) (by dsimp only; omega))) (hq _ (c + 8) (by dsimp only; omega)) (congrArg Ideal.sin (hθ _ (c % 64) (by dsimp only; omega)))
  · refine (dif_neg h1).trans ?_
    by_cases h2 : j.val % 64 < 16
    · refine (dif_pos (by omega)).trans ?_
      rw [rope_mid q θ c (by omega) (by omega)]
      exact add_of (hq _ c (by dsimp only; omega)) (congrArg Ideal.cos (hθ _ (c % 64 - 8) (by dsimp only; omega))) (hq _ (c - 8) (by dsimp only; omega)) (congrArg Ideal.sin (hθ _ (c % 64 - 8) (by dsimp only; omega)))
    · refine (dif_neg (by omega)).trans ?_
      rw [rope_hi q θ c (by omega)]
      exact hq _ c (by dsimp only; omega)

/-- The same for the program's own rows and angles. -/
theorem keyR_eq (X : FVec Ideal S32768x1024 .f32) (P : IVec S16x2048 32) (g : FVec Ideal S1x1024 .f32) (w : FVec Ideal S1024x3072 .f32) (o : ℕ) (h : S16x2048x3072.Slices ![0, 0, o] S16x2048x512)
    (ho : o + 512 ≤ 3072) (ho' : o % 64 = 0) (b : Fin 16) (s : Fin 2048) (r : Fin 32768) (hr : b.val * 2048 + s.val = r.val) (j : Fin 512) (c : ℕ) (hc : o + j.val = c) :
    keyR o h (prR X g w) (angR P) (ix3 b s j) = rope (pr X g w r) (ang P r) c :=
  keyR_apply o h ho ho' (prR X g w) (angR P) b s (pr X g w r) (ang P r) (fun c n hn => prR_apply X g w b s c r hr n hn) (fun d n hn => angR_apply P b s r hr d n hn) j c hc

/-- The divisor is the real it reads as. -/
theorem scale_eq : Ideal.ofBits .f32 0x41000000#32 * Ideal.log (Ideal.ofBits .f32 0x40000000#32) = ((8 * Real.log 2 : ℝ) : EReal) := by
  have h2 : Ideal.ofBits .f32 0x40000000#32 = ((2 : ℝ) : EReal) := by
    simp [Ideal.ofBits, Ideal.ieee]
    exact (EReal.coe_mul _ _).symm.trans (congrArg ((↑) : ℝ → EReal) (by norm_num))
  have h8 : Ideal.ofBits .f32 0x41000000#32 = ((8 : ℝ) : EReal) := by
    simp [Ideal.ofBits, Ideal.ieee]
    exact (EReal.coe_mul _ _).symm.trans (congrArg ((↑) : ℝ → EReal) (by norm_num))
  rw [h2, h8, Ideal.log_coe, if_neg (by norm_num), EReal.coe_mul]

/-- A scaled entry is the rotated one times the factor. -/
theorem qryR_apply (o : ℕ) (h : S16x2048x3072.Slices ![0, 0, o] S16x2048x512) (p : FVec Ideal S16x2048x3072 .f32) (A : FVec Ideal S16x2048x1x8 .f32) (b : Fin 16) (s : Fin 2048) (j : Fin 512) :
    qryR o h p A (ix3 b s j) = keyR o h p A (ix3 b s j) * qs := by
  have e (x : EReal) : Ideal.div x (Ideal.ofBits .f32 0x41000000#32 * Ideal.log (Ideal.ofBits .f32 0x40000000#32)) = x * qs := by
    rw [scale_eq, Ideal.div_coe (mul_pos (by norm_num) (Real.log_pos (by norm_num))).ne', one_div]
    rfl
  exact e _

/-- The groups side by side, at an index of a group. -/
theorem catR_apply (a b c d e f : FVec Ideal S16x2048x512 .f32) (r : Fin 32768) (j : Fin 3072) : catR a b c d e f (ix2 r j)
    = (![a, b, c, d, e, f] ⟨j.val / 512, by omega⟩) (ix3 ⟨r.val / 2048, by omega⟩ ⟨r.val % 2048, by omega⟩ ⟨j.val % 512, by omega⟩) := by
  have hj := j.2
  have key (k : Fin 6) (hk : j.val / 512 = k.val) : (⟨j.val / 512, by omega⟩ : Fin 6) = k := Fin.ext hk
  pointwise [catR]
  repeat' split
  · rw [key 0 (by simp only [Fin.isValue, Fin.val_zero]; omega)]
    exact congrArg (fun n => a (ix3 _ _ n)) (Fin.ext (by dsimp only; omega))
  · rw [key 1 (by show _ = 1; omega)]
    exact congrArg (fun n => b (ix3 _ _ n)) (Fin.ext (by dsimp only; omega))
  · rw [key 2 (by show _ = 2; omega)]
    exact congrArg (fun n => c (ix3 _ _ n)) (Fin.ext (by dsimp only; omega))
  · rw [key 3 (by show _ = 3; omega)]
    exact congrArg (fun n => d (ix3 _ _ n)) (Fin.ext (by dsimp only; omega))
  · rw [key 4 (by show _ = 4; omega)]
    exact congrArg (fun n => e (ix3 _ _ n)) (Fin.ext (by dsimp only; omega))
  · rw [key 5 (by show _ = 5; omega)]
    exact congrArg (fun n => f (ix3 _ _ n)) (Fin.ext (by dsimp only; omega))

/-- A value that every group has at its own columns is the value of the whole. -/
theorem catR_of (a b c d e f : FVec Ideal S16x2048x512 .f32) (r : Fin 32768) (j : Fin 3072) (i : S16x2048x512.Idx) (v : EReal)
    (hi : i = ix3 ⟨r.val / 2048, by omega⟩ ⟨r.val % 2048, by omega⟩ ⟨j.val % 512, by omega⟩)
    (h0 : j.val / 512 = 0 → a i = v) (h1 : j.val / 512 = 1 → b i = v) (h2 : j.val / 512 = 2 → c i = v)
    (h3 : j.val / 512 = 3 → d i = v) (h4 : j.val / 512 = 4 → e i = v) (h5 : j.val / 512 = 5 → f i = v) : catR a b c d e f (ix2 r j) = v := by
  have hj := j.2
  have key (k : Fin 6) (hk : j.val / 512 = k.val) : (⟨j.val / 512, by omega⟩ : Fin 6) = k := Fin.ext hk
  rw [catR_apply, ← hi]
  rcases (show j.val / 512 = 0 ∨ j.val / 512 = 1 ∨ j.val / 512 = 2 ∨ j.val / 512 = 3 ∨ j.val / 512 = 4 ∨ j.val / 512 = 5 by omega) with h | h | h | h | h | h
  · rw [key 0 h]
    exact h0 h
  · rw [key 1 h]
    exact h1 h
  · rw [key 2 h]
    exact h2 h
  · rw [key 3 h]
    exact h3 h
  · rw [key 4 h]
    exact h4 h
  · rw [key 5 h]
    exact h5 h

/-- A group taken as it is. -/
theorem val_apply (o : ℕ) (h : S16x2048x3072.Slices ![0, 0, o] S16x2048x512) (ho : o + 512 ≤ 3072) (p : FVec Ideal S16x2048x3072 .f32) (b : Fin 16) (s : Fin 2048) (j : Fin 512) :
    extractStridedSlice S16x2048x512 ![0, 0, o] p h (ix3 b s j) = p (ix3 b s ⟨o + j.val, by omega⟩) := by
  pointwise

/-- A group taken as it is, at its own columns. -/
theorem val_eq (X : FVec Ideal S32768x1024 .f32) (g : FVec Ideal S1x1024 .f32) (w : FVec Ideal S1024x3072 .f32) (o : ℕ) (h : S16x2048x3072.Slices ![0, 0, o] S16x2048x512)
    (ho : o + 512 ≤ 3072) (b : Fin 16) (s : Fin 2048) (r : Fin 32768) (hr : b.val * 2048 + s.val = r.val) (j : Fin 512) (c : ℕ) (hc : o + j.val = c) :
    extractStridedSlice S16x2048x512 ![0, 0, o] (prR X g w) h (ix3 b s j) = pr X g w r c :=
  (val_apply o h ho (prR X g w) b s j).trans (prR_apply X g w b s _ r hr c hc)

/-- A column of a group of queries. -/
theorem seg_qry (p θ : ℕ → EReal) (c : ℕ) (h : c / 512 % 3 = 0) : seg p θ c = rope p θ c * qs := (if_neg (by omega)).trans (if_pos h)

/-- A column of a group of keys. -/
theorem seg_key (p θ : ℕ → EReal) (c : ℕ) (h : c / 512 % 3 = 1) : seg p θ c = rope p θ c := (if_neg (by omega)).trans (if_neg (by omega))

/-- A column of a group of values. -/
theorem seg_val (p θ : ℕ → EReal) (c : ℕ) (h : c / 512 % 3 = 2) : seg p θ c = p c := if_pos h

/-- The reference's result is the formula. -/
theorem ref_eq (X : FVec Ideal S32768x1024 .f32) (P : IVec S16x2048 32) (g : FVec Ideal S1x1024 .f32) (w : FVec Ideal S1024x3072 .f32) : refOut X P g w = inOut X P g w := by
  funext z
  obtain ⟨r, j, rfl⟩ : ∃ (r : Fin 32768) (j : Fin 3072), z = ix2 r j := ⟨z 0, z 1, (ix2_eta z).symm⟩
  obtain ⟨b, hb⟩ : ∃ b : Fin 16, b = ⟨r.val / 2048, by omega⟩ := ⟨_, rfl⟩
  obtain ⟨s, hs⟩ : ∃ s : Fin 2048, s = ⟨r.val % 2048, by omega⟩ := ⟨_, rfl⟩
  obtain ⟨k, hk⟩ : ∃ k : Fin 512, k = ⟨j.val % 512, by omega⟩ := ⟨_, rfl⟩
  have hb' := congrArg Fin.val hb
  have hs' := congrArg Fin.val hs
  have hk' := congrArg Fin.val hk
  dsimp only at hb' hs' hk'
  have hr : b.val * 2048 + s.val = r.val := by omega
  have qry (o : ℕ) (h : S16x2048x3072.Slices ![0, 0, o] S16x2048x512) (ho : o + 512 ≤ 3072) (ho' : o % 64 = 0) (e : o + k.val = j.val) (e' : j.val / 512 % 3 = 0) :
      qryR o h (prR X g w) (angR P) (ix3 b s k) = seg (pr X g w r) (ang P r) j.val :=
    (qryR_apply o h (prR X g w) (angR P) b s k).trans ((congrArg (· * qs) (keyR_eq X P g w o h ho ho' b s r hr k j.val e)).trans (seg_qry _ _ _ e').symm)
  have kv (o : ℕ) (h : S16x2048x3072.Slices ![0, 0, o] S16x2048x512) (ho : o + 512 ≤ 3072) (ho' : o % 64 = 0) (e : o + k.val = j.val) (e' : j.val / 512 % 3 = 1) :
      keyR o h (prR X g w) (angR P) (ix3 b s k) = seg (pr X g w r) (ang P r) j.val :=
    (keyR_eq X P g w o h ho ho' b s r hr k j.val e).trans (seg_key _ _ _ e').symm
  have vl (o : ℕ) (h : S16x2048x3072.Slices ![0, 0, o] S16x2048x512) (ho : o + 512 ≤ 3072) (e : o + k.val = j.val) (e' : j.val / 512 % 3 = 2) :
      extractStridedSlice S16x2048x512 ![0, 0, o] (prR X g w) h (ix3 b s k) = seg (pr X g w r) (ang P r) j.val :=
    (val_eq X g w o h ho b s r hr k j.val e).trans (seg_val _ _ _ e').symm
  exact catR_of _ _ _ _ _ _ r j (ix3 b s k) (seg (pr X g w r) (ang P r) j.val) (by rw [hb, hs, hk])
    (fun h => qry 0 _ (by omega) (by omega) (by omega) (by omega)) (fun h => kv 512 _ (by omega) (by omega) (by omega) (by omega)) (fun h => vl 1024 _ (by omega) (by omega) (by omega))
    (fun h => qry 1536 _ (by omega) (by omega) (by omega) (by omega)) (fun h => kv 2048 _ (by omega) (by omega) (by omega) (by omega)) (fun h => vl 2560 _ (by omega) (by omega) (by omega))

end Cert.Reference4Ideal.In
-- ==== Proof.InClaim.lean ====
/- The input projection: its value claim. -/
module

public import proofs.«01_k».proof.Defs
public import proofs.«01_k».proof.Proof.In
public import proofs.«01_k».proof.Proof.InRef
public import Idealize.ShloMosaic.Lib.Claim

@[expose] public section
set_option maxRecDepth 16384
noncomputable section
open Idealize.ShloMosaic Idealize.ShloMosaic.TcCoe Idealize.SL.Sem
namespace Cert.In

/-- The named factor is the real it was computed from. -/
theorem in_preserves : Cert.preserves_Kernel4_Kernel4Ideal :=
  IdealRules.named_const.statement Cert.Kernel4Ideal.κ "qscale" .f32 0x3E38AA3B#32 (((8 * (Real.log 2))⁻¹ : ℝ) : EReal) rfl

/-- The input projection ends with the reference's result. -/
theorem in_algebraic : Cert.algebraic_Kernel4Ideal_Reference4Ideal := by
  pair_intro
  · run_from Cert.Kernel4Ideal.Gen.run_main m g
  · run_from Cert.Reference4Ideal.Value.run m' g'
    refine Eq.trans ?_ (Cert.Kernel4Ideal.Value.final m c).symm
    obtain ⟨e0, e1, e2, e3⟩ := hagree c
    rw [← e0, ← e1, ← e2, ← e3]
    exact (Cert.Reference4Ideal.In.res_eq m' c).trans (Cert.Reference4Ideal.In.ref_eq _ _ _ _)

end Cert.In
-- ==== Proof.DilMath.lean ====
/- A softmax to the base two over keys that count several times, summed chunk by chunk against a moving shift: the
   real-number part. -/
module

public import proofs.«01_k».proof.Proof.AttnMath

@[expose] public section
noncomputable section
open Idealize.ShloMosaic
open Cert.Attn (coe_sum sum_rows fold_real ofBits_neg_inf)
namespace Cert.Dil

/-- One branch's mask: 1 for a key that is a multiple of `stride`, at most `span`, before the query `r`. -/
def see (span stride r k : ℕ) : ℝ := if k ≤ r ∧ r - k ≤ span ∧ (r - k) % stride = 0 then 1 else 0

/-- How many branches see a key. -/
def cnt (r k : ℕ) : ℝ := see 128 1 r k + see 512 4 r k + see 2048 16 r k

theorem see_shift (a b r k x : ℕ) : see a b (r + x) (k + x) = see a b r k := by
  unfold see
  rw [Nat.add_sub_add_right]
  simp only [Nat.add_le_add_iff_right]

theorem cnt_shift (r k x : ℕ) : cnt (r + x) (k + x) = cnt r k := by
  unfold cnt
  simp only [see_shift]

theorem see_nonneg (a b r k : ℕ) : 0 ≤ see a b r k := by unfold see; split <;> norm_num

theorem cnt_nonneg (r k : ℕ) : 0 ≤ cnt r k := add_nonneg (add_nonneg (see_nonneg ..) (see_nonneg ..)) (see_nonneg ..)

theorem see_late (a b : ℕ) {r k : ℕ} (h : r < k) : see a b r k = 0 := if_neg (by omega)

theorem cnt_late {r k : ℕ} (h : r < k) : cnt r k = 0 := by unfold cnt; simp only [see_late _ _ h]; norm_num

/-- Every sixteenth key before the query counts. -/
theorem cnt_pos {r k : ℕ} (h : k ≤ r) (hr : r < 2048) (h16 : (r - k) % 16 = 0) : 0 < cnt r k := by
  have : see 2048 16 r k = 1 := if_pos ⟨h, by omega, h16⟩
  unfold cnt
  rw [this]
  linarith [see_nonneg 128 1 r k, see_nonneg 512 4 r k]

/-- The logarithm to the base two of a count. -/
def lg (x : ℝ) : EReal := if x = 0 then ⊥ else ((Real.log x / Real.log 2 : ℝ) : EReal)

/-- The weight of key `k` for query `r`, whose scores are `s`, against the shift `μ`. -/
def w (s : ℕ → ℝ) (r : ℕ) (μ : ℝ) (k : ℕ) : ℝ := cnt r k * (2 : ℝ) ^ (s k - μ)

/-- The average of the values `v` under the softmax of the scores `s`, each key as often as it counts. -/
def avg (s : ℕ → ℝ) (v : ℕ → EReal) (r : ℕ) : EReal :=
  (∑ k ∈ Finset.range 2048, v k * (w s r 0 k : EReal)) * ((1 / ∑ k ∈ Finset.range 2048, w s r 0 k : ℝ) : EReal)

/-- A real factor that is not negative goes into a sum of extended reals. -/
theorem coe_mul_sum {ι : Type} (t : Finset ι) {a : ℝ} (ha : 0 ≤ a) (f : ι → EReal) : (a : EReal) * ∑ k ∈ t, f k = ∑ k ∈ t, (a : EReal) * f k := by
  classical
  induction t using Finset.induction_on with
  | empty => simp
  | insert k t hk ih =>
    rw [Finset.sum_insert hk, Finset.sum_insert hk, ← ih, EReal.left_distrib_of_nonneg_of_ne_top (EReal.coe_nonneg.2 ha) (EReal.coe_ne_top a)]

/-- A factor of numerator and denominator cancels. -/
theorem cancel {a z : ℝ} (ha : 0 < a) (x : EReal) : (a : EReal) * x * ((1 / (a * z) : ℝ) : EReal) = x * ((1 / z : ℝ) : EReal) := by
  rw [mul_comm (a : EReal), mul_assoc, ← EReal.coe_mul, mul_one_div, ← div_div, div_self ha.ne']

theorem w_shift (s : ℕ → ℝ) (r : ℕ) (μ μ' : ℝ) (k : ℕ) : (2 : ℝ) ^ (μ - μ') * w s r μ k = w s r μ' k := by
  unfold w
  rw [mul_left_comm, ← Real.rpow_add two_pos]
  congr 2; ring

theorem w_nonneg (s : ℕ → ℝ) (r : ℕ) (μ : ℝ) (k : ℕ) : 0 ≤ w s r μ k := mul_nonneg (cnt_nonneg r k) (by positivity)

/-- The total weight is positive: one of the first sixteen keys counts. -/
theorem sum_w_pos (s : ℕ → ℝ) (r : ℕ) (μ : ℝ) (n : ℕ) (h : 16 ≤ n) (hr : r < 2048) : 0 < ∑ k ∈ Finset.range n, w s r μ k := by
  refine Finset.sum_pos' (fun k _ => w_nonneg s r μ k) ⟨r % 16, Finset.mem_range.2 (by omega), ?_⟩
  exact mul_pos (cnt_pos (by omega) hr (by omega)) (by positivity)

/-- Rescaling the weights so far and adding a chunk's gives the longer sum. -/
theorem sum_step (s : ℕ → ℝ) (r : ℕ) (μ μ' : ℝ) (n c : ℕ) :
    (2 : ℝ) ^ (μ - μ') * (∑ k ∈ Finset.range n, w s r μ k) + ∑ k ∈ Finset.range c, w s r μ' (n + k) = ∑ k ∈ Finset.range (n + c), w s r μ' k := by
  rw [Finset.sum_range_add, Finset.mul_sum]
  exact congrArg (· + _) (Finset.sum_congr rfl fun k _ => w_shift s r μ μ' k)

/-- The weighted values, rescaled. -/
theorem val_shift (s : ℕ → ℝ) (v : ℕ → EReal) (r : ℕ) (μ μ' : ℝ) (n : ℕ) :
    (((2 : ℝ) ^ (μ - μ') : ℝ) : EReal) * (∑ k ∈ Finset.range n, v k * (w s r μ k : EReal)) = ∑ k ∈ Finset.range n, v k * (w s r μ' k : EReal) := by
  rw [coe_mul_sum _ (by positivity)]
  refine Finset.sum_congr rfl fun k _ => ?_
  rw [mul_left_comm, ← EReal.coe_mul, w_shift]

/-- The same for the weighted values. -/
theorem val_step (s : ℕ → ℝ) (v : ℕ → EReal) (r : ℕ) (μ μ' : ℝ) (n c : ℕ) :
    (((2 : ℝ) ^ (μ - μ') : ℝ) : EReal) * (∑ k ∈ Finset.range n, v k * (w s r μ k : EReal)) + ∑ k ∈ Finset.range c, v (n + k) * (w s r μ' (n + k) : EReal)
      = ∑ k ∈ Finset.range (n + c), v k * (w s r μ' k : EReal) := by
  rw [Finset.sum_range_add, val_shift]

/-- A key behind the query has no weight. -/
theorem w_late (s : ℕ → ℝ) {r k : ℕ} (μ : ℝ) (h : r < k) : w s r μ k = 0 := by
  unfold w
  rw [cnt_late h, zero_mul]

/-- A chunk that lies behind the query adds nothing to the weights. -/
theorem sum_unseen (s : ℕ → ℝ) (r : ℕ) (μ : ℝ) (n c : ℕ) (h : r < n) :
    ∑ k ∈ Finset.range (n + c), w s r μ k = ∑ k ∈ Finset.range n, w s r μ k := by
  rw [Finset.sum_range_add, add_eq_left]
  exact Finset.sum_eq_zero fun k _ => w_late s μ (by omega)

/-- Nor to the weighted values, whatever they are. -/
theorem val_unseen (s : ℕ → ℝ) (v : ℕ → EReal) (r : ℕ) (μ : ℝ) (n c : ℕ) (h : r < n) :
    ∑ k ∈ Finset.range (n + c), v k * (w s r μ k : EReal) = ∑ k ∈ Finset.range n, v k * (w s r μ k : EReal) := by
  rw [Finset.sum_range_add, Finset.sum_eq_zero (s := Finset.range c) fun k _ => by rw [w_late s μ (by omega), EReal.coe_zero, mul_zero], add_zero]

/-- The quotient of the sums does not depend on the shift, nor on keys past the query. -/
theorem quot_eq (s : ℕ → ℝ) (v : ℕ → EReal) (r : ℕ) (μ : ℝ) (n : ℕ) (h : r < n) (hn : n ≤ 2048) :
    (∑ k ∈ Finset.range n, v k * (w s r μ k : EReal)) * ((1 / ∑ k ∈ Finset.range n, w s r μ k : ℝ) : EReal) = avg s v r := by
  obtain ⟨c, hc⟩ := Nat.exists_eq_add_of_le hn
  have e1 : ∑ k ∈ Finset.range 2048, w s r 0 k = (2 : ℝ) ^ (μ - 0) * ∑ k ∈ Finset.range n, w s r μ k := by
    rw [hc, sum_unseen s r 0 n c h, Finset.mul_sum]
    exact Finset.sum_congr rfl fun k _ => (w_shift s r μ 0 k).symm
  unfold avg
  rw [e1, hc, val_unseen s v r 0 n c h, ← val_shift s v r μ 0 n, cancel (by positivity)]

/-- A score with its count's logarithm added has the counted weight. -/
theorem exp2_w {x : EReal} {s : ℕ → ℝ} {r k : ℕ} (h : x = (s k : EReal) + lg (cnt r k)) (μ : ℝ) :
    Ideal.exp2 (x - (μ : EReal)) = (w s r μ k : EReal) := by
  unfold w
  rw [h]
  unfold lg
  split
  · rename_i h0
    rw [EReal.add_bot, EReal.bot_sub, Ideal.exp2_bot, h0, zero_mul, EReal.coe_zero]
  · rename_i h0
    have hp : 0 < cnt r k := lt_of_le_of_ne (cnt_nonneg r k) (Ne.symm h0)
    rw [← EReal.coe_add, ← EReal.coe_sub, Ideal.exp2_coe]
    refine congrArg ((↑) : ℝ → EReal) ?_
    show (2 : ℝ) ^ (s k + Real.log (cnt r k) / Real.log 2 - μ) = cnt r k * (2 : ℝ) ^ (s k - μ)
    rw [show s k + Real.log (cnt r k) / Real.log 2 - μ = Real.log (cnt r k) / Real.log 2 + (s k - μ) by ring, Real.rpow_add two_pos]
    congr 1
    rw [Real.rpow_def_of_pos two_pos, mul_div_cancel₀ _ (Real.log_pos one_lt_two).ne', Real.exp_log hp]

/-- A score with a count's logarithm is not plus infinity. -/
theorem sc_ne_top (x : ℝ) (y : ℝ) : (x : EReal) + lg y ≠ ⊤ := by
  unfold lg; split
  · simp
  · rw [← EReal.coe_add]; exact EReal.coe_ne_top _

/-- A score of a key that counts is not minus infinity. -/
theorem sc_ne_bot (x : ℝ) {y : ℝ} (h : 0 < y) : (x : EReal) + lg y ≠ ⊥ := by
  unfold lg; rw [if_neg h.ne', ← EReal.coe_add]; exact EReal.coe_ne_bot _

end Cert.Dil
-- ==== Proof.DilStep.lean ====
/- One chunk of the dilated attention's running softmax, as functions of vectors: 128 keys against a tile of 256
   queries, the queries along the columns. -/
module

public import proofs.«01_k».proof.Proof.Gen.Kernel5Ideal.Value
public import proofs.«01_k».proof.Proof.DilMath
public import Idealize.ShloMosaic.Lib.Pipeline.ValueKit

@[expose] public section
set_option maxRecDepth 16384
noncomputable section
open Idealize.ShloMosaic Idealize.ShloMosaic.TcCoe Idealize.SL.Sem
namespace Cert.Kernel5Ideal.Dil
open Cert.Kernel5Ideal Cert.Kernel5Ideal.Gen Cert.Dil

/-- The scores of a chunk of keys, keys down the rows. -/
def sc (q : FVec Ideal S128x256 .bf16) (kk : FVec Ideal S1x128x128 .bf16) : FVec Ideal S128x256 .f32 :=
  matmul dot_S128x128_S128x256_S128x256_1_0_0_1_n_n none (shapeCast S128x128 kk shapeCasts_S1x128x128_S128x128) q
    (constant (F := Ideal) S128x256 .f32 0x00000000#32)

/-- The same for the upper half of the queries alone. -/
def sc2 (q : FVec Ideal S128x256 .bf16) (kk : FVec Ideal S1x128x128 .bf16) : FVec Ideal S128x128 .f32 :=
  matmul dot_S128x128_S128x128_S128x128_1_0_0_1_n_n none (shapeCast S128x128 kk shapeCasts_S1x128x128_S128x128)
    (extractStridedSlice S128x128 ![0, 128] q slices_S128x256_o0_128_S128x128) (constant (F := Ideal) S128x128 .f32 0x00000000#32)

/-- The largest score of each column. -/
def top (s : FVec Ideal S128x256 .f32) : FVec Ideal S1x256 .f32 :=
  shapeCast S1x256 (multiReduction .maximumf [0] S256 s 0xFF800000#32 reduces_S128x256_S256 (.inl rfl) rfl) shapeCasts_S256_S1x256

def top2 (s : FVec Ideal S128x128 .f32) : FVec Ideal S1x128 .f32 :=
  shapeCast S1x128 (multiReduction .maximumf [0] S128 s 0xFF800000#32 reduces_S128x128_S128 (.inl rfl) rfl) shapeCasts_S128_S1x128

/-- The weights of a chunk against a shift of each column. -/
def wt (s : FVec Ideal S128x256 .f32) (m : FVec Ideal S1x256 .f32) : FVec Ideal S128x256 .f32 :=
  exp2 (subf s (broadcastTo S128x256 m broadcasts_S1x256_S128x256))

def wt2 (s : FVec Ideal S128x128 .f32) (m : FVec Ideal S1x128 .f32) : FVec Ideal S128x128 .f32 :=
  exp2 (subf s (broadcastTo S128x128 m broadcasts_S1x128_S128x128))

/-- Sixteen groups of eight rows added up. -/
def grp (p : FVec Ideal S128x256 .f32) : FVec Ideal S8x256 .f32 :=
  have e (r : ℕ) (h : S128x256.Slices ![r, 0] S8x256) := extractStridedSlice S8x256 ![r, 0] p h
  addf (addf (addf (addf (addf (addf (addf (addf (addf (addf (addf (addf (addf (addf (addf (e 0 slices_S128x256_o0_0_S8x256) (e 8 slices_S128x256_o8_0_S8x256)) (e 16 slices_S128x256_o16_0_S8x256)) (e 24 slices_S128x256_o24_0_S8x256)) (e 32 slices_S128x256_o32_0_S8x256)) (e 40 slices_S128x256_o40_0_S8x256)) (e 48 slices_S128x256_o48_0_S8x256)) (e 56 slices_S128x256_o56_0_S8x256)) (e 64 slices_S128x256_o64_0_S8x256)) (e 72 slices_S128x256_o72_0_S8x256)) (e 80 slices_S128x256_o80_0_S8x256)) (e 88 slices_S128x256_o88_0_S8x256)) (e 96 slices_S128x256_o96_0_S8x256)) (e 104 slices_S128x256_o104_0_S8x256)) (e 112 slices_S128x256_o112_0_S8x256)) (e 120 slices_S128x256_o120_0_S8x256)

def grp2 (p : FVec Ideal S128x128 .f32) : FVec Ideal S8x128 .f32 :=
  have e (r : ℕ) (h : S128x128.Slices ![r, 0] S8x128) := extractStridedSlice S8x128 ![r, 0] p h
  addf (addf (addf (addf (addf (addf (addf (addf (addf (addf (addf (addf (addf (addf (addf (e 0 slices_S128x128_o0_0_S8x128) (e 8 slices_S128x128_o8_0_S8x128)) (e 16 slices_S128x128_o16_0_S8x128)) (e 24 slices_S128x128_o24_0_S8x128)) (e 32 slices_S128x128_o32_0_S8x128)) (e 40 slices_S128x128_o40_0_S8x128)) (e 48 slices_S128x128_o48_0_S8x128)) (e 56 slices_S128x128_o56_0_S8x128)) (e 64 slices_S128x128_o64_0_S8x128)) (e 72 slices_S128x128_o72_0_S8x128)) (e 80 slices_S128x128_o80_0_S8x128)) (e 88 slices_S128x128_o88_0_S8x128)) (e 96 slices_S128x128_o96_0_S8x128)) (e 104 slices_S128x128_o104_0_S8x128)) (e 112 slices_S128x128_o112_0_S8x128)) (e 120 slices_S128x128_o120_0_S8x128)

/-- The weighted values of a chunk. -/
def pv (vv : FVec Ideal S128x128 .bf16) (p : FVec Ideal S128x256 .f32) : FVec Ideal S128x256 .f32 :=
  matmul dot_S128x128_S128x256_S128x256_1_0_0_1_n_n none vv (truncf .bf16 p bitsLt_bf16_f32) (constant (F := Ideal) S128x256 .f32 0x00000000#32)

def pv2 (vv : FVec Ideal S128x128 .bf16) (p : FVec Ideal S128x128 .f32) : FVec Ideal S128x128 .f32 :=
  matmul dot_S128x128_S128x128_S128x128_1_0_0_1_n_n none vv (truncf .bf16 p bitsLt_bf16_f32) (constant (F := Ideal) S128x128 .f32 0x00000000#32)

/-- The factor by which a new shift rescales what was summed before. -/
def fac (m m' : FVec Ideal S1x256 .f32) : FVec Ideal S1x256 .f32 := exp2 (subf m m')

def fac2 (m m' : FVec Ideal S1x128 .f32) : FVec Ideal S1x128 .f32 := exp2 (subf m m')

/-- The running sums after a chunk with scores `s`. -/
def nextM (m : FVec Ideal S1x256 .f32) (s : FVec Ideal S128x256 .f32) : FVec Ideal S1x256 .f32 := maximumf m (top s)

def nextL (m : FVec Ideal S1x256 .f32) (l : FVec Ideal S8x256 .f32) (s : FVec Ideal S128x256 .f32) : FVec Ideal S8x256 .f32 :=
  addf (mulf (broadcastTo S8x256 (fac m (nextM m s)) broadcasts_S1x256_S8x256) l) (grp (wt s (nextM m s)))

def nextA (m : FVec Ideal S1x256 .f32) (a : FVec Ideal S128x256 .f32) (s : FVec Ideal S128x256 .f32) (vv : FVec Ideal S128x128 .bf16) :
    FVec Ideal S128x256 .f32 :=
  addf (mulf (broadcastTo S128x256 (fac m (nextM m s)) broadcasts_S1x256_S128x256) a) (pv vv (wt s (nextM m s)))

/-- The upper half's shift. -/
def up (m : FVec Ideal S1x256 .f32) : FVec Ideal S1x128 .f32 := extractStridedSlice S1x128 ![0, 128] m slices_S1x256_o0_128_S1x128

def lastM (m : FVec Ideal S1x256 .f32) (s : FVec Ideal S128x128 .f32) : FVec Ideal S1x128 .f32 := maximumf (up m) (top2 s)

/-- The sums after the last chunk, which only the upper half of the queries sees. -/
def lastL (m : FVec Ideal S1x256 .f32) (l : FVec Ideal S8x256 .f32) (s : FVec Ideal S128x128 .f32) : FVec Ideal S8x256 .f32 :=
  concatenate S8x256 1 [⟨S8x128, extractStridedSlice S8x128 ![0, 0] l slices_S8x256_o0_0_S8x128⟩,
    ⟨S8x128, addf (mulf (broadcastTo S8x128 (fac2 (up m) (lastM m s)) broadcasts_S1x128_S8x128)
      (extractStridedSlice S8x128 ![0, 128] l slices_S8x256_o0_128_S8x128)) (grp2 (wt2 s (lastM m s)))⟩] concatenates_S8x128_S8x128_S8x256_d1

def lastA (m : FVec Ideal S1x256 .f32) (a : FVec Ideal S128x256 .f32) (s : FVec Ideal S128x128 .f32) (vv : FVec Ideal S128x128 .bf16) :
    FVec Ideal S128x256 .f32 :=
  concatenate S128x256 1 [⟨S128x128, extractStridedSlice S128x128 ![0, 0] a slices_S128x256_o0_0_S128x128⟩,
    ⟨S128x128, addf (mulf (broadcastTo S128x128 (fac2 (up m) (lastM m s)) broadcasts_S1x128_S128x128)
      (extractStridedSlice S128x128 ![0, 128] a slices_S128x256_o0_128_S128x128)) (pv2 vv (wt2 s (lastM m s)))⟩] concatenates_S128x128_S128x128_S128x256_d1

/-- The weighted values over the summed weights. -/
def quo (l : FVec Ideal S8x256 .f32) (a : FVec Ideal S128x256 .f32) : FVec Ideal S128x256 .f32 :=
  mulf a (broadcastTo S128x256 (divf (broadcast S1x256 (Scalar.ofBits (F := Ideal) .f32 0x3F800000#32))
    (shapeCast S1x256 (multiReduction .add [0] S256 l 0x00000000#32 reduces_S8x256_S256 (.inl rfl) rfl) shapeCasts_S256_S1x256)) broadcasts_S1x256_S128x256)

/-- Each half of the head's columns from its own map, queries down the rows, as stored. -/
def fin (lo hi : FVec Ideal S128x256 .f32) : FVec Ideal S1x256x128 .bf16 :=
  shapeCast S1x256x128 (truncf .bf16 (transpose S256x128 [1, 0] (concatenate S128x256 0 [⟨S64x256, extractStridedSlice S64x256 ![0, 0] lo slices_S128x256_o0_0_S64x256⟩,
    ⟨S64x256, extractStridedSlice S64x256 ![64, 0] hi slices_S128x256_o64_0_S64x256⟩] concatenates_S64x256_S64x256_S128x256_d0) transposes_S128x256_p1_0_S256x128) bitsLt_bf16_f32)
    shapeCasts_S256x128_S1x256x128

end Cert.Kernel5Ideal.Dil
-- ==== Proof.DilRun.lean ====
/- What the running softmax of the dilated attention holds after each chunk of keys. -/
module

public import proofs.«01_k».proof.Proof.DilStep

@[expose] public section
set_option maxRecDepth 16384
noncomputable section
open Idealize.ShloMosaic Idealize.ShloMosaic.TcCoe Idealize.SL.Sem
namespace Cert.Kernel5Ideal.Dil
open Cert.Kernel5Ideal Cert.Kernel5Ideal.Gen Cert.Dil
open Cert.Attn (coe_sum sum_rows fold_real ofBits_neg_inf)

variable (s : Fin 256 → ℕ → ℝ) (V : Fin 128 → ℕ → EReal) (B : ℕ)

/-- The chunk of scores from key `n` on: column `c` is query `B + c`, each score with its count's logarithm. -/
def Sc (n : ℕ) (sv : FVec Ideal S128x256 .f32) : Prop :=
  ∀ (k : Fin 128) (c : Fin 256), sv (ix2 k c) = (s c (n + k.val) : EReal) + lg (cnt (B + c.val) (n + k.val))

/-- The same for the upper half of the columns alone. -/
def Sc2 (n : ℕ) (sv : FVec Ideal S128x128 .f32) : Prop :=
  ∀ k c : Fin 128, sv (ix2 k c) = (s ⟨128 + c.val, by omega⟩ (n + k.val) : EReal) + lg (cnt (B + (128 + c.val)) (n + k.val))

/-- The chunk of values from key `n` on. -/
def Vc (n : ℕ) (vv : FVec Ideal S128x128 .bf16) : Prop := ∀ d k : Fin 128, vv (ix2 d k) = V d (n + k.val)

/-- The running sums after `n` keys, against a shift `μ` of each column. -/
def Sums (n : ℕ) (c : Fin 256) (μ : ℝ) (l : FVec Ideal S8x256 .f32) (a : FVec Ideal S128x256 .f32) : Prop :=
  (∃ L : Fin 8 → ℝ, (∀ r, l (ix2 r c) = (L r : EReal)) ∧ ∑ r, L r = ∑ k ∈ Finset.range n, w (s c) (B + c.val) μ k) ∧
    ∀ d, a (ix2 d c) = ∑ k ∈ Finset.range n, V d k * (w (s c) (B + c.val) μ k : EReal)

/-- The state after `n` keys. -/
def St (n : ℕ) (m : FVec Ideal S1x256 .f32) (l : FVec Ideal S8x256 .f32) (a : FVec Ideal S128x256 .f32) : Prop :=
  ∀ c, ∃ μ : ℝ, m (ix2 0 c) = (μ : EReal) ∧ Sums s V B n c μ l a

/-- The sums after the last chunk. -/
def Done (n : ℕ) (l : FVec Ideal S8x256 .f32) (a : FVec Ideal S128x256 .f32) : Prop := ∀ c, ∃ μ : ℝ, Sums s V B n c μ l a

variable {s V B}

theorem grp_apply (p : FVec Ideal S128x256 .f32) (f : ℕ → ℝ) (c : Fin 256) (h : ∀ k : Fin 128, p (ix2 k c) = (f k.val : EReal)) (r : Fin 8) :
    grp p (ix2 r c) = ((∑ j ∈ Finset.range 16, f (8 * j + r.val) : ℝ) : EReal) := by
  pointwise [grp]
  simp only [h, Finset.sum_range_succ, Finset.sum_range_zero, EReal.coe_add, EReal.coe_zero, zero_add, mul_zero, mul_one, Nat.reduceMul]

theorem grp2_apply (p : FVec Ideal S128x128 .f32) (f : ℕ → ℝ) (c : Fin 128) (h : ∀ k : Fin 128, p (ix2 k c) = (f k.val : EReal)) (r : Fin 8) :
    grp2 p (ix2 r c) = ((∑ j ∈ Finset.range 16, f (8 * j + r.val) : ℝ) : EReal) := by
  pointwise [grp2]
  simp only [h, Finset.sum_range_succ, Finset.sum_range_zero, EReal.coe_add, EReal.coe_zero, zero_add, mul_zero, mul_one, Nat.reduceMul]

theorem wt_apply {n : ℕ} {sv : FVec Ideal S128x256 .f32} (hs : Sc s B n sv) {m : FVec Ideal S1x256 .f32} {c : Fin 256} {μ : ℝ}
    (hm : m (ix2 0 c) = (μ : EReal)) (k : Fin 128) : wt sv m (ix2 k c) = (w (s c) (B + c.val) μ (n + k.val) : EReal) := by
  pointwise [wt]
  rw [hm]
  exact exp2_w (hs k c) μ

theorem wt2_apply {n : ℕ} {sv : FVec Ideal S128x128 .f32} (hs : Sc2 s B n sv) {m : FVec Ideal S1x128 .f32} {c : Fin 128} {μ : ℝ}
    (hm : m (ix2 0 c) = (μ : EReal)) (k : Fin 128) :
    wt2 sv m (ix2 k c) = (w (s ⟨128 + c.val, by omega⟩) (B + (128 + c.val)) μ (n + k.val) : EReal) := by
  pointwise [wt2]
  rw [hm]
  exact exp2_w (hs k c) μ

theorem pv_apply {n : ℕ} {vv : FVec Ideal S128x128 .bf16} (hv : Vc V n vv) (p : FVec Ideal S128x256 .f32) (f : ℕ → ℝ) (c : Fin 256)
    (h : ∀ k : Fin 128, p (ix2 k c) = (f k.val : EReal)) (d : Fin 128) :
    pv vv p (ix2 d c) = ∑ k ∈ Finset.range 128, V d (n + k) * (f k : EReal) := by
  pointwise [pv]
  rw [Finset.sum_range]
  exact Finset.sum_congr rfl fun k _ => by rw [hv, h]

theorem pv2_apply {n : ℕ} {vv : FVec Ideal S128x128 .bf16} (hv : Vc V n vv) (p : FVec Ideal S128x128 .f32) (f : ℕ → ℝ) (c : Fin 128)
    (h : ∀ k : Fin 128, p (ix2 k c) = (f k.val : EReal)) (d : Fin 128) :
    pv2 vv p (ix2 d c) = ∑ k ∈ Finset.range 128, V d (n + k) * (f k : EReal) := by
  pointwise [pv2]
  rw [Finset.sum_range]
  exact Finset.sum_congr rfl fun k _ => by rw [hv, h]

/-- The largest score of a column whose query is not before the chunk is real: one of the chunk's first sixteen keys counts. -/
theorem top_real {n : ℕ} {sv : FVec Ideal S128x256 .f32} (hs : Sc s B n sv) (c : Fin 256) (h : n ≤ B + c.val) (hB : B + 256 ≤ 2048) :
    ∃ μ : ℝ, top sv (ix2 0 c) = (μ : EReal) := by
  pointwise [top]
  refine fold_real _ (fun k => ?_) ⟨(B + c.val - n) % 16, by omega⟩ ?_
  · rw [hs]; exact sc_ne_top _ _
  · rw [hs]; exact sc_ne_bot _ (cnt_pos (by show n + (B + c.val - n) % 16 ≤ _; omega) (by omega) (by show (_ - (n + (B + c.val - n) % 16)) % 16 = 0; omega))

theorem top2_real {n : ℕ} {sv : FVec Ideal S128x128 .f32} (hs : Sc2 s B n sv) (c : Fin 128) (h : n ≤ B + (128 + c.val)) (hB : B + 256 ≤ 2048) :
    ∃ μ : ℝ, top2 sv (ix2 0 c) = (μ : EReal) := by
  pointwise [top2]
  refine fold_real _ (fun k => ?_) ⟨(B + (128 + c.val) - n) % 16, by omega⟩ ?_
  · rw [hs]; exact sc_ne_top _ _
  · rw [hs]; exact sc_ne_bot _ (cnt_pos (by show n + (B + (128 + c.val) - n) % 16 ≤ _; omega) (by omega) (by show (_ - (n + (B + (128 + c.val) - n) % 16)) % 16 = 0; omega))

/-- The first chunk. -/
theorem st_first {sv : FVec Ideal S128x256 .f32} {vv : FVec Ideal S128x128 .bf16} (hs : Sc s B 0 sv) (hv : Vc V 0 vv) (hB : B + 256 ≤ 2048) :
    St s V B 128 (top sv) (grp (wt sv (top sv))) (pv vv (wt sv (top sv))) := fun c => by
  obtain ⟨μ, hμ⟩ := top_real hs c (Nat.zero_le _) hB
  have hw := fun k => wt_apply hs hμ k
  refine ⟨μ, hμ, ⟨_, grp_apply _ (fun k => w (s c) (B + c.val) μ (0 + k)) c hw, ?_⟩, fun d => ?_⟩
  · rw [sum_rows (fun k => w (s c) (B + c.val) μ (0 + k))]; simp only [zero_add]
  · rw [pv_apply hv _ (fun k => w (s c) (B + c.val) μ (0 + k)) c hw]; simp only [zero_add]

/-- A further chunk, not after any column's query. -/
theorem st_next {n : ℕ} {m : FVec Ideal S1x256 .f32} {l : FVec Ideal S8x256 .f32} {a sv : FVec Ideal S128x256 .f32} {vv : FVec Ideal S128x128 .bf16}
    (hst : St s V B n m l a) (hn : n ≤ B) (hB : B + 256 ≤ 2048) (hs : Sc s B n sv) (hv : Vc V n vv) :
    St s V B (n + 128) (nextM m sv) (nextL m l sv) (nextA m a sv vv) := fun c => by
  obtain ⟨μ, hμ, ⟨L, hL, hLs⟩, ha⟩ := hst c
  obtain ⟨μ₁, hμ₁⟩ := top_real hs c (by omega) hB
  have hM : nextM m sv (ix2 0 c) = ((max μ μ₁ : ℝ) : EReal) := by
    pointwise [nextM]
    rw [hμ, hμ₁]; exact (EReal.coe_strictMono.monotone.map_max).symm
  have hw := fun k => wt_apply hs hM k
  have hf : fac m (nextM m sv) (ix2 0 c) = (((2 : ℝ) ^ (μ - max μ μ₁) : ℝ) : EReal) := by
    pointwise [fac]
    rw [hμ, hM, ← EReal.coe_sub]; rfl
  refine ⟨_, hM, ⟨fun r => (2 : ℝ) ^ (μ - max μ μ₁) * L r + ∑ j ∈ Finset.range 16, w (s c) (B + c.val) (max μ μ₁) (n + (8 * j + r.val)),
    fun r => ?_, ?_⟩, fun d => ?_⟩
  · have := grp_apply _ (fun k => w (s c) (B + c.val) (max μ μ₁) (n + k)) c hw r
    pointwise [nextL]
    rw [hf, hL, this, EReal.coe_add, EReal.coe_mul]
  · rw [Finset.sum_add_distrib, ← Finset.mul_sum, hLs, sum_rows (fun k => w (s c) (B + c.val) (max μ μ₁) (n + k))]
    exact sum_step (s c) (B + c.val) μ (max μ μ₁) n 128
  · have := pv_apply hv _ (fun k => w (s c) (B + c.val) (max μ μ₁) (n + k)) c hw d
    pointwise [nextA]
    rw [hf, ha, this, val_step]

theorem Done.of {n : ℕ} {m : FVec Ideal S1x256 .f32} {l : FVec Ideal S8x256 .f32} {a : FVec Ideal S128x256 .f32} (h : St s V B n m l a) : Done s V B n l a :=
  fun c => let ⟨μ, _, h⟩ := h c; ⟨μ, h⟩

/-- The last chunk, which lies behind the lower half of the columns. -/
theorem st_last {n : ℕ} {m : FVec Ideal S1x256 .f32} {l : FVec Ideal S8x256 .f32} {a : FVec Ideal S128x256 .f32} {sv : FVec Ideal S128x128 .f32}
    {vv : FVec Ideal S128x128 .bf16} (hst : St s V B n m l a) (hn : n = B + 128) (hB : B + 256 ≤ 2048) (hs : Sc2 s B n sv) (hv : Vc V n vv) :
    Done s V B (n + 128) (lastL m l sv) (lastA m a sv vv) := fun c => by
  obtain ⟨μ, hμ, ⟨L, hL, hLs⟩, ha⟩ := hst c
  by_cases hc : c.val < 128
  · refine ⟨μ, ⟨L, fun r => ?_, ?_⟩, fun d => ?_⟩
    · pointwise [lastL]
      rw [dif_pos hc]; exact hL r
    · rw [hLs]
      exact (sum_unseen (s c) (B + c.val) μ n 128 (by omega)).symm
    · pointwise [lastA]
      rw [dif_pos hc, val_unseen _ _ _ _ _ _ (by omega)]; exact ha d
  obtain ⟨e, he⟩ : ∃ e : Fin 128, c.val = 128 + e.val := ⟨⟨c.val - 128, by omega⟩, by simp; omega⟩
  obtain rfl : c = ⟨128 + e.val, Nat.add_lt_add_left e.isLt 128⟩ := Fin.ext he
  obtain ⟨μ₁, hμ₁⟩ := top2_real hs e (by omega) hB
  have hu : up m (ix2 0 e) = (μ : EReal) := by
    pointwise [up]
    exact hμ
  have hM : lastM m sv (ix2 0 e) = ((max μ μ₁ : ℝ) : EReal) := by
    pointwise [lastM]
    rw [hu, hμ₁]; exact (EReal.coe_strictMono.monotone.map_max).symm
  have hw := fun k => wt2_apply hs hM k
  have hf : fac2 (up m) (lastM m sv) (ix2 0 e) = (((2 : ℝ) ^ (μ - max μ μ₁) : ℝ) : EReal) := by
    pointwise [fac2]
    rw [hu, hM, ← EReal.coe_sub]; rfl
  refine ⟨max μ μ₁, ⟨fun r => (2 : ℝ) ^ (μ - max μ μ₁) * L r + ∑ j ∈ Finset.range 16, w (s ⟨128 + e.val, by omega⟩) (B + (128 + e.val)) (max μ μ₁) (n + (8 * j + r.val)),
    fun r => ?_, ?_⟩, fun d => ?_⟩
  · have := grp2_apply _ (fun k => w (s ⟨128 + e.val, by omega⟩) (B + (128 + e.val)) (max μ μ₁) (n + k)) e hw r
    pointwise [lastL]
    rw [hf, this]
    refine (congrArg (_ * · + _) (hL r)).trans ?_
    rw [EReal.coe_add, EReal.coe_mul]
  · rw [Finset.sum_add_distrib, ← Finset.mul_sum, hLs, sum_rows (fun k => w (s ⟨128 + e.val, by omega⟩) (B + (128 + e.val)) (max μ μ₁) (n + k))]
    exact sum_step (s ⟨128 + e.val, by omega⟩) (B + (128 + e.val)) μ (max μ μ₁) n 128
  · have := pv2_apply hv _ (fun k => w (s ⟨128 + e.val, by omega⟩) (B + (128 + e.val)) (max μ μ₁) (n + k)) e hw d
    pointwise [lastA]
    rw [hf, this]
    refine (congrArg (_ * · + _) (ha d)).trans ?_
    exact val_step ..

/-- The quotient of the sums is the softmax average. -/
theorem quo_eq {n : ℕ} {l : FVec Ideal S8x256 .f32} {a : FVec Ideal S128x256 .f32} (h : Done s V B n l a) (hn : n = B + 256) (hB : n ≤ 2048)
    (d : Fin 128) (c : Fin 256) : quo l a (ix2 d c) = avg (s c) (V d) (B + c.val) := by
  obtain ⟨μ, ⟨L, hL, hLs⟩, ha⟩ := h c
  pointwise [quo]
  simp only [hL, ha]
  rw [coe_sum, hLs, show (1 : EReal) = ((1 : ℝ) : EReal) from rfl, Ideal.div_coe (sum_w_pos _ _ _ _ (by omega) (by omega)).ne', ← EReal.coe_mul, one_mul]
  exact quot_eq (s c) (V d) (B + c.val) μ n (by omega) hB

/-- A chunk of scores, with the bias of its keys. -/
theorem sc_bias {K : ℕ → Fin 128 → ℝ} {Q : Fin 128 → Fin 256 → ℝ} {n : ℕ} {q b : FVec Ideal _ _} {kk : FVec Ideal S1x128x128 .bf16}
    (hk : ∀ k d : Fin 128, kk (ix3 0 k d) = (K (n + k.val) d : EReal)) (hq : ∀ d c, q (ix2 d c) = (Q d c : EReal))
    (hb : ∀ (k : Fin 128) (c : Fin 256), b (ix2 k c) = lg (cnt (B + c.val) (n + k.val))) :
    Sc (fun c k => ∑ d, K k d * Q d c) B n (addf (sc q kk) b) := fun k c => by
  have e : sc q kk (ix2 k c) = ((∑ d, K (n + k.val) d * Q d c : ℝ) : EReal) := by
    pointwise [sc]
    rw [← coe_sum]
    exact Finset.sum_congr rfl fun d _ => by rw [hk, hq, EReal.coe_mul]
  show sc q kk (ix2 k c) + b (ix2 k c) = _
  rw [e, hb]

/-- The last chunk of scores, with the bias of its keys. -/
theorem sc2_bias {K : ℕ → Fin 128 → ℝ} {Q : Fin 128 → Fin 256 → ℝ} {n : ℕ} {q : FVec Ideal S128x256 .bf16} {b : FVec Ideal S128x128 .f32} {kk : FVec Ideal S1x128x128 .bf16}
    (hk : ∀ k d : Fin 128, kk (ix3 0 k d) = (K (n + k.val) d : EReal)) (hq : ∀ d c, q (ix2 d c) = (Q d c : EReal))
    (hb : ∀ k c : Fin 128, b (ix2 k c) = lg (cnt (B + (128 + c.val)) (n + k.val))) :
    Sc2 (fun c k => ∑ d, K k d * Q d c) B n (addf (sc2 q kk) b) := fun k c => by
  have e : sc2 q kk (ix2 k c) = ((∑ d, K (n + k.val) d * Q d ⟨128 + c.val, by omega⟩ : ℝ) : EReal) := by
    pointwise [sc2]
    rw [← coe_sum]
    exact Finset.sum_congr rfl fun d _ => by rw [hk, hq, EReal.coe_mul]
  show sc2 q kk (ix2 k c) + b (ix2 k c) = _
  rw [e, hb]

end Cert.Kernel5Ideal.Dil
-- ==== Proof.DilFn.lean ====
/- The dilated attention's output as one formula of its argument: a softmax average over the keys that its branches see. -/
module

public import proofs.«01_k».proof.Proof.DilMath
public import proofs.«01_k».proof.Proof.AttnFn

@[expose] public section
noncomputable section
open Idealize.ShloMosaic
open Cert.Attn (sco sco_congr colsOf)
namespace Cert.Dil

/-- The output's column `c`, row `r`: half of the pair of heads whose columns start at `128 * (c / 128)`. -/
def outAt (q k : ℕ → ℕ → ℝ) (v : ℕ → ℕ → EReal) (r c : ℕ) : EReal :=
  avg (sco q k (128 * (c / 128)) (c % 128 / 64) r) (fun j => v j (128 * (c / 128) + c % 128)) r

/-- The output depends on the pair's own columns alone. -/
theorem outAt_congr {q k q' k' : ℕ → ℕ → ℝ} {v v' : ℕ → ℕ → EReal} {c c' : ℕ}
    (hq : ∀ r, ∀ d < 128, q r (128 * (c / 128) + d) = q' r (128 * (c' / 128) + d)) (hk : ∀ r, ∀ d < 128, k r (128 * (c / 128) + d) = k' r (128 * (c' / 128) + d))
    (hv : ∀ r, ∀ d < 128, v r (128 * (c / 128) + d) = v' r (128 * (c' / 128) + d)) (hc : c % 128 = c' % 128) (r : ℕ) :
    outAt q k v r c = outAt q' k' v' r c' := by
  unfold outAt
  rw [sco_congr hq hk, ← hc]
  simp only [hv _ (c % 128) (Nat.mod_lt _ (by norm_num))]

/-- The columns of the projected array from `s` on, of sequence `b`. -/
def valsOf (A : (⟨3, ![16, 2048, 3072]⟩ : Shape).Idx → EReal) (b : Fin 16) (s r c : ℕ) : EReal :=
  A (ix3 b ⟨r % 2048, Nat.mod_lt _ (by norm_num)⟩ ⟨(s + c) % 3072, Nat.mod_lt _ (by norm_num)⟩)

/-- The attention's output array. -/
def dilOut (A : (⟨3, ![16, 2048, 3072]⟩ : Shape).Idx → EReal) : (⟨3, ![16, 2048, 512]⟩ : Shape).Idx → EReal := fun z =>
  outAt (colsOf A (z 0) 1536) (colsOf A (z 0) 2048) (valsOf A (z 0) 2560) (z 1).val (z 2).val

end Cert.Dil
-- ==== Proof.Dil.lean ====
/- The dilated attention's output array at the end of the kernel's run. -/
module

public import proofs.«01_k».proof.Proof.DilRun
public import proofs.«01_k».proof.Proof.DilFn
public import Idealize.ShloMosaic.Lib.Pipeline.ReadBack

@[expose] public section
set_option maxRecDepth 65536
noncomputable section
open Idealize.ShloMosaic Idealize.ShloMosaic.TcCoe Idealize.SL.Sem
open Idealize.ShloMosaic.Pipeline (Dat)
namespace Cert.Kernel5Ideal.Value
open Cert.Kernel5Ideal Cert.Kernel5Ideal.Gen Cert.Kernel5Ideal.Dil Cert.Dil Cert.Ffn
open Cert.Attn (sco sco_congr colsOf)

/-- A block of rows, its places as numbers. -/
def en (x : FVec Ideal S1x2048x256 .bf16) (r c : ℕ) : EReal := x (ix3 0 ⟨r % 2048, Nat.mod_lt _ (by norm_num)⟩ ⟨c % 256, Nat.mod_lt _ (by norm_num)⟩)

/-- The same as real numbers. -/
def rl (x : FVec Ideal S1x2048x256 .bf16) (r c : ℕ) : ℝ := (en x r c).toReal

theorem en_eq (x : FVec Ideal S1x2048x256 .bf16) (r : Fin 2048) (c : Fin 256) : x (ix3 0 r c) = en x r.val c.val := by
  unfold en
  simp only [Nat.mod_eq_of_lt r.isLt, Nat.mod_eq_of_lt c.isLt]

theorem en_rl {x : FVec Ideal S1x2048x256 .bf16} (hx : ∀ i, Real' (x i)) (r c : ℕ) : en x r c = (rl x r c : EReal) := by
  unfold rl
  obtain ⟨a, ha⟩ : Real' (en x r c) := hx _
  rw [ha, EReal.toReal_coe]

/-- A chunk of keys, loaded from its block. -/
theorem ld_en (x : FVec Ideal S1x2048x256 .bf16) {n o N : ℕ} (inb) (k : Fin N) (d : Fin 128) :
    View.ld (Val := Elt Ideal) (e' := .bf16) x (Rect.unit (s := S1x2048x256) ![0, n, o] ![1, N, 128] inb) (ix3 (n0 := 1) (n1 := N) (n2 := 128) 0 k d) = en x (n + k.val) (o + d.val) := by
  have h1 : n + N ≤ 2048 := inb 1
  have h2 : o + 128 ≤ 256 := inb 2
  refine Eq.trans ?_ (en_eq x ⟨n + k.val, by omega⟩ ⟨o + d.val, by omega⟩)
  rw [View.ld_apply]
  congr 1
  funext a
  apply Fin.ext
  fin_cases a <;> simp [LoadRect.idx_apply]

/-- The transposed rows of queries. -/
theorem trq_apply (w : FVec Ideal S1x2048x128 .bf16) (d : Fin 128) (c : Fin 2048) : k0_pay1 (F := Ideal) w (ix2 d c) = w (ix3 0 c d) := by
  pointwise [k0_pay1]

/-- The transposed rows of values. -/
theorem trv_apply (w : FVec Ideal S1x2048x128 .bf16) (d : Fin 128) (c : Fin 2048) : k0_pay2 (F := Ideal) w (ix2 d c) = w (ix3 0 c d) := by
  pointwise [k0_pay2]

/-- One tile of queries or values read back from the scratch that holds them transposed. -/
theorem tr_en {T : FVec Ideal S1x2048x128 .bf16 → FVec Ideal S128x2048 .bf16} (hT : ∀ w d c, T w (ix2 d c) = w (ix3 0 c d)) (x : FVec Ideal S1x2048x256 .bf16) {o p N : ℕ} {κ : Kind} {sp : Space} (v : View sig κ sp S128x2048 .bf16) (inb) (inb0) (inb1) (d : Fin 128) (c : Fin N) :
    v.readCov (Val := Elt Ideal) [⟨Rect.unit (s := S128x2048) ![0, 0] ![128, 2048] inb0, T (View.ld (Val := Elt Ideal) (e' := .bf16) x (Rect.unit (s := S1x2048x256) ![0, 0, o] ![1, 2048, 128] inb))⟩]
      (Rect.unit (s := S128x2048) ![0, p] ![128, N] inb1).toLoadRect (ix2 (n0 := 128) (n1 := N) d c) = en x (p + c.val) (o + d.val) := by
  have h1 : p + N ≤ 2048 := inb1 1
  rw [View.readCov_eq_canon', View.canon_cons_unit_lit inb0 _ _ (by decide)]
  have e : (Rect.unit (s := S128x2048) ![0, p] ![128, N] inb1).toLoadRect.idx (ix2 (n0 := 128) (n1 := N) d c) = ix2 d ⟨p + c.val, by omega⟩ := by
    funext a
    apply Fin.ext
    fin_cases a <;> simp [LoadRect.idx_apply]
  refine (congrArg (T _) e).trans ((hT _ d ⟨p + c.val, by omega⟩).trans ((ld_en x inb ⟨p + c.val, by omega⟩ d).trans ?_))
  rw [Nat.zero_add]

theorem half : ∀ d : Fin 128, IntOp.cmpi .slt (BitVec.ofNat 32 d.val) 64#32 = if d.val / 64 = 0 then 1#1 else 0#1 := by decide +kernel

theorem half' : ∀ d : Fin 128, IntOp.cmpi .slt (BitVec.ofNat 32 d.val) 64#32 = if d.val / 64 = 1 then 0#1 else 1#1 := by decide +kernel

/-- The queries with the upper half of the head's columns set to zero. -/
theorem lo_apply {q : FVec Ideal S128x256 .bf16} {f : Fin 128 → Fin 256 → ℝ} (h : ∀ d c, q (ix2 d c) = (f d c : EReal)) (d : Fin 128) (c : Fin 256) :
    k0_pay4 (F := Ideal) q (ix2 d c) = ((if d.val / 64 = 0 then f d c else 0 : ℝ) : EReal) := by
  pointwise [k0_pay4, k0_pay3]
  rw [half, h]
  split <;> simp [Scalar.select]

theorem hi_apply {q : FVec Ideal S128x256 .bf16} {f : Fin 128 → Fin 256 → ℝ} (h : ∀ d c, q (ix2 d c) = (f d c : EReal)) (d : Fin 128) (c : Fin 256) :
    k0_pay5 (F := Ideal) q (ix2 d c) = ((if d.val / 64 = 1 then f d c else 0 : ℝ) : EReal) := by
  pointwise [k0_pay5, k0_pay3]
  rw [half', h]
  split <;> simp [Scalar.select]

/-- The scores of a tile's half-head: its queries start at row `p`, its columns at `o`. -/
abbrev SS (x0 x1 : FVec Ideal S1x2048x256 .bf16) (o p h : ℕ) : Fin 256 → ℕ → ℝ := fun c => sco (rl x0) (rl x1) o h (p + c.val)

/-- Its values. -/
abbrev VV (x2 : FVec Ideal S1x2048x256 .bf16) (o : ℕ) : Fin 128 → ℕ → EReal := fun d n => en x2 n (o + d.val)

section Rules
variable (x0 x1 : FVec Ideal S1x2048x256 .bf16) (o p h n : ℕ) (q : FVec Ideal S128x256 .bf16) (kk : FVec Ideal S1x128x128 .bf16)

/-- A chunk of keys from row `n` on. -/
def Kc : Prop := ∀ k d : Fin 128, kk (ix3 0 k d) = (rl x1 (n + k.val) (o + d.val) : EReal)

/-- A tile of queries, zero outside half `h`. -/
def Qc : Prop := ∀ d c, q (ix2 d c) = ((if d.val / 64 = h then rl x0 (p + c.val) (o + d.val) else 0 : ℝ) : EReal)

/-- The bias of a chunk. -/
def Bc (p n : ℕ) (b : FVec Ideal S128x256 .f32) : Prop := ∀ (k : Fin 128) (c : Fin 256), b (ix2 k c) = lg (cnt (p + c.val) (n + k.val))

/-- The bias of a last chunk. -/
def Bc2 (p n : ℕ) (b : FVec Ideal S128x128 .f32) : Prop := ∀ k c : Fin 128, b (ix2 k c) = lg (cnt (p + (128 + c.val)) (n + k.val))

variable {x0 x1 o p h n q kk}

theorem ss_bias {b : FVec Ideal S128x256 .f32} (hk : Kc x1 o n kk) (hq : Qc x0 o p h q) (hb : Bc p n b) :
    Sc (SS x0 x1 o p h) p n (addf (sc q kk) b) :=
  sc_bias (K := fun n d => rl x1 n (o + d.val)) (Q := fun d c => if d.val / 64 = h then rl x0 (p + c.val) (o + d.val) else 0) hk hq hb

theorem ss2_bias {b : FVec Ideal S128x128 .f32} (hk : Kc x1 o n kk) (hq : Qc x0 o p h q) (hb : Bc2 p n b) :
    Sc2 (SS x0 x1 o p h) p n (addf (sc2 q kk) b) :=
  sc2_bias (K := fun n d => rl x1 n (o + d.val)) (Q := fun d c => if d.val / 64 = h then rl x0 (p + c.val) (o + d.val) else 0) hk hq hb

end Rules

/-- A block of the output: each row and column by the formula, on the block's own queries, keys and values. -/
def blkOut (x0 x1 x2 : FVec Ideal S1x2048x256 .bf16) : S1x2048x256.Idx → EReal :=
  fun z => outAt (rl x0) (rl x1) (en x2) (z 1).val (z 2).val

/-- A stored column comes from the map of its half. -/
theorem fin_apply (lo hi : FVec Ideal S128x256 .f32) (c : Fin 256) (e : Fin 128) :
    fin lo hi (ix3 0 c e) = if e.val < 64 then lo (ix2 e c) else hi (ix2 e c) := by
  pointwise [fin]
  split
  · rfl
  · congr 1
    funext a
    apply Fin.ext
    fin_cases a <;> simp
    omega

/-- A stored tile holds the formula's values at its place. -/
theorem piece {x0 x1 x2 : FVec Ideal S1x2048x256 .bf16} {p o : ℕ}
    {l1 l2 : FVec Ideal S8x256 .f32} {a1 a2 : FVec Ideal S128x256 .f32} (inb) (ho : 128 * (o / 128) = o)
    (h1 : Done (SS x0 x1 o p 0) (VV x2 o) p (p + 256) l1 a1) (h2 : Done (SS x0 x1 o p 1) (VV x2 o) p (p + 256) l2 a2) :
    ∀ x : (Rect.unit (s := S1x2048x256) ![0, p, o] ![1, 256, 128] inb).shape.Idx, fin (quo l1 a1) (quo l2 a2) x
      = blkOut x0 x1 x2 ((Rect.unit (s := S1x2048x256) ![0, p, o] ![1, 256, 128] inb).emb x) := fun (j : S1x256x128.Idx) => by
  have hp : p + 256 ≤ 2048 := inb 1
  idx_vars j
  obtain rfl : j0 = 0 := Subsingleton.elim _ _
  refine (fin_apply _ _ j1 j2).trans ?_
  unfold blkOut outAt
  have e1 : (((Rect.unit (s := S1x2048x256) ![0, p, o] ![1, 256, 128] inb).emb (ix3 0 j1 j2)) 1).val = p + j1.val := ValueKit.rect_emb_unit_val ..
  have e2 : (((Rect.unit (s := S1x2048x256) ![0, p, o] ![1, 256, 128] inb).emb (ix3 0 j1 j2)) 2).val = o + j2.val := ValueKit.rect_emb_unit_val ..
  rw [e1, e2]
  have e3 : 128 * ((o + j2.val) / 128) = o := by omega
  have e4 : (o + j2.val) % 128 = j2.val := by omega
  rw [e3, e4, quo_eq h1 rfl hp, quo_eq h2 rfl hp]
  split
  · rw [show j2.val / 64 = 0 by omega]
  · rw [show j2.val / 64 = 1 by omega]

end Cert.Kernel5Ideal.Value
-- ==== Proof.DilTab.lean ====
/- The dilated attention's bias table. -/
module

public import proofs.«01_k».proof.Proof.Gen.Kernel5Ideal.Value
public import proofs.«01_k».proof.Proof.DilMath
public import Idealize.ShloMosaic.Lib.Pipeline.ReadBack
public import Idealize.ShloMosaic.Lib.Pointwise

@[expose] public section
set_option maxRecDepth 65536
noncomputable section
open Idealize.ShloMosaic Idealize.ShloMosaic.TcCoe Idealize.SL.Sem
namespace Cert.Kernel5Ideal.Value
open Cert.Kernel5Ideal Cert.Kernel5Ideal.Gen Cert.Dil

variable (m : (ℓ : Loc nD τ sig) → Buf (Elt Ideal) ℓ)

/-- The distance from a key to a query. -/
def dist : IVec S2048x256 32 :=
  subi (addi (subi (broadcastInDim S2048x256 ![0, 1] bcast_S1x256_S2048x256_0_1 (broadcastInDim S1x256 ![1] bcast_S256_S1x256_1 (iotaInDim S256 32 0))) (broadcastInDim S2048x256 ![0, 1] bcast_S2048x1_S2048x256_0_1 (broadcastInDim S2048x1 ![0] bcast_S2048_S2048x1_0 (iotaInDim S2048 32 0)))) (broadcastInDim S2048x256 ![] bcast_S_S2048x256 (constantI S_ 32 2048#32))) (broadcastInDim S2048x256 ![] bcast_S_S2048x256 (constantI S_ 32 256#32))

/-- The divisor of the remainder, one in place of zero. -/
def dvr (st : BitVec 32) : IVec S_ 32 := select (cmpi .eq (constantI S_ 32 st) (constantI S_ 32 0#32)) (constantI S_ 32 1#32) (constantI S_ 32 st)

/-- The truncated remainder of the distance. -/
def rmd (st : BitVec 32) : IVec S2048x256 32 := Host.remsi dist (broadcastInDim S2048x256 ![] bcast_S_S2048x256 (dvr st))

/-- The keys that a branch sees. -/
def bits (sp st : BitVec 32) : IVec S2048x256 1 :=
  andi (andi (cmpi .sge dist (broadcastInDim S2048x256 ![] bcast_S_S2048x256 (constantI S_ 32 0#32))) (cmpi .sle dist (broadcastInDim S2048x256 ![] bcast_S_S2048x256 (constantI S_ 32 sp)))) (cmpi .eq (select (andi (cmpi .ne (cmpi .slt (rmd st) (broadcastInDim S2048x256 ![] bcast_S_S2048x256 (constantI S_ 32 0#32))) (broadcastInDim S2048x256 ![] bcast_S_S2048x256 (cmpi .slt (dvr st) (constantI S_ 32 0#32)))) (cmpi .ne (rmd st) (broadcastInDim S2048x256 ![] bcast_S_S2048x256 (constantI S_ 32 0#32)))) (addi (rmd st) (broadcastInDim S2048x256 ![] bcast_S_S2048x256 (dvr st))) (rmd st)) (broadcastInDim S2048x256 ![] bcast_S_S2048x256 (constantI S_ 32 0#32)))

/-- The table: the base-two logarithm of the number of branches that see a key. -/
def tab : FVec Ideal S2048x256 .f32 :=
  Host.divf (Host.log (addf (addf (addf (broadcastInDim S2048x256 ![] bcast_S_S2048x256 (constant S_ .f32 0x00000000#32)) (uitofp .f32 (bits 128#32 1#32))) (uitofp .f32 (bits 512#32 4#32))) (uitofp .f32 (bits 2048#32 16#32)))) (broadcastInDim S2048x256 ![] bcast_S_S2048x256 (Host.log (constant S_ .f32 0x40000000#32)))

set_option maxHeartbeats 4000000 in
/-- The region finds the table in the bias operand. -/
theorem V_tab_eq (c : Dev nD) : (V m c main_v48 : FVec Ideal S2048x256 .f32) = tab := by
  unfold V
  simp only [List.flatten_cons, List.flatten_nil, List.append_nil, List.cons_append, List.nil_append]
  entry_read
  simp only [StableHlo.TRef.ofBuf_toBuf]
  rfl

/-- The distance as a word, from the distance moved up by 2048. -/
theorem dist_word (a : Fin 2048) (b : Fin 256) :
    IntOp.subi (IntOp.addi (IntOp.subi (BitVec.ofNat 32 b.val) (BitVec.ofNat 32 a.val)) 2048#32) 256#32 = BitVec.ofNat 32 (b.val + 3840 - a.val) - 2048#32 := by
  simp only [IntOp.subi, IntOp.addi]
  apply BitVec.eq_of_toNat_eq
  simp [BitVec.toNat_sub, BitVec.toNat_add]
  omega

/-- A branch's test on the distance. -/
def tst (x sp st : BitVec 32) : BitVec 1 :=
  IntOp.andi (IntOp.andi (IntOp.cmpi .sge x 0#32) (IntOp.cmpi .sle x sp))
    (IntOp.cmpi .eq (Scalar.select (IntOp.andi (IntOp.cmpi .ne (IntOp.cmpi .slt (IntOp.remsi .host x (Scalar.select (IntOp.cmpi .eq st 0#32) 1#32 st)) 0#32) (IntOp.cmpi .slt (Scalar.select (IntOp.cmpi .eq st 0#32) 1#32 st) 0#32))
      (IntOp.cmpi .ne (IntOp.remsi .host x (Scalar.select (IntOp.cmpi .eq st 0#32) 1#32 st)) 0#32)) (IntOp.addi (IntOp.remsi .host x (Scalar.select (IntOp.cmpi .eq st 0#32) 1#32 st)) (Scalar.select (IntOp.cmpi .eq st 0#32) 1#32 st))
      (IntOp.remsi .host x (Scalar.select (IntOp.cmpi .eq st 0#32) 1#32 st))) 0#32)

/-- A branch's bit at a key and a query. -/
theorem bits_apply (sp st : BitVec 32) (a : Fin 2048) (b : Fin 256) : bits sp st (ix2 a b) = tst (BitVec.ofNat 32 (b.val + 3840 - a.val) - 2048#32) sp st := by
  rw [← dist_word]
  pointwise [bits, rmd, dvr, dist]
  rfl

theorem tst1 : ∀ n : Fin 4096, tst (BitVec.ofNat 32 n.val - 2048#32) 128#32 1#32 = if 2048 ≤ n.val ∧ n.val - 2048 ≤ 128 ∧ (n.val - 2048) % 1 = 0 then 1#1 else 0#1 := by decide +kernel

theorem tst2 : ∀ n : Fin 4096, tst (BitVec.ofNat 32 n.val - 2048#32) 512#32 4#32 = if 2048 ≤ n.val ∧ n.val - 2048 ≤ 512 ∧ (n.val - 2048) % 4 = 0 then 1#1 else 0#1 := by decide +kernel

theorem tst3 : ∀ n : Fin 4096, tst (BitVec.ofNat 32 n.val - 2048#32) 2048#32 16#32 = if 2048 ≤ n.val ∧ n.val - 2048 ≤ 2048 ∧ (n.val - 2048) % 16 = 0 then 1#1 else 0#1 := by decide +kernel

/-- A bit as a number. -/
theorem bit_see {sp st : ℕ} {w1 w2 : BitVec 32} (h : ∀ n : Fin 4096, tst (BitVec.ofNat 32 n.val - 2048#32) w1 w2 = if 2048 ≤ n.val ∧ n.val - 2048 ≤ sp ∧ (n.val - 2048) % st = 0 then 1#1 else 0#1)
    (a : Fin 2048) (b : Fin 256) : FloatOps.uitofp (F := Ideal) .f32 (bits w1 w2 (ix2 a b)) = (see sp st (1792 + b.val) a.val : EReal) := by
  have h0 := h ⟨b.val + 3840 - a.val, by omega⟩
  rw [bits_apply, h0]
  unfold see
  have e : b.val + 3840 - a.val - 2048 = 1792 + b.val - a.val := by omega
  simp only [e, show (2048 ≤ b.val + 3840 - a.val) = (a.val ≤ 1792 + b.val) from propext (by omega)]
  split
  · simp [FloatOps.uitofp]
  · simp [FloatOps.uitofp]

/-- The word of two is two. -/
theorem two_bits : Ideal.ofBits .f32 0x40000000#32 = ((2 : ℝ) : EReal) := by
  simp [Ideal.ofBits, Ideal.ieee]
  exact (EReal.coe_mul _ _).symm.trans (congrArg ((↑) : ℝ → EReal) (by norm_num))

/-- The table at a key and a query. -/
theorem tab_apply (a : Fin 2048) (b : Fin 256) : tab (ix2 a b) = lg (cnt (1792 + b.val) a.val) := by
  have hl : 0 < Real.log 2 := Real.log_pos one_lt_two
  pointwise [tab]
  rw [bit_see tst1, bit_see tst2, bit_see tst3, two_bits, Ideal.log_coe, if_neg (by norm_num), ← EReal.coe_add, ← EReal.coe_add]
  have h0 := cnt_nonneg (1792 + b.val) a.val
  have e : see 128 1 (1792 + b.val) a.val + see 512 4 (1792 + b.val) a.val + see 2048 16 (1792 + b.val) a.val = cnt (1792 + b.val) a.val := rfl
  rw [e, Ideal.log_coe]
  unfold lg
  by_cases h : cnt (1792 + b.val) a.val = 0
  · rw [if_pos h.le, if_pos h, Ideal.div_coe hl.ne', EReal.bot_mul_coe_of_pos (by positivity)]
  · rw [if_neg (not_le.2 (lt_of_le_of_ne h0 (Ne.symm h))), if_neg h, Ideal.div_coe hl.ne', ← EReal.coe_mul, mul_one_div]

/-- The region's bias at a key and a query. -/
theorem V_tab (c : Dev nD) (a : Fin 2048) (b : Fin 256) : (V m c main_v48 : FVec Ideal S2048x256 .f32) (ix2 a b) = lg (cnt (1792 + b.val) a.val) := by
  rw [V_tab_eq]
  exact tab_apply a b

end Cert.Kernel5Ideal.Value
-- ==== Proof.DilOut.lean ====
/- The dilated attention's output array at the end of the kernel's run. -/
module

public import proofs.«01_k».proof.Proof.Dil
public import proofs.«01_k».proof.Proof.DilTab

@[expose] public section
set_option maxRecDepth 65536
set_option maxHeartbeats 1000000
noncomputable section
open Idealize.ShloMosaic Idealize.ShloMosaic.TcCoe Idealize.SL.Sem
open Idealize.ShloMosaic.Pipeline (Dat)
namespace Cert.Kernel5Ideal.Value
open Cert.Kernel5Ideal Cert.Kernel5Ideal.Gen Cert.Kernel5Ideal.Dil Cert.Dil Cert.Ffn
open Cert.Attn (sco sco_congr colsOf)

variable (m : (ℓ : Loc nD τ sig) → Buf (Elt Ideal) ℓ)

section Halves
variable {x : FVec Ideal S1x2048x256 .bf16} (hx : ∀ i, Real' (x i)) {o p : ℕ} {κ : Kind} {sp : Space} (v : View sig κ sp S128x2048 .bf16)
include hx

/-- The first half-head's queries of a tile. -/
theorem lo_rl (inb) (inb0) (inb1) :
    Qc x o p 0 (k0_pay4 (F := Ideal) (v.readCov (Val := Elt Ideal) [⟨Rect.unit (s := S128x2048) ![0, 0] ![128, 2048] inb0, k0_pay1 (F := Ideal) (View.ld (e' := .bf16) x (Rect.unit (s := S1x2048x256) ![0, 0, o] ![1, 2048, 128] inb))⟩]
      (Rect.unit (s := S128x2048) ![0, p] ![128, 256] inb1).toLoadRect)) := fun d c =>
  lo_apply (f := fun d c => rl x (p + c.val) (o + d.val)) (fun d c => (tr_en trq_apply x v inb inb0 inb1 d c).trans (en_rl hx _ _)) d c

/-- The second half-head's. -/
theorem hi_rl (inb) (inb0) (inb1) :
    Qc x o p 1 (k0_pay5 (F := Ideal) (v.readCov (Val := Elt Ideal) [⟨Rect.unit (s := S128x2048) ![0, 0] ![128, 2048] inb0, k0_pay1 (F := Ideal) (View.ld (e' := .bf16) x (Rect.unit (s := S1x2048x256) ![0, 0, o] ![1, 2048, 128] inb))⟩]
      (Rect.unit (s := S128x2048) ![0, p] ![128, 256] inb1).toLoadRect)) := fun d c =>
  hi_apply (f := fun d c => rl x (p + c.val) (o + d.val)) (fun d c => (tr_en trq_apply x v inb inb0 inb1 d c).trans (en_rl hx _ _)) d c

/-- A chunk of keys. -/
theorem kc_rl {n : ℕ} (inb) : Kc x o n (View.ld (Val := Elt Ideal) (e' := .bf16) x (Rect.unit (s := S1x2048x256) ![0, n, o] ![1, 128, 128] inb)) :=
  fun k d => (ld_en x inb k d).trans (en_rl hx _ _)

omit hx in
/-- A chunk of values. -/
theorem vc_rl {n : ℕ} (inb) (inb0) (inb1) :
    Vc (VV x o) n (v.readCov (Val := Elt Ideal) [⟨Rect.unit (s := S128x2048) ![0, 0] ![128, 2048] inb0, k0_pay2 (F := Ideal) (View.ld (e' := .bf16) x (Rect.unit (s := S1x2048x256) ![0, 0, o] ![1, 2048, 128] inb))⟩]
      (Rect.unit (s := S128x2048) ![0, n] ![128, 128] inb1).toLoadRect) := fun d k => tr_en trv_apply x v inb inb0 inb1 d k

end Halves

theorem idx : ∀ t : Fin cfg0.N, win0_0.index t = ![t.val / 2, 0, 6 + t.val % 2] ∧ win0_1.index t = ![t.val / 2, 0, 8 + t.val % 2] ∧ win0_2.index t = ![t.val / 2, 0, 10 + t.val % 2] ∧ win0_3.index t = ![0, 0] ∧ win0_4.index t = ![t.val / 2, 0, t.val % 2] :=
  (by decide +kernel : ∀ t : Fin grid0.N, _)

/-- The projected array's columns that a grid point reads. -/
theorem blk0 (c : Dev nD) (t : Fin cfg0.N) (r : Fin 2048) (e : Fin 256) (i : Fin 16) (hi : i.val = t.val / 2) (j : Fin 3072) (hj : j.val = 1536 + (256 * (t.val % 2) + e.val)) :
    iblk m c 0 t (ix3 0 r e) = m ((c : Thread nD τ).loc main_arg0) (ix3 i r j) := by
  blk_point [iblk, V, idx t]

theorem blk1 (c : Dev nD) (t : Fin cfg0.N) (r : Fin 2048) (e : Fin 256) (i : Fin 16) (hi : i.val = t.val / 2) (j : Fin 3072) (hj : j.val = 2048 + (256 * (t.val % 2) + e.val)) :
    iblk m c 1 t (ix3 0 r e) = m ((c : Thread nD τ).loc main_arg0) (ix3 i r j) := by
  blk_point [iblk, V, idx t]

theorem blk2 (c : Dev nD) (t : Fin cfg0.N) (r : Fin 2048) (e : Fin 256) (i : Fin 16) (hi : i.val = t.val / 2) (j : Fin 3072) (hj : j.val = 2560 + (256 * (t.val % 2) + e.val)) :
    iblk m c 2 t (ix3 0 r e) = m ((c : Thread nD τ).loc main_arg0) (ix3 i r j) := by
  blk_point [iblk, V, idx t]

theorem blk3 (c : Dev nD) (t : Fin cfg0.N) (a : Fin 2048) (b : Fin 256) : iblk m c 3 t (ix2 a b) = lg (cnt (1792 + b.val) a.val) := by
  refine Eq.trans ?_ (V_tab m c a b)
  blk_point [iblk, idx t]

/-- At real queries and keys their blocks are real. -/
theorem row_real (c : Dev nD) (hA : ∀ i j k, 1536 ≤ k.val → k.val < 2560 → Real' (m ((c : Thread nD τ).loc main_arg0) (ix3 (n0 := 16) (n1 := 2048) (n2 := 3072) i j k))) (t : Fin cfg0.N) :
    (∀ i, Real' (iblk m c 0 t i)) ∧ ∀ i, Real' (iblk m c 1 t i) := by
  have ht : t.val < 32 := t.isLt
  refine ⟨fun (i : S1x2048x256.Idx) => ?_, fun (i : S1x2048x256.Idx) => ?_⟩
  all_goals
    idx_vars i
    obtain rfl : i0 = 0 := Subsingleton.elim _ _
  · rw [blk0 m c t i1 i2 ⟨t.val / 2, by omega⟩ rfl ⟨1536 + (256 * (t.val % 2) + i2.val), by omega⟩ rfl]
    exact hA _ _ _ (Nat.le_add_right _ _) (by show 1536 + (256 * (t.val % 2) + i2.val) < 2560; omega)
  · rw [blk1 m c t i1 i2 ⟨t.val / 2, by omega⟩ rfl ⟨2048 + (256 * (t.val % 2) + i2.val), by omega⟩ rfl]
    exact hA _ _ _ (by show 1536 ≤ 2048 + (256 * (t.val % 2) + i2.val); omega) (by show 2048 + (256 * (t.val % 2) + i2.val) < 2560; omega)

/-- A grid point's block of the formula. -/
theorem blk_out (c : Dev nD) (t : Fin cfg0.N) (y : S1x2048x256.Idx) (z : S16x2048x512.Idx) (z0 : (z 0).val = t.val / 2) (z1 : (z 1).val = (y 1).val) (z2 : (z 2).val = 256 * (t.val % 2) + (y 2).val) :
    blkOut (iblk m c 0 t) (iblk m c 1 t) (iblk m c 2 t) y = dilOut (m ((c : Thread nD τ).loc main_arg0)) z := by
  have hy : (y 2).val < 256 := (y 2).isLt
  unfold blkOut dilOut
  rw [z1, z2]
  refine outAt_congr (fun r d hd => ?_) (fun r d hd => ?_) (fun r d hd => ?_) (by omega) _
  · exact congrArg EReal.toReal (blk0 m c t _ _ _ z0 _ (by show (1536 + _) % 3072 = 1536 + (256 * (t.val % 2) + _ % 256); omega))
  · exact congrArg EReal.toReal (blk1 m c t _ _ _ z0 _ (by show (2048 + _) % 3072 = 2048 + (256 * (t.val % 2) + _ % 256); omega))
  · exact (blk2 m c t _ _ _ z0 _ (by show (2560 + _) % 3072 = 2560 + (256 * (t.val % 2) + _ % 256); omega))

/-- The bias that a chunk is given. -/
theorem mask_all (c : Dev nD) (t) {p n a : ℕ} (inb) (h : a + p = 1792 + n) :
    Bc p n (shapeCast S128x256 (View.ld (Val := Elt Ideal) (e' := .f32) (iblk m c 3 t) (Rect.unit (s := S2048x256) ![a, 0] ![128, 256] inb)) shapeCasts_S128x256_S128x256) := fun k j => by
  have h1 : a + 128 ≤ 2048 := inb 0
  refine (congrFun (shapeCast_self _ _) _).trans ?_
  refine Eq.trans ?_ ((blk3 m c t ⟨a + k.val, by omega⟩ j).trans ?_)
  · rw [View.ld_apply]
    congr 1
    funext a
    apply Fin.ext
    fin_cases a <;> simp [LoadRect.idx_apply]
  · rw [← cnt_shift (p + j.val) (n + k.val) 1792, ← cnt_shift (1792 + j.val) (a + k.val) p]
    congr 2 <;> omega

/-- The bias that a last chunk is given. -/
theorem mask_low (c : Dev nD) (t) {p n a : ℕ} (inb) (h : a + p = 1792 + n) :
    Bc2 p n (shapeCast S128x128 (View.ld (Val := Elt Ideal) (e' := .f32) (iblk m c 3 t) (Rect.unit (s := S2048x256) ![a, 128] ![128, 128] inb)) shapeCasts_S128x128_S128x128) := fun k j => by
  have h1 : a + 128 ≤ 2048 := inb 0
  refine (congrFun (shapeCast_self _ _) _).trans ?_
  refine Eq.trans ?_ ((blk3 m c t ⟨a + k.val, by omega⟩ ⟨128 + j.val, by omega⟩).trans ?_)
  · rw [View.ld_apply]
    congr 1
    funext a
    apply Fin.ext
    fin_cases a <;> simp [LoadRect.idx_apply]
  · rw [← cnt_shift (p + (128 + j.val)) (n + k.val) 1792, ← cnt_shift (1792 + (128 + j.val)) (a + k.val) p]
    congr 2 <;> omega

attribute [local irreducible] Sc Sc2 St Done Vc Kc Qc Bc Bc2

/-- The output array at the end of the run. -/
theorem final (c : Dev nD) (hA : ∀ i j k, 1536 ≤ k.val → k.val < 2560 → Real' (m ((c : Thread nD τ).loc main_arg0) (ix3 (n0 := 16) (n1 := 2048) (n2 := 3072) i j k))) :
    (dats m 0 c).arrAt 4 (cfgs 0).N = dilOut (m ((c : Thread nD τ).loc main_arg0)) := by
  refine (dats m 0 c).arrAt_eq_of_covers 4 _ (by decide +kernel) fun t _ y => ?_
  obtain ⟨h0, h1⟩ := row_real m c hA t
  blk_simp
  rw [after0_4]
  unfold outsAt0
  frame_out
  refine (View.canon_apply_of_pieces (blkOut (iblk m c 0 t) (iblk m c 1 t) (iblk m c 2 t)) _ (View.PiecesOf.mem ?_) _ (View.cover_of_tiled_head _ _ _ (by rfl) _)).trans ?_
  · refine ⟨?_, ?_, ?_, ?_, ?_, ?_, ?_, ?_, ?_, ?_, ?_, ?_, ?_, ?_, ?_, ?_, trivial⟩
    all_goals refine piece (by decide) rfl ?_ ?_
    all_goals refine st_last ?_ rfl (by decide) ?_ ?_
    all_goals
      repeat' first
        | refine st_first ?_ ?_ (by decide)
        | refine st_next ?_ (by decide) (by decide) ?_ ?_
        | refine ss_bias ?_ ?_ ?_
        | refine ss2_bias ?_ ?_ ?_
    all_goals first
      | exact kc_rl h1 (by decide)
      | exact lo_rl h0 _ (by decide) (by decide) (by decide)
      | exact hi_rl h0 _ (by decide) (by decide) (by decide)
      | exact vc_rl _ (by decide) (by decide) (by decide)
      | exact mask_all m c t (by decide) (by decide)
      | exact mask_low m c t (by decide) (by decide)
  refine blk_out m c t y _ ?_ ?_ ?_ <;> blk_simp [idx t]
  exact congrArg (· + _) (Nat.mul_comm _ _)

end Cert.Kernel5Ideal.Value
-- ==== Proof.DilRef.lean ====
/- The reference's dilated attention: its stages as composed, and their values at an index. -/
module

public import proofs.«01_k».proof.Proof.Gen.Reference5Ideal.Run
public import proofs.«01_k».proof.Proof.DilFn
public import proofs.«01_k».proof.Proof.FfnMath
public import Idealize.ShloMosaic.Lib.Pointwise

@[expose] public section
set_option maxRecDepth 16384
noncomputable section
open Idealize.ShloMosaic Idealize.ShloMosaic.TcCoe Idealize.SL.Sem
open Cert.Attn (sco sco_congr colsOf coe_sum fold_real ofBits_neg_inf)
namespace Cert.Reference5Ideal.Dil
open Cert.Reference5Ideal Cert.Reference5Ideal.Gen Cert.Dil Cert.Ffn

/-- The distance from a key to a query, for each branch. -/
def dist : IVec S3x2048x2048 32 :=
  broadcastInDim S3x2048x2048 ![1, 2] bcast_S2048x2048_S3x2048x2048_1_2 (subi (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0))))

/-- A branch's number repeated over the queries and keys. -/
def per (f : Fin 3 → BitVec 32) : IVec S3x2048x2048 32 :=
  broadcastInDim S3x2048x2048 ![0, 1, 2] bcast_S3x1x1_S3x2048x2048_0_1_2 (broadcastInDim S3x1x1 ![0] bcast_S3_S3x1x1_0 (fun i => f (S3.rowMajor i)))

/-- The keys that each branch sees. -/
def bits : IVec S3x2048x2048 1 :=
  andi (andi (cmpi .sge dist (broadcastInDim S3x2048x2048 ![] bcast_S_S3x2048x2048 (constantI S_ 32 0#32))) (cmpi .sle dist (per lit0))) (cmpi .eq (Host.remsi dist (per lit1)) (broadcastInDim S3x2048x2048 ![] bcast_S_S3x2048x2048 (constantI S_ 32 0#32)))

/-- The scores, in natural units. -/
def scr (A : FVec Ideal S16x2048x3072 .bf16) : FVec Ideal S16x8x2048x2048 .f32 :=
  mulf (Host.dotGeneral dot_S16x2048x8x64_S16x2048x8x64_S16x8x2048x2048_3_3_1_1_02_02 none (shapeCast _ (extf .f32 (extractStridedSlice S16x2048x512 ![0, 0, 1536] A slices_S16x2048x3072_S16x2048x512_0_0_1536) bitsLt_bf16_f32) shapeCasts_S16x2048x512_S16x2048x8x64) (shapeCast _ (extf .f32 (extractStridedSlice S16x2048x512 ![0, 0, 2048] A slices_S16x2048x3072_S16x2048x512_0_0_2048) bitsLt_bf16_f32) shapeCasts_S16x2048x512_S16x2048x8x64)) (broadcastInDim S16x8x2048x2048 ![] bcast_S_S16x8x2048x2048 (Host.log (constant S_ .f32 0x40000000#32)))

/-- The branches' masked scores. -/
def msk (A : FVec Ideal S16x2048x3072 .bf16) : FVec Ideal S3x16x8x2048x2048 .f32 :=
  select (broadcastInDim S3x16x8x2048x2048 ![0, 1, 2, 3, 4] bcast_S3x1x1x2048x2048_S3x16x8x2048x2048_0_1_2_3_4 (broadcastInDim S3x1x1x2048x2048 ![0, 3, 4] bcast_S3x2048x2048_S3x1x1x2048x2048_0_3_4 bits)) (broadcastInDim S3x16x8x2048x2048 ![1, 2, 3, 4] bcast_S16x8x2048x2048_S3x16x8x2048x2048_1_2_3_4 (scr A)) (broadcastInDim S3x16x8x2048x2048 ![] bcast_S_S3x16x8x2048x2048 (id (constant S_ .f32 0xFF800000#32)))

/-- The largest score of each query. -/
def big (x : FVec Ideal S3x16x8x2048x2048 .f32) : FVec Ideal S3x16x8x2048x1 .f32 :=
  broadcastInDim S3x16x8x2048x1 ![0, 1, 2, 3] bcast_S3x16x8x2048_S3x16x8x2048x1_0_1_2_3 (Host.reduce FloatOps.maximumf x (constant S_ .f32 0xFF800000#32) reducesTo_S3x16x8x2048x2048_S3x16x8x2048_d4 h_S_)

/-- The weights before division. -/
def ex (x : FVec Ideal S3x16x8x2048x2048 .f32) : FVec Ideal S3x16x8x2048x2048 .f32 :=
  Host.exp (subf x (broadcastInDim S3x16x8x2048x2048 ![0, 1, 2, 3, 4] bcast_S3x16x8x2048x1_S3x16x8x2048x2048_0_1_2_3_4 (big x)))

/-- Their sum. -/
def tot (x : FVec Ideal S3x16x8x2048x2048 .f32) : FVec Ideal S3x16x8x2048x1 .f32 :=
  broadcastInDim S3x16x8x2048x1 ![0, 1, 2, 3] bcast_S3x16x8x2048_S3x16x8x2048x1_0_1_2_3 (Host.reduceAdd (ex x) (constant S_ .f32 0x00000000#32) reducesTo_S3x16x8x2048x2048_S3x16x8x2048_d4 h_S_)

/-- The logarithm of the summed exponentials. -/
def lse (x : FVec Ideal S3x16x8x2048x2048 .f32) : FVec Ideal S3x16x8x2048x1 .f32 := addf (big x) (Host.log (tot x))

/-- Each branch's own average. -/
def own (A : FVec Ideal S16x2048x3072 .bf16) (x : FVec Ideal S3x16x8x2048x2048 .f32) : FVec Ideal S3x16x8x2048x64 .f32 :=
  Host.divf (transpose S3x16x8x2048x64 [3, 0, 1, 4, 2] (Host.dotGeneral dot_S16x2048x8x64_S3x16x8x2048x2048_S16x8x64x3x2048_1_4_3_03_02_12 none (shapeCast _ (extf .f32 (extractStridedSlice S16x2048x512 ![0, 0, 2560] A slices_S16x2048x3072_S16x2048x512_0_0_2560) bitsLt_bf16_f32) shapeCasts_S16x2048x512_S16x2048x8x64) (ex x)) transposes_S16x8x64x3x2048_S3x16x8x2048x64_3_0_1_4_2) (broadcastInDim S3x16x8x2048x64 ![0, 1, 2, 3, 4] bcast_S3x16x8x2048x1_S3x16x8x2048x64_0_1_2_3_4 (tot x))

/-- A query's value repeated over the branches. -/
def rep (x : FVec Ideal S16x8x2048x1 .f32) : FVec Ideal S3x16x8x2048x1 .f32 :=
  broadcastInDim S3x16x8x2048x1 ![0, 1, 2, 3, 4] bcast_S1x16x8x2048x1_S3x16x8x2048x1_0_1_2_3_4 (broadcastInDim S1x16x8x2048x1 ![1, 2, 3, 4] bcast_S16x8x2048x1_S1x16x8x2048x1_1_2_3_4 x)

/-- The branches' weights before division. -/
def wt (l : FVec Ideal S3x16x8x2048x1 .f32) : FVec Ideal S3x16x8x2048x1 .f32 :=
  Host.exp (subf l (rep (Host.reduce FloatOps.maximumf l (constant S_ .f32 0xFF800000#32) reducesTo_S3x16x8x2048x1_S16x8x2048x1_d0 h_S_)))

/-- Their shares. -/
def shr (l : FVec Ideal S3x16x8x2048x1 .f32) : FVec Ideal S3x16x8x2048x1 .f32 :=
  Host.divf (wt l) (rep (Host.reduceAdd (wt l) (constant S_ .f32 0x00000000#32) reducesTo_S3x16x8x2048x1_S16x8x2048x1_d0 h_S_))

/-- The branches' averages, each by its share. -/
def wsum (l : FVec Ideal S3x16x8x2048x1 .f32) (o : FVec Ideal S3x16x8x2048x64 .f32) : FVec Ideal S16x8x2048x64 .f32 :=
  Host.reduceAdd (mulf (broadcastInDim S3x16x8x2048x64 ![0, 1, 2, 3, 4] bcast_S3x16x8x2048x1_S3x16x8x2048x64_0_1_2_3_4 (shr l)) o) (constant S_ .f32 0x00000000#32) reducesTo_S3x16x8x2048x64_S16x8x2048x64_d0 h_S_

/-- The whole of it. -/
def refOut (A : FVec Ideal S16x2048x3072 .bf16) : FVec Ideal S16x2048x512 .bf16 :=
  truncf .bf16 (shapeCast _ (transpose S16x2048x8x64 [0, 2, 1, 3] (wsum (lse (msk A)) (own A (msk A))) transposes_S16x8x2048x64_S16x2048x8x64_0_2_1_3) shapeCasts_S16x2048x8x64_S16x2048x512) bitsLt_bf16_f32

/-- The program's result is the composed stages. -/
theorem res_eq (m : (ℓ : Loc nD τ sig) → Buf (Elt Ideal) ℓ) (c : Dev nD) : Value.res_out0 m c = refOut (m ((c.tc : Thread nD τ).loc main_arg0)) := by
  unfold Value.res_out0 Value.res_main_v61
  rfl

/-- A half-head's score, over its own columns alone. -/
theorem sco_half (q k : ℕ → ℕ → ℝ) (o h : ℕ) (h2 : h < 2) (r j : ℕ) :
    sco q k o h r j = ∑ d : Fin 64, q r (o + (64 * h + d.val)) * k j (o + (64 * h + d.val)) := by
  unfold sco
  rw [Fin.sum_univ_eq_sum_range (fun d => k j (o + d) * if d / 64 = h then q r (o + d) else 0) 128,
    Fin.sum_univ_eq_sum_range (fun d => q r (o + (64 * h + d)) * k j (o + (64 * h + d))) 64, show 128 = 64 + 64 from rfl, Finset.sum_range_add]
  have e (a : ℕ) : ∑ d ∈ Finset.range 64, (k j (o + (64 * a + d)) * if (64 * a + d) / 64 = h then q r (o + (64 * a + d)) else 0)
      = if a = h then ∑ d ∈ Finset.range 64, q r (o + (64 * a + d)) * k j (o + (64 * a + d)) else 0 := by
    split
    · refine Finset.sum_congr rfl fun d hd => ?_
      have := Finset.mem_range.1 hd
      rw [if_pos (by omega), mul_comm]
    · refine Finset.sum_eq_zero fun d hd => ?_
      have := Finset.mem_range.1 hd
      rw [if_neg (by omega), mul_zero]
  have e0 := e 0
  have e1 := e 1
  simp only [Nat.mul_zero, Nat.zero_add, Nat.mul_one] at e0 e1
  rw [e0, e1]
  obtain rfl | rfl : h = 0 ∨ h = 1 := by omega
  · simp
  · simp

/-- The spans of the branches. -/
def sp : Fin 3 → ℕ := ![128, 512, 2048]

/-- The strides of the branches. -/
def st : Fin 3 → ℕ := ![1, 4, 16]

/-- A branch's test on the distance. -/
def tst (x a b : BitVec 32) : BitVec 1 := IntOp.andi (IntOp.andi (IntOp.cmpi .sge x 0#32) (IntOp.cmpi .sle x a)) (IntOp.cmpi .eq (IntOp.remsi .host x b) 0#32)

/-- The test says whether a branch sees a key at that distance. -/
theorem tst_eq : ∀ (i : Fin 3) (n : Fin 4096), tst (BitVec.ofNat 32 n.val - 2048#32) (lit0 i) (lit1 i)
    = if 2048 ≤ n.val ∧ n.val - 2048 ≤ sp i ∧ (n.val - 2048) % st i = 0 then 1#1 else 0#1 := by decide +kernel

/-- Whether a branch sees a key. -/
abbrev Sees (i : Fin 3) (r k : ℕ) : Prop := k ≤ r ∧ r - k ≤ sp i ∧ (r - k) % st i = 0

theorem dist_word (r k : Fin 2048) : IntOp.subi (BitVec.ofNat 32 r.val) (BitVec.ofNat 32 k.val) = BitVec.ofNat 32 (r.val + 2048 - k.val) - 2048#32 := by
  simp only [IntOp.subi]
  apply BitVec.eq_of_toNat_eq
  simp [BitVec.toNat_sub]
  omega

theorem per_apply (f : Fin 3 → BitVec 32) (i : Fin 3) (r k : Fin 2048) : per f (ix3 i r k) = f i := by
  pointwise [per]
  fin_cases i <;> rfl

/-- The mask at an index. -/
theorem bits_apply (i : Fin 3) (r k : Fin 2048) : bits (ix3 i r k) = if Sees i r.val k.val then 1#1 else 0#1 := by
  have e : bits (ix3 i r k) = tst (BitVec.ofNat 32 (r.val + 2048 - k.val) - 2048#32) (lit0 i) (lit1 i) := by
    rw [← dist_word]
    unfold tst
    rw [← per_apply lit0 i r k, ← per_apply lit1 i r k]
    pointwise [bits, dist]
  rw [e, tst_eq i ⟨r.val + 2048 - k.val, by omega⟩]
  have e1 : r.val + 2048 - k.val - 2048 = r.val - k.val := by omega
  simp only [e1, show (2048 ≤ r.val + 2048 - k.val) = (k.val ≤ r.val) from propext (by omega)]

variable {A : FVec Ideal S16x2048x3072 .bf16}

/-- An entry of the projected array. -/
theorem vals_eq (A : FVec Ideal S16x2048x3072 .bf16) (b : Fin 16) (r : Fin 2048) (k : Fin 3072) (s c : ℕ) (h : k.val = s + c) : A (ix3 b r k) = valsOf A b s r.val c := by
  have e1 : (⟨r.val % 2048, Nat.mod_lt _ (by norm_num)⟩ : Fin 2048) = r := Fin.ext (Nat.mod_eq_of_lt r.isLt)
  have e2 : (⟨(s + c) % 3072, Nat.mod_lt _ (by norm_num)⟩ : Fin 3072) = k := Fin.ext (by show (s + c) % 3072 = k.val; omega)
  unfold valsOf
  rw [e1, e2]

/-- A real entry of the queries or keys. -/
theorem cols_eq (hA : ∀ i j k, 1536 ≤ k.val → k.val < 2560 → Real' (A (ix3 i j k))) (b : Fin 16) (r : Fin 2048) (k : Fin 3072) (s c : ℕ) (h : k.val = s + c) (hk : 1536 ≤ k.val) (hk' : k.val < 2560) :
    A (ix3 b r k) = (colsOf A b s r.val c : EReal) := by
  have e1 : (⟨r.val % 2048, Nat.mod_lt _ (by norm_num)⟩ : Fin 2048) = r := Fin.ext (Nat.mod_eq_of_lt r.isLt)
  have e2 : (⟨(s + c) % 3072, Nat.mod_lt _ (by norm_num)⟩ : Fin 3072) = k := Fin.ext (by show (s + c) % 3072 = k.val; omega)
  unfold colsOf
  rw [e1, e2]
  obtain ⟨a, ha⟩ := hA b r k hk hk'
  rw [ha, EReal.toReal_coe]

/-- The constant that the base-two scores are multiplied with. -/
theorem log_two : Ideal.log (Ideal.ofBits .f32 0x40000000#32) = (Real.log 2 : EReal) := by
  have : Ideal.ofBits .f32 0x40000000#32 = ((2 : ℝ) : EReal) := by
    simp [Ideal.ofBits, Ideal.ieee]
    exact (EReal.coe_mul _ _).symm.trans (congrArg ((↑) : ℝ → EReal) (by norm_num))
  rw [this, Ideal.log_coe, if_neg (by norm_num)]

/-- The scores of a head. -/
abbrev S (A : FVec Ideal S16x2048x3072 .bf16) (b : Fin 16) (h : Fin 8) (r : ℕ) : ℕ → ℝ :=
  sco (colsOf A b 1536) (colsOf A b 2048) (128 * (h.val / 2)) (h.val % 2) r

/-- The masked scores at an index: the score in natural units, or minus infinity for a key that the branch does not see. -/
theorem msk_apply (hA : ∀ i j k, 1536 ≤ k.val → k.val < 2560 → Real' (A (ix3 i j k))) (i : Fin 3) (b : Fin 16) (h : Fin 8) (r j : Fin 2048) :
    msk A (ix5 i b h r j) = if Sees i r.val j.val then ((S A b h r.val j.val * Real.log 2 : ℝ) : EReal) else ⊥ := by
  have e (d : Fin 64) : A (ix3 b r ⟨1536 + (h.val * 64 + d.val), by omega⟩) * A (ix3 b j ⟨2048 + (h.val * 64 + d.val), by omega⟩)
      = ((colsOf A b 1536 r.val (128 * (h.val / 2) + (64 * (h.val % 2) + d.val)) * colsOf A b 2048 j.val (128 * (h.val / 2) + (64 * (h.val % 2) + d.val)) : ℝ) : EReal) := by
    rw [cols_eq hA b r _ 1536 (128 * (h.val / 2) + (64 * (h.val % 2) + d.val)) (by show 1536 + (h.val * 64 + d.val) = _; omega) (by show 1536 ≤ 1536 + (h.val * 64 + d.val); omega) (by show 1536 + (h.val * 64 + d.val) < 2560; omega),
      cols_eq hA b j _ 2048 (128 * (h.val / 2) + (64 * (h.val % 2) + d.val)) (by show 2048 + (h.val * 64 + d.val) = _; omega) (by show 1536 ≤ 2048 + (h.val * 64 + d.val); omega) (by show 2048 + (h.val * 64 + d.val) < 2560; omega), EReal.coe_mul]
  pointwise [msk, scr]
  simp only [e]
  rw [coe_sum, log_two, ← EReal.coe_mul, ← sco_half _ _ _ _ (Nat.mod_lt _ two_pos), bits_apply]
  split
  · simp [Scalar.select]
  · simp only [Scalar.select]
    exact ofBits_neg_inf

/-- A maximum over the last of five axes, at an index. -/
theorem red_last {n0 n1 n2 n3 n4 : ℕ} (x : FVec Ideal ⟨5, ![n0, n1, n2, n3, n4]⟩ .f32) (h : (⟨5, ![n0, n1, n2, n3, n4]⟩ : Shape).ReducesTo [4] ⟨4, ![n0, n1, n2, n3]⟩) (hu)
    (b : Fin n0) (c : Fin n1) (d : Fin n2) (e : Fin n3) :
    Host.reduce FloatOps.maximumf x (constant (F := Ideal) ⟨0, ![]⟩ .f32 0xFF800000#32) h hu (ix4 b c d e)
      = Finset.fold max (Ideal.ofBits .f32 0xFF800000#32) (fun k : Fin n4 => x (ix5 b c d e k)) Finset.univ := by
  pointwise

/-- A maximum over the first of five axes, at an index. -/
theorem red_first {n0 n1 n2 n3 n4 : ℕ} (x : FVec Ideal ⟨5, ![n0, n1, n2, n3, n4]⟩ .f32) (h : (⟨5, ![n0, n1, n2, n3, n4]⟩ : Shape).ReducesTo [0] ⟨4, ![n1, n2, n3, n4]⟩) (hu)
    (c : Fin n1) (d : Fin n2) (e : Fin n3) (k : Fin n4) :
    Host.reduce FloatOps.maximumf x (constant (F := Ideal) ⟨0, ![]⟩ .f32 0xFF800000#32) h hu (ix4 c d e k)
      = Finset.fold max (Ideal.ofBits .f32 0xFF800000#32) (fun b : Fin n0 => x (ix5 b c d e k)) Finset.univ := by
  pointwise

/-- A branch's largest score is a maximum over the keys. -/
theorem big_apply (x : FVec Ideal S3x16x8x2048x2048 .f32) (i : Fin 3) (b : Fin 16) (h : Fin 8) (r : Fin 2048) :
    big x (ix5 i b h r 0) = Finset.fold max (Ideal.ofBits .f32 0xFF800000#32) (fun j : Fin 2048 => x (ix5 i b h r j)) Finset.univ := by
  refine Eq.trans ?_ (red_last (n0 := 3) (n1 := 16) (n2 := 8) (n3 := 2048) (n4 := 2048) x reducesTo_S3x16x8x2048x2048_S3x16x8x2048_d4 h_S_ i b h r)
  pointwise [big]

/-- A sum and a logarithm at an index. -/
theorem add_log {n : Shape} (a t : FVec Ideal n .f32) (i : n.Idx) : addf a (Host.log t) i = a i + Ideal.log (t i) := rfl

/-- The logarithm of the summed exponentials at an index. -/
theorem lse_apply (x : FVec Ideal S3x16x8x2048x2048 .f32) (i : S3x16x8x2048x1.Idx) : lse x i = big x i + Ideal.log (tot x i) := by
  unfold lse
  exact add_log _ _ i

/-- A shift goes into the logarithm. -/
theorem log_lse {z : ℝ} (hz : 0 < z) (μ : ℝ) : (μ : EReal) + Ideal.log ((z * Real.exp (-μ) : ℝ) : EReal) = (Real.log z : EReal) := by
  rw [Ideal.log_coe, if_neg (not_le.2 (mul_pos hz (Real.exp_pos _))), ← EReal.coe_add, Real.log_mul hz.ne' (Real.exp_pos _).ne', Real.log_exp]
  exact congrArg ((↑) : ℝ → EReal) (by ring)

/-- A branch's base-two weight of a key. -/
abbrev G (s : ℕ → ℝ) (i : Fin 3) (r k : ℕ) : ℝ := see (sp i) (st i) r k * (2 : ℝ) ^ s k

/-- The exponential of a masked score less a shift. -/
theorem exp_see {x : EReal} {s : ℕ → ℝ} {i : Fin 3} {r k : ℕ} (h : x = if Sees i r k then ((s k * Real.log 2 : ℝ) : EReal) else ⊥) (μ : ℝ) :
    Ideal.exp (x - (μ : EReal)) = ((G s i r k * Real.exp (-μ) : ℝ) : EReal) := by
  unfold G see
  rw [h]
  split
  · rw [← EReal.coe_sub, Ideal.exp_coe, one_mul, Real.rpow_def_of_pos two_pos, ← Real.exp_add]
    congr 2
    ring
  · rw [EReal.bot_sub, Ideal.exp_bot, zero_mul, zero_mul, EReal.coe_zero]

/-- A branch's total weight is positive: a query sees its own key. -/
theorem G_pos (s : ℕ → ℝ) (i : Fin 3) {r : ℕ} (hr : r < 2048) : 0 < ∑ k ∈ Finset.range 2048, G s i r k := by
  refine Finset.sum_pos' (fun k _ => mul_nonneg (see_nonneg ..) (by positivity)) ⟨r, Finset.mem_range.2 hr, ?_⟩
  have : see (sp i) (st i) r r = 1 := if_pos ⟨le_rfl, by omega, by simp⟩
  unfold G
  rw [this]
  positivity

/-- The branches' weights of a key add up to its counted weight. -/
theorem G_sum (s : ℕ → ℝ) (r k : ℕ) : ∑ i : Fin 3, G s i r k = w s r 0 k := by
  rw [Fin.sum_univ_three]
  unfold G w cnt sp st
  rw [sub_zero]
  simp
  ring

section Row
variable {x : FVec Ideal S3x16x8x2048x2048 .f32} {s : ℕ → ℝ} (b : Fin 16) (h : Fin 8) (r : Fin 2048)
  (hx : ∀ (i : Fin 3) (j : Fin 2048), x (ix5 i b h r j) = if Sees i r.val j.val then ((s j.val * Real.log 2 : ℝ) : EReal) else ⊥)
include hx

/-- The largest score is real: a query sees its own key. -/
theorem big_real (i : Fin 3) : ∃ μ : ℝ, big x (ix5 i b h r 0) = (μ : EReal) := by
  obtain ⟨μ, hμ⟩ := fold_real (fun j : Fin 2048 => x (ix5 i b h r j)) (fun j => by
    show x (ix5 i b h r j) ≠ ⊤
    rw [hx]
    split
    · exact EReal.coe_ne_top _
    · exact bot_ne_top) r (by
    show x (ix5 i b h r r) ≠ ⊥
    rw [hx, if_pos ⟨le_rfl, by omega, by simp⟩]
    exact EReal.coe_ne_bot _)
  exact ⟨μ, by rw [big_apply, hμ]⟩

/-- The weights, their sum and the logarithm of it. -/
theorem row_apply (i : Fin 3) : ∃ μ : ℝ, (∀ j : Fin 2048, ex x (ix5 i b h r j) = ((G s i r.val j.val * Real.exp (-μ) : ℝ) : EReal))
    ∧ tot x (ix5 i b h r 0) = (((∑ k ∈ Finset.range 2048, G s i r.val k) * Real.exp (-μ) : ℝ) : EReal)
    ∧ lse x (ix5 i b h r 0) = (Real.log (∑ k ∈ Finset.range 2048, G s i r.val k) : EReal) := by
  obtain ⟨μ, hμ⟩ := big_real b h r hx i
  have he (j : Fin 2048) : ex x (ix5 i b h r j) = ((G s i r.val j.val * Real.exp (-μ) : ℝ) : EReal) := by
    pointwise [ex]
    rw [hμ]
    exact exp_see (hx i j) μ
  have ht : tot x (ix5 i b h r 0) = (((∑ k ∈ Finset.range 2048, G s i r.val k) * Real.exp (-μ) : ℝ) : EReal) := by
    pointwise [tot]
    simp only [he]
    rw [coe_sum, Fin.sum_univ_eq_sum_range (fun k => G s i r.val k * Real.exp (-μ)) 2048, Finset.sum_mul]
  refine ⟨μ, he, ht, ?_⟩
  rw [lse_apply, hμ, ht]
  exact log_lse (G_pos s i r.isLt) μ

/-- A branch's own average at an index. -/
theorem own_apply {v : ℕ → EReal} (e : Fin 64) (hv : ∀ j : Fin 2048, A (ix3 b j ⟨2560 + (h.val * 64 + e.val), by omega⟩) = v j.val) (i : Fin 3) :
    own A x (ix5 i b h r e) = (∑ k ∈ Finset.range 2048, v k * (G s i r.val k : EReal)) * ((1 / ∑ k ∈ Finset.range 2048, G s i r.val k : ℝ) : EReal) := by
  obtain ⟨μ, he, ht, -⟩ := row_apply b h r hx i
  have hp := G_pos s i r.isLt
  have hj (j : Fin 2048) : A (ix3 b j ⟨2560 + (h.val * 64 + e.val), by omega⟩) * ex x (ix5 i b h r j) = (Real.exp (-μ) : EReal) * (fun k => v k * (G s i r.val k : EReal)) j.val := by
    rw [hv, he, mul_comm (G s i r.val j.val), EReal.coe_mul]
    exact mul_left_comm ..
  pointwise [own]
  simp only [hj]
  rw [ht, ← coe_mul_sum _ (Real.exp_pos _).le, Fin.sum_univ_eq_sum_range (fun k => v k * (G s i r.val k : EReal)) 2048, Ideal.div_coe (mul_pos hp (Real.exp_pos _)).ne',
    mul_comm (∑ k ∈ Finset.range 2048, G s i r.val k), cancel (Real.exp_pos _)]

end Row

/-- The branches' shares at an index, from the logarithms of positive totals. -/
theorem shr_apply {l : FVec Ideal S3x16x8x2048x1 .f32} (b : Fin 16) (h : Fin 8) (r : Fin 2048) {z : Fin 3 → ℝ} (hz : ∀ i, 0 < z i)
    (hl : ∀ i, l (ix5 i b h r 0) = (Real.log (z i) : EReal)) (i : Fin 3) : shr l (ix5 i b h r 0) = ((z i / ∑ k, z k : ℝ) : EReal) := by
  obtain ⟨T, hT⟩ := fold_real (fun i : Fin 3 => l (ix5 i b h r 0)) (fun i => by
    show l (ix5 i b h r 0) ≠ ⊤
    rw [hl]
    exact EReal.coe_ne_top _) 0 (by
    show l (ix5 0 b h r 0) ≠ ⊥
    rw [hl]
    exact EReal.coe_ne_bot _)
  have hm := (red_first (n0 := 3) (n1 := 16) (n2 := 8) (n3 := 2048) (n4 := 1) l reducesTo_S3x16x8x2048x1_S16x8x2048x1_d0 h_S_ b h r 0).trans hT
  have hw (i : Fin 3) : wt l (ix5 i b h r 0) = ((z i * Real.exp (-T) : ℝ) : EReal) := by
    have e : wt l (ix5 i b h r 0) = Ideal.exp (l (ix5 i b h r 0) - Host.reduce FloatOps.maximumf l (constant (F := Ideal) S_ .f32 0xFF800000#32) reducesTo_S3x16x8x2048x1_S16x8x2048x1_d0 h_S_ (ix4 b h r 0)) := by
      rw [hm, ← hT]
      pointwise [wt, rep]
    rw [e]
    refine (congrArg (fun t => Ideal.exp (l (ix5 i b h r 0) - t)) hm).trans ?_
    show Ideal.exp (l (ix5 i b h r 0) - (T : EReal)) = _
    rw [hl, ← EReal.coe_sub, Ideal.exp_coe, sub_eq_add_neg, Real.exp_add, Real.exp_log (hz i)]
  have hp : 0 < ∑ k, z k := Finset.sum_pos (fun k _ => hz k) ⟨0, Finset.mem_univ _⟩
  pointwise [shr, rep]
  simp only [hw]
  rw [coe_sum, ← Finset.sum_mul, Ideal.div_coe (mul_pos hp (Real.exp_pos _)).ne', ← EReal.coe_mul, mul_one_div, mul_div_mul_right _ _ (Real.exp_pos _).ne']

/-- A value's weights over the branches, each not negative, add up before the value is multiplied in. -/
theorem mul_G (s : ℕ → ℝ) (r k : ℕ) (x : EReal) : ∑ i : Fin 3, x * (G s i r k : EReal) = x * (w s r 0 k : EReal) := by
  have h (i : Fin 3) : (0 : EReal) ≤ (G s i r k : EReal) := EReal.coe_nonneg.2 (mul_nonneg (see_nonneg ..) (by positivity))
  rw [← G_sum, Fin.sum_univ_three, Fin.sum_univ_three, EReal.coe_add, EReal.coe_add, EReal.left_distrib_of_nonneg (add_nonneg (h 0) (h 1)) (h 2),
    EReal.left_distrib_of_nonneg (h 0) (h 1)]

/-- The weighted sum of the branches is the average over the counted keys. -/
theorem wsum_apply {x : FVec Ideal S3x16x8x2048x2048 .f32} {s : ℕ → ℝ} {v : ℕ → EReal} (b : Fin 16) (h : Fin 8) (r : Fin 2048) (e : Fin 64)
    (hx : ∀ (i : Fin 3) (j : Fin 2048), x (ix5 i b h r j) = if Sees i r.val j.val then ((s j.val * Real.log 2 : ℝ) : EReal) else ⊥)
    (hv : ∀ j : Fin 2048, A (ix3 b j ⟨2560 + (h.val * 64 + e.val), by omega⟩) = v j.val) :
    wsum (lse x) (own A x) (ix4 b h r e) = avg s v r.val := by
  have hz (i : Fin 3) := G_pos s i r.isLt
  have hs := shr_apply (l := lse x) b h r hz (fun i => by obtain ⟨μ, -, -, hl⟩ := row_apply b h r hx i; exact hl)
  have hZ : 0 < ∑ i, ∑ k ∈ Finset.range 2048, G s i r.val k := Finset.sum_pos (fun i _ => hz i) ⟨0, Finset.mem_univ _⟩
  have ht (i : Fin 3) : shr (lse x) (ix5 i b h r 0) * own A x (ix5 i b h r e)
      = ((1 / ∑ i, ∑ k ∈ Finset.range 2048, G s i r.val k : ℝ) : EReal) * ∑ k ∈ Finset.range 2048, v k * (G s i r.val k : EReal) := by
    rw [hs, own_apply b h r hx e hv, mul_left_comm, ← EReal.coe_mul, mul_comm]
    refine congrArg (fun t : ℝ => (t : EReal) * _) ?_
    have := (hz i).ne'
    field_simp
  pointwise [wsum]
  simp only [ht]
  rw [← coe_mul_sum _ (one_div_pos.2 hZ).le, Finset.sum_comm, Finset.sum_comm (s := (Finset.univ : Finset (Fin 3)))]
  simp only [mul_G, G_sum]
  exact mul_comm ..

/-- The reference's result is the formula's, at real queries and keys. -/
theorem ref_eq (hA : ∀ i j k, 1536 ≤ k.val → k.val < 2560 → Real' (A (ix3 i j k))) : refOut A = dilOut A := by
  funext z
  idx_vars z
  have e := wsum_apply (A := A) (v := fun j => valsOf A z0 2560 j (128 * (z2.val / 128) + z2.val % 128)) z0 ⟨z2.val / 64, by omega⟩ z1 ⟨z2.val % 64, by omega⟩ (fun i j => msk_apply hA i z0 ⟨z2.val / 64, by omega⟩ z1 j)
    (fun j => vals_eq A z0 j _ 2560 (128 * (z2.val / 128) + z2.val % 128) (by show 2560 + (z2.val / 64 * 64 + z2.val % 64) = _; omega))
  have e2 : refOut A (ix3 z0 z1 z2) = wsum (lse (msk A)) (own A (msk A)) (ix4 z0 ⟨z2.val / 64, by omega⟩ z1 ⟨z2.val % 64, by omega⟩) := by
    pointwise [refOut]
  rw [e2, e]
  unfold dilOut outAt S
  simp only [show z2.val / 64 / 2 = z2.val / 128 by omega, show z2.val / 64 % 2 = z2.val % 128 / 64 by omega]
  rfl

end Cert.Reference5Ideal.Dil
-- ==== Proof.DilClaim.lean ====
/- The dilated attention call: what its precondition says, and its value claim. -/
module

public import proofs.«01_k».proof.Defs
public import proofs.«01_k».proof.Proof.DilOut
public import proofs.«01_k».proof.Proof.DilRef
public import Idealize.ShloMosaic.Lib.Claim

@[expose] public section
set_option maxRecDepth 16384
noncomputable section
open Idealize.ShloMosaic Idealize.ShloMosaic.TcCoe Idealize.SL.Sem
namespace Cert.Dil
open Cert.Reference5Ideal Cert.Reference5Ideal.Dil Cert.Ffn

/-- The shape facts the precondition's text states. -/
instance dilPreFacts : Cert.Pre_dil_finite.Facts := by constructor <;> decide

/-- The precondition at its argument: queries and keys are real. -/
theorem dil_pre_real (A : FVec Ideal S16x2048x3072 .bf16) (h : Cert.Pre_dil_finite.fn (F := Ideal) A = fun _ => 1#1) :
    ∀ i j k, 1536 ≤ k.val → k.val < 2560 → Real' (A (ix3 (n0 := 16) (n1 := 2048) (n2 := 3072) i j k)) := by
  have h1 := congrFun h (fun a => a.elim0)
  have h2 (i : Fin 16) (j : Fin 2048) (k : Fin 1024) : Real' (A (ix3 (n0 := 16) (n1 := 2048) (n2 := 3072) i j ⟨1536 + k.val, by omega⟩)) := by
    have e := real_of_cmp _ (Host.reduce_andi_all _ _ _ _ _ h1 (ix3 (n0 := 16) (n1 := 2048) (n2 := 1024) i j k))
    have e2 : extractStridedSlice Cert.Pre_dil_finite.S16x2048x1024 ![0, 0, 1536] A Cert.Pre_dil_finite.Facts.slices_S16x2048x3072_S16x2048x1024_0_0_1536 (ix3 (n0 := 16) (n1 := 2048) (n2 := 1024) i j k) = A (ix3 i j ⟨1536 + k.val, by omega⟩) := by
      pointwise
    exact e2 ▸ e
  intro i j k hk hk'
  have e3 : (⟨1536 + (k.val - 1536), by omega⟩ : Fin 3072) = k := Fin.ext (Nat.add_sub_of_le hk)
  have := h2 i j ⟨k.val - 1536, by omega⟩
  rwa [e3] at this

/-- The dilated attention call ends with the reference's result. -/
theorem dil_algebraic : Cert.algebraic_Kernel5Ideal_Reference5Ideal_pre_dil_finite := by
  pair_intro
  · run_from Cert.Kernel5Ideal.Gen.run_main m g
  · run_from Cert.Reference5Ideal.Value.run m' g'
    have hp : Cert.Pre_Kernel5Ideal_dil_finite m := by assumption
    have hA := dil_pre_real _ (hp c)
    refine Eq.trans ?_ (Cert.Kernel5Ideal.Value.final m c hA).symm
    refine Eq.trans ?_ (ref_eq hA)
    refine Eq.trans (res_eq m' c) ?_
    obtain e0 := hagree c
    rw [← e0]

end Cert.Dil
-- ==== Proof.lean ====
/- The proof of everything the certificate claims: the frames, the idealizations and the value claims of the five calls. -/
module

public import proofs.«01_k».proof.Defs
public import proofs.«01_k».proof.Proof.Gen.Kernel.Frame
public import proofs.«01_k».proof.Proof.Gen.KernelIdeal.Frame
public import proofs.«01_k».proof.Proof.Gen.Kernel2.Frame
public import proofs.«01_k».proof.Proof.Gen.Kernel2Ideal.Frame
public import proofs.«01_k».proof.Proof.Gen.Kernel3.Frame
public import proofs.«01_k».proof.Proof.Gen.Kernel3Ideal.Frame
public import proofs.«01_k».proof.Proof.Gen.Kernel4.Frame
public import proofs.«01_k».proof.Proof.Gen.Kernel4Ideal.Frame
public import proofs.«01_k».proof.Proof.Gen.Kernel5.Frame
public import proofs.«01_k».proof.Proof.Gen.Kernel5Ideal.Frame
public import proofs.«01_k».proof.Proof.Gen.KernelIdeal.Value
public import proofs.«01_k».proof.Proof.Gen.Kernel2Ideal.Value
public import proofs.«01_k».proof.Proof.Gen.Kernel3Ideal.Value
public import proofs.«01_k».proof.Proof.Gen.Kernel4Ideal.Value
public import proofs.«01_k».proof.Proof.Gen.Kernel5Ideal.Value
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.AttnClaim
public import proofs.«01_k».proof.Proof.FfnClaim
public import proofs.«01_k».proof.Proof.OutClaim
public import proofs.«01_k».proof.Proof.InClaim
public import proofs.«01_k».proof.Proof.DilClaim
public import Idealize.ShloMosaic.Lib.Claim
public import Idealize.ShloMosaic.Adequacy
public import Idealize.ShloMosaic.Init

@[expose] public section

noncomputable section

namespace Cert.Proof

open Idealize.ShloMosaic Idealize.SL.Sem

/-- All claims. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Attn.attnPreFacts, Cert.Ffn.preFacts, Cert.Ffn.outPreFacts, Cert.Dil.dilPreFacts,
    fun m ρ _ => Cert.Kernel.Gen.frame m ρ, fun m ρ _ => Cert.KernelIdeal.Gen.frame m ρ, fun m ρ _ => Cert.KernelIdeal.Gen.frame m ρ,
    fun m ρ _ => (θ_run Cert.ReferenceIdeal.defs _ _).mono (fun r h => ⟨fun c => (h c).2, sem_eq_zero_of_no_sems (by decide) r.2⟩)
      (Cert.ReferenceIdeal.Value.run (F := Ideal) m ρ),
    fun m ρ _ => (θ_run Cert.ReferenceIdeal.defs _ _).mono (fun r h => ⟨fun c => (h c).2, sem_eq_zero_of_no_sems (by decide) r.2⟩)
      (Cert.ReferenceIdeal.Value.run (F := Ideal) m ρ),
    fun m ρ _ => Cert.Kernel2.Gen.frame m ρ, fun m ρ _ => Cert.Kernel2Ideal.Gen.frame m ρ, fun m ρ _ => Cert.Kernel2Ideal.Gen.frame m ρ,
    fun m ρ _ => (θ_run Cert.Reference2Ideal.defs _ _).mono (fun r h => ⟨fun c => (h c).2, sem_eq_zero_of_no_sems (by decide) r.2⟩)
      (Cert.Reference2Ideal.Value.run (F := Ideal) m ρ), fun m ρ _ => (θ_run Cert.Reference2Ideal.defs _ _).mono (fun r h => ⟨fun c => (h c).2, sem_eq_zero_of_no_sems (by decide) r.2⟩)
      (Cert.Reference2Ideal.Value.run (F := Ideal) m ρ),
    fun m ρ _ => Cert.Kernel3.Gen.frame m ρ, fun m ρ _ => Cert.Kernel3Ideal.Gen.frame m ρ, fun m ρ _ => Cert.Kernel3Ideal.Gen.frame m ρ,
    fun m ρ _ => (θ_run Cert.Reference3Ideal.defs _ _).mono (fun r h => ⟨fun c => (h c).2, sem_eq_zero_of_no_sems (by decide) r.2⟩)
      (Cert.Reference3Ideal.Value.run (F := Ideal) m ρ), fun m ρ _ => (θ_run Cert.Reference3Ideal.defs _ _).mono (fun r h => ⟨fun c => (h c).2, sem_eq_zero_of_no_sems (by decide) r.2⟩)
      (Cert.Reference3Ideal.Value.run (F := Ideal) m ρ),
    fun m ρ _ => Cert.Kernel4.Gen.frame m ρ, fun m ρ _ => Cert.Kernel4Ideal.Gen.frame m ρ,
    fun m ρ _ => (θ_run Cert.Reference4Ideal.defs _ _).mono (fun r h => ⟨fun c => (h c).2, sem_eq_zero_of_no_sems (by decide) r.2⟩)
      (Cert.Reference4Ideal.Value.run (F := Ideal) m ρ),
    fun m ρ _ => Cert.Kernel5.Gen.frame m ρ, fun m ρ _ => Cert.Kernel5Ideal.Gen.frame m ρ, fun m ρ _ => Cert.Kernel5Ideal.Gen.frame m ρ,
    fun m ρ _ => (θ_run Cert.Reference5Ideal.defs _ _).mono (fun r h => ⟨fun c => (h c).2, sem_eq_zero_of_no_sems (by decide) r.2⟩)
      (Cert.Reference5Ideal.Value.run (F := Ideal) m ρ), fun m ρ _ => (θ_run Cert.Reference5Ideal.defs _ _).mono (fun r h => ⟨fun c => (h c).2, sem_eq_zero_of_no_sems (by decide) r.2⟩)
      (Cert.Reference5Ideal.Value.run (F := Ideal) m ρ),
    trivial, Cert.Attn.attn_algebraic, trivial, Cert.Ffn.algebraic, trivial, Cert.Ffn.out_algebraic, Cert.In.in_preserves, Cert.In.in_algebraic, trivial, Cert.Dil.dil_algebraic⟩

end Cert.Proof

end
